-- ==== Defs.lean ====
def Pre_Kernel [hPre_experts_in_range : Cert.Pre_experts_in_range.Facts] (m : (ℓ : Loc Cert.Kernel.nD Cert.Kernel.τ Cert.Kernel.sig) → Buf (Elt Bits) ℓ) : Prop :=
  ∀ c : Dev Cert.Kernel.nD,
    (Cert.Pre_experts_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_experts_in_range : Cert.Pre_experts_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_experts_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_experts_in_range [hPre_experts_in_range : Cert.Pre_experts_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite [hPre_finite : Cert.Pre_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite [hPre_finite : Cert.Pre_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_cond [hPre_finite_cond : Cert.Pre_finite_cond.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_cond.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_cond [hPre_finite_cond : Cert.Pre_finite_cond.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_cond.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))) = (fun _ => 1#1)

def quiescent_Kernel [hKernel : Cert.Kernel.Facts] [hPre_experts_in_range : Cert.Pre_experts_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_experts_in_range : Cert.Pre_experts_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_experts_in_range [hReferenceIdeal : Cert.ReferenceIdeal.Facts] [hPre_experts_in_range : Cert.Pre_experts_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_experts_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Kernel5Ideal_pre_finite [hKernel5Ideal : Cert.Kernel5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Reference5Ideal_pre_finite [hReference5Ideal : Cert.Reference5Ideal.Facts] [hPre_finite : Cert.Pre_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_finite_cond [hKernel6Ideal : Cert.Kernel6Ideal.Facts] [hPre_finite_cond : Cert.Pre_finite_cond.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_cond m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_finite_cond [hReference6Ideal : Cert.Reference6Ideal.Facts] [hPre_finite_cond : Cert.Pre_finite_cond.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_cond m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_experts_in_range : Cert.Pre_experts_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)) (v2 : (c : Dev Cert.Kernel2Ideal.nD) → Buf (Elt Ideal) ((c.tc : Thread Cert.Kernel2Ideal.nD Cert.Kernel2Ideal.τ).loc Cert.Kernel2Ideal.main_v5_2)) (v3 : (c : Dev Cert.Kernel2Ideal.nD) → Buf (Elt Ideal) ((c.tc : Thread Cert.Kernel2Ideal.nD Cert.Kernel2Ideal.τ).loc Cert.Kernel2Ideal.main_v5_3)) (v4 : (c : Dev Cert.Kernel2Ideal.nD) → Buf (Elt Ideal) ((c.tc : Thread Cert.Kernel2Ideal.nD Cert.Kernel2Ideal.τ).loc Cert.Kernel2Ideal.main_v5_4)) (v5 : (c : Dev Cert.Kernel2Ideal.nD) → Buf (Elt Ideal) ((c.tc : Thread Cert.Kernel2Ideal.nD Cert.Kernel2Ideal.τ).loc Cert.Kernel2Ideal.main_v5_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_v5_2) = v2 c
          ∧ r.2.mem ((c.tc : Thread Cert.Kernel2Ideal.nD Cert.Kernel2Ideal.τ).loc Cert.Kernel2Ideal.main_v5_3) = v3 c
          ∧ r.2.mem ((c.tc : Thread Cert.Kernel2Ideal.nD Cert.Kernel2Ideal.τ).loc Cert.Kernel2Ideal.main_v5_4) = v4 c
          ∧ r.2.mem ((c.tc : Thread Cert.Kernel2Ideal.nD Cert.Kernel2Ideal.τ).loc Cert.Kernel2Ideal.main_v5_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_v45) = v1 c
          ∧ r.2.mem ((c.tc : Thread Cert.Reference2Ideal.nD Cert.Reference2Ideal.τ).loc Cert.Reference2Ideal.main_v43) = v2 c
          ∧ r.2.mem ((c.tc : Thread Cert.Reference2Ideal.nD Cert.Reference2Ideal.τ).loc Cert.Reference2Ideal.main_v46) = v3 c
          ∧ r.2.mem ((c.tc : Thread Cert.Reference2Ideal.nD Cert.Reference2Ideal.τ).loc Cert.Reference2Ideal.main_v47) = v4 c
          ∧ r.2.mem ((c.tc : Thread Cert.Reference2Ideal.nD Cert.Reference2Ideal.τ).loc Cert.Reference2Ideal.main_v48) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v134) = v0 c
          ∧ r.2.mem ((c.tc : Thread Cert.Reference3Ideal.nD Cert.Reference3Ideal.τ).loc Cert.Reference3Ideal.main_v137) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_v78) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal_pre_finite [hKernel5Ideal : Cert.Kernel5Ideal.Facts] [hReference5Ideal : Cert.Reference5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v4_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v80) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def preserves_Kernel6_Kernel6Ideal : Prop :=
  True

def algebraic_Kernel6Ideal_Reference6Ideal_pre_finite_cond [hKernel6Ideal : Cert.Kernel6Ideal.Facts] [hReference6Ideal : Cert.Reference6Ideal.Facts] [hPre_finite_cond : Cert.Pre_finite_cond.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_cond m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_experts_in_range : Cert.Pre_experts_in_range.Facts) (hPre_finite : Cert.Pre_finite.Facts) (hPre_finite_cond : Cert.Pre_finite_cond.Facts),
    quiescent_Kernel (hKernel := hKernel) (hPre_experts_in_range := hPre_experts_in_range)
    ∧ quiescent_KernelIdeal (hKernelIdeal := hKernelIdeal) (hPre_experts_in_range := hPre_experts_in_range)
    ∧ quiescent_ReferenceIdeal (hReferenceIdeal := hReferenceIdeal)
    ∧ quiescent_ReferenceIdeal_pre_experts_in_range (hReferenceIdeal := hReferenceIdeal) (hPre_experts_in_range := hPre_experts_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite (hKernel5Ideal := hKernel5Ideal) (hPre_finite := hPre_finite)
    ∧ quiescent_Reference5Ideal (hReference5Ideal := hReference5Ideal)
    ∧ quiescent_Reference5Ideal_pre_finite (hReference5Ideal := hReference5Ideal) (hPre_finite := hPre_finite)
    ∧ quiescent_Kernel6 (hKernel6 := hKernel6)
    ∧ quiescent_Kernel6Ideal (hKernel6Ideal := hKernel6Ideal)
    ∧ quiescent_Kernel6Ideal_pre_finite_cond (hKernel6Ideal := hKernel6Ideal) (hPre_finite_cond := hPre_finite_cond)
    ∧ quiescent_Reference6Ideal (hReference6Ideal := hReference6Ideal)
    ∧ quiescent_Reference6Ideal_pre_finite_cond (hReference6Ideal := hReference6Ideal) (hPre_finite_cond := hPre_finite_cond)
    ∧ preserves_Kernel_KernelIdeal
    ∧ algebraic_KernelIdeal_ReferenceIdeal (hKernelIdeal := hKernelIdeal) (hReferenceIdeal := hReferenceIdeal) (hPre_experts_in_range := hPre_experts_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite (hKernel5Ideal := hKernel5Ideal) (hReference5Ideal := hReference5Ideal) (hPre_finite := hPre_finite)
    ∧ preserves_Kernel6_Kernel6Ideal
    ∧ algebraic_Kernel6Ideal_Reference6Ideal_pre_finite_cond (hKernel6Ideal := hKernel6Ideal) (hReference6Ideal := hReference6Ideal) (hPre_finite_cond := hPre_finite_cond)
-- ==== Pre_experts_in_range.lean ====
abbrev S704 : Shape := ⟨1, ![704]⟩
abbrev S1 : Shape := ⟨1, ![1]⟩
abbrev S180224x1024 : Shape := ⟨2, ![180224, 1024]⟩
abbrev S2x64x1024x256 : Shape := ⟨4, ![2, 64, 1024, 256]⟩
abbrev S2x64x256x1024 : Shape := ⟨4, ![2, 64, 256, 1024]⟩
abbrev S_ : Shape := ⟨0, ![]⟩

class Facts : Prop where
  bcast_S_S704 : S_.BroadcastsInDim S704 (![] : Fin 0 → Fin S704.rank)
  reducesTo_S704_S_d0 : S704.ReducesTo [0] S_
  h_S_ : 0 < S_.numel

variable [Facts]

def fn {F : FTy → Type} [FloatOps F] (main_arg0 : IVec S704 32) (main_arg1 : IVec S1 32) (main_arg2 : FVec F S180224x1024 .f32) (main_arg3 : FVec F S2x64x1024x256 .f32) (main_arg4 : FVec F S2x64x1024x256 .f32) (main_arg5 : FVec F S2x64x256x1024 .f32) : IVec S_ 1 :=
  let main_c : IVec S_ 32 := constantI S_ 32 0#32
  let main_v0 : IVec S704 32 := broadcastInDim S704 ![] bcast_S_S704 main_c
  let main_v1 : IVec S704 1 := cmpi .sge main_arg0 main_v0
  let main_c_0 : IVec S_ 32 := constantI S_ 32 64#32
  let main_v2 : IVec S704 32 := broadcastInDim S704 ![] bcast_S_S704 main_c_0
  let main_v3 : IVec S704 1 := cmpi .slt main_arg0 main_v2
  let main_v4 : IVec S704 1 := andi main_v1 main_v3
  let main_c_1 : IVec S_ 1 := constantI S_ 1 1#1
  let main_v5 : IVec S_ 1 := (fun x v => Host.reduce IntOp.andi x v reducesTo_S704_S_d0 h_S_) main_v4 main_c_1
  main_v5
-- ==== Pre_finite.lean ====
abbrev S20480x256 : Shape := ⟨2, ![20480, 256]⟩
abbrev S20480x1024 : Shape := ⟨2, ![20480, 1024]⟩
abbrev S8x6x1024 : Shape := ⟨3, ![8, 6, 1024]⟩
abbrev S1024x1024 : Shape := ⟨2, ![1024, 1024]⟩
abbrev S1024 : Shape := ⟨1, ![1024]⟩
abbrev S1024x64 : Shape := ⟨2, ![1024, 64]⟩
abbrev S_ : Shape := ⟨0, ![]⟩

class Facts : Prop where
  bcast_S_S20480x256 : S_.BroadcastsInDim S20480x256 (![] : Fin 0 → Fin S20480x256.rank)
  reducesTo_S20480x256_S_d0_1 : S20480x256.ReducesTo [0, 1] S_
  h_S_ : 0 < S_.numel
  bcast_S_S20480x1024 : S_.BroadcastsInDim S20480x1024 (![] : Fin 0 → Fin S20480x1024.rank)
  reducesTo_S20480x1024_S_d0_1 : S20480x1024.ReducesTo [0, 1] S_
  bcast_S_S8x6x1024 : S_.BroadcastsInDim S8x6x1024 (![] : Fin 0 → Fin S8x6x1024.rank)
  reducesTo_S8x6x1024_S_d0_1_2 : S8x6x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x64 : S_.BroadcastsInDim S1024x64 (![] : Fin 0 → Fin S1024x64.rank)
  reducesTo_S1024x64_S_d0_1 : S1024x64.ReducesTo [0, 1] S_

variable [Facts]

def fn_part2 {F : FTy → Type} [FloatOps F] (main_arg7 : FVec F S1024 .f32) (main_arg8 : FVec F S1024 .f32) (main_arg9 : FVec F S1024x64 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x64 .f32 := Host.absf main_arg9
  let main_cst_16 : FVec F S_ .f32 := constant S_ .f32 0x7F800000#32
  let main_v45 : FVec F S1024x64 .f32 := broadcastInDim S1024x64 ![] bcast_S_S1024x64 main_cst_16
  let main_v46 : IVec S1024x64 1 := cmpf .olt main_v44 main_v45
  let main_c_17 : IVec S_ 1 := constantI S_ 1 1#1
  let main_v47 : IVec S_ 1 := (fun x v => Host.reduce IntOp.andi x v reducesTo_S1024x64_S_d0_1 h_S_) main_v46 main_c_17
  let main_v48 : IVec S_ 1 := andi main_v43 main_v47
  main_v48

def fn_part1 {F : FTy → Type} [FloatOps F] (main_arg4 : FVec F S20480x1024 .f32) (main_arg5 : FVec F S8x6x1024 .f32) (main_arg6 : FVec F S1024x1024 .f32) (main_arg7 : FVec F S1024 .f32) (main_arg8 : FVec F S1024 .f32) (main_arg9 : FVec F S1024x64 .f32) (main_v13 : IVec S_ 1) (main_v16 : IVec S20480x256 1) : IVec S_ 1 :=
  let main_c_5 : IVec S_ 1 := constantI S_ 1 1#1
  let main_v17 : IVec S_ 1 := (fun x v => Host.reduce IntOp.andi x v reducesTo_S20480x256_S_d0_1 h_S_) main_v16 main_c_5
  let main_v18 : IVec S_ 1 := andi main_v13 main_v17
  let main_v19 : FVec F S20480x1024 .f32 := Host.absf main_arg4
  let main_cst_6 : FVec F S_ .f32 := constant S_ .f32 0x7F800000#32
  let main_v20 : FVec F S20480x1024 .f32 := broadcastInDim S20480x1024 ![] bcast_S_S20480x1024 main_cst_6
  let main_v21 : IVec S20480x1024 1 := cmpf .olt main_v19 main_v20
  let main_c_7 : IVec S_ 1 := constantI S_ 1 1#1
  let main_v22 : IVec S_ 1 := (fun x v => Host.reduce IntOp.andi x v reducesTo_S20480x1024_S_d0_1 h_S_) main_v21 main_c_7
  let main_v23 : FVec F S8x6x1024 .f32 := Host.absf main_arg5
  let main_cst_8 : FVec F S_ .f32 := constant S_ .f32 0x7F800000#32
  let main_v24 : FVec F S8x6x1024 .f32 := broadcastInDim S8x6x1024 ![] bcast_S_S8x6x1024 main_cst_8
  let main_v25 : IVec S8x6x1024 1 := cmpf .olt main_v23 main_v24
  let main_c_9 : IVec S_ 1 := constantI S_ 1 1#1
  let main_v26 : IVec S_ 1 := (fun x v => Host.reduce IntOp.andi x v reducesTo_S8x6x1024_S_d0_1_2 h_S_) main_v25 main_c_9
  let main_v27 : IVec S_ 1 := andi main_v22 main_v26
  let main_v28 : FVec F S1024x1024 .f32 := Host.absf main_arg6
  let main_cst_10 : FVec F S_ .f32 := constant S_ .f32 0x7F800000#32
  let main_v29 : FVec F S1024x1024 .f32 := broadcastInDim S1024x1024 ![] bcast_S_S1024x1024 main_cst_10
  let main_v30 : IVec S1024x1024 1 := cmpf .olt main_v28 main_v29
  let main_c_11 : IVec S_ 1 := constantI S_ 1 1#1
  let main_v31 : IVec S_ 1 := (fun x v => Host.reduce IntOp.andi x v reducesTo_S1024x1024_S_d0_1 h_S_) main_v30 main_c_11
  let main_v32 : IVec S_ 1 := andi main_v27 main_v31
  let main_v33 : IVec S_ 1 := andi main_v18 main_v32
  fn_part2 (F := F) main_arg7 main_arg8 main_arg9 main_v33

def fn {F : FTy → Type} [FloatOps F] (main_arg0 : FVec F S20480x256 .f32) (main_arg1 : FVec F S20480x256 .f32) (main_arg2 : FVec F S20480x256 .f32) (main_arg3 : FVec F S20480x256 .f32) (main_arg4 : FVec F S20480x1024 .f32) (main_arg5 : FVec F S8x6x1024 .f32) (main_arg6 : FVec F S1024x1024 .f32) (main_arg7 : FVec F S1024 .f32) (main_arg8 : FVec F S1024 .f32) (main_arg9 : FVec F S1024x64 .f32) : IVec S_ 1 :=
  let main_v0 : FVec F S20480x256 .f32 := Host.absf main_arg0
  let main_cst : FVec F S_ .f32 := constant S_ .f32 0x7F800000#32
  let main_v1 : FVec F S20480x256 .f32 := broadcastInDim S20480x256 ![] bcast_S_S20480x256 main_cst
  let main_v2 : IVec S20480x256 1 := cmpf .olt main_v0 main_v1
  let main_c : IVec S_ 1 := constantI S_ 1 1#1
  let main_v3 : IVec S_ 1 := (fun x v => Host.reduce IntOp.andi x v reducesTo_S20480x256_S_d0_1 h_S_) main_v2 main_c
  let main_v4 : FVec F S20480x256 .f32 := Host.absf main_arg1
  let main_cst_0 : FVec F S_ .f32 := constant S_ .f32 0x7F800000#32
  let main_v5 : FVec F S20480x256 .f32 := broadcastInDim S20480x256 ![] bcast_S_S20480x256 main_cst_0
  let main_v6 : IVec S20480x256 1 := cmpf .olt main_v4 main_v5
  let main_c_1 : IVec S_ 1 := constantI S_ 1 1#1
  let main_v7 : IVec S_ 1 := (fun x v => Host.reduce IntOp.andi x v reducesTo_S20480x256_S_d0_1 h_S_) main_v6 main_c_1
  let main_v8 : IVec S_ 1 := andi main_v3 main_v7
  let main_v9 : FVec F S20480x256 .f32 := Host.absf main_arg2
  let main_cst_2 : FVec F S_ .f32 := constant S_ .f32 0x7F800000#32
  let main_v10 : FVec F S20480x256 .f32 := broadcastInDim S20480x256 ![] bcast_S_S20480x256 main_cst_2
  let main_v11 : IVec S20480x256 1 := cmpf .olt main_v9 main_v10
  let main_c_3 : IVec S_ 1 := constantI S_ 1 1#1
  let main_v12 : IVec S_ 1 := (fun x v => Host.reduce IntOp.andi x v reducesTo_S20480x256_S_d0_1 h_S_) main_v11 main_c_3
  let main_v13 : IVec S_ 1 := andi main_v8 main_v12
  let main_v14 : FVec F S20480x256 .f32 := Host.absf main_arg3
  let main_cst_4 : FVec F S_ .f32 := constant S_ .f32 0x7F800000#32
  let main_v15 : FVec F S20480x256 .f32 := broadcastInDim S20480x256 ![] bcast_S_S20480x256 main_cst_4
  let main_v16 : IVec S20480x256 1 := cmpf .olt main_v14 main_v15
  fn_part1 (F := F) main_arg4 main_arg5 main_arg6 main_arg7 main_arg8 main_arg9 main_v13 main_v16
-- ==== Pre_finite_cond.lean ====
abbrev S1024 : Shape := ⟨1, ![1024]⟩
abbrev S4x1024 : Shape := ⟨2, ![4, 1024]⟩
abbrev S2x1024x6144 : Shape := ⟨3, ![2, 1024, 6144]⟩
abbrev S2x6144 : Shape := ⟨2, ![2, 6144]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S4x1024 : S_.BroadcastsInDim S4x1024 (![] : Fin 0 → Fin S4x1024.rank)
  reducesTo_S4x1024_S_d0_1 : S4x1024.ReducesTo [0, 1] S_
  bcast_S_S2x1024x6144 : S_.BroadcastsInDim S2x1024x6144 (![] : Fin 0 → Fin S2x1024x6144.rank)
  reducesTo_S2x1024x6144_S_d0_1_2 : S2x1024x6144.ReducesTo [0, 1, 2] S_

variable [Facts]

def fn {F : FTy → Type} [FloatOps F] (main_arg0 : FVec F S1024 .f32) (main_arg1 : FVec F S4x1024 .f32) (main_arg2 : FVec F S2x1024x6144 .f32) (main_arg3 : FVec F S2x6144 .f32) : IVec S_ 1 :=
  let main_v0 : FVec F S1024 .f32 := Host.absf main_arg0
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S4x1024 .f32 := Host.absf main_arg1
  let main_cst_0 : FVec F S_ .f32 := constant S_ .f32 0x7F800000#32
  let main_v5 : FVec F S4x1024 .f32 := broadcastInDim S4x1024 ![] bcast_S_S4x1024 main_cst_0
  let main_v6 : IVec S4x1024 1 := cmpf .olt main_v4 main_v5
  let main_c_1 : IVec S_ 1 := constantI S_ 1 1#1
  let main_v7 : IVec S_ 1 := (fun x v => Host.reduce IntOp.andi x v reducesTo_S4x1024_S_d0_1 h_S_) main_v6 main_c_1
  let main_v8 : IVec S_ 1 := andi main_v3 main_v7
  let main_v9 : FVec F S2x1024x6144 .f32 := Host.absf main_arg2
  let main_cst_2 : FVec F S_ .f32 := constant S_ .f32 0x7F800000#32
  let main_v10 : FVec F S2x1024x6144 .f32 := broadcastInDim S2x1024x6144 ![] bcast_S_S2x1024x6144 main_cst_2
  let main_v11 : IVec S2x1024x6144 1 := cmpf .olt main_v9 main_v10
  let main_c_3 : IVec S_ 1 := constantI S_ 1 1#1
  let main_v12 : IVec S_ 1 := (fun x v => Host.reduce IntOp.andi x v reducesTo_S2x1024x6144_S_d0_1_2 h_S_) main_v11 main_c_3
  let main_v13 : IVec S_ 1 := andi main_v8 main_v12
  main_v13
-- ==== Kernel.lean ====
abbrev S704 : Shape := ⟨1, ![704]⟩
abbrev S1 : Shape := ⟨1, ![1]⟩
abbrev S180224x1024 : Shape := ⟨2, ![180224, 1024]⟩
abbrev S2x64x1024x256 : Shape := ⟨4, ![2, 64, 1024, 256]⟩
abbrev S2x64x256x1024 : Shape := ⟨4, ![2, 64, 256, 1024]⟩
abbrev S256x1024 : Shape := ⟨2, ![256, 1024]⟩
abbrev S1x1x1024x256 : Shape := ⟨4, ![1, 1, 1024, 256]⟩
abbrev S1x1x256x1024 : Shape := ⟨4, ![1, 1, 256, 1024]⟩
abbrev S1024x512 : Shape := ⟨2, ![1024, 512]⟩
abbrev S1024x256 : Shape := ⟨2, ![1024, 256]⟩
abbrev S256x512 : Shape := ⟨2, ![256, 512]⟩
abbrev S256x256 : Shape := ⟨2, ![256, 256]⟩

abbrev nBuf : Space → Nat
  | .hbm => 5
  | .vmem => 12
  | .smem => 2
  | _ => 0

abbrev bufTy : (tb : Table) → Fin (tcTables nBuf tb) → BufTy
  | .hbm, ⟨0, _⟩ => ⟨S180224x1024, .f32⟩
  | .hbm, ⟨1, _⟩ => ⟨S2x64x1024x256, .f32⟩
  | .hbm, ⟨2, _⟩ => ⟨S2x64x1024x256, .f32⟩
  | .hbm, ⟨3, _⟩ => ⟨S2x64x256x1024, .f32⟩
  | .hbm, ⟨4, _⟩ => ⟨S180224x1024, .f32⟩
  | .local _ .vmem, ⟨0, _⟩ => ⟨S256x1024, .f32⟩
  | .local _ .vmem, ⟨1, _⟩ => ⟨S256x1024, .f32⟩
  | .local _ .vmem, ⟨2, _⟩ => ⟨S1x1x1024x256, .f32⟩
  | .local _ .vmem, ⟨3, _⟩ => ⟨S1x1x1024x256, .f32⟩
  | .local _ .vmem, ⟨4, _⟩ => ⟨S1x1x1024x256, .f32⟩
  | .local _ .vmem, ⟨5, _⟩ => ⟨S1x1x1024x256, .f32⟩
  | .local _ .vmem, ⟨6, _⟩ => ⟨S1x1x256x1024, .f32⟩
  | .local _ .vmem, ⟨7, _⟩ => ⟨S1x1x256x1024, .f32⟩
  | .local _ .vmem, ⟨8, _⟩ => ⟨S256x1024, .f32⟩
  | .local _ .vmem, ⟨9, _⟩ => ⟨S256x1024, .f32⟩
  | .local _ .vmem, ⟨10, _⟩ => ⟨S1024x512, .bf16⟩
  | .local _ .vmem, ⟨11, _⟩ => ⟨S256x1024, .bf16⟩
  | .local _ .smem, ⟨0, _⟩ => ⟨S704, .i32⟩
  | .local _ .smem, ⟨1, _⟩ => ⟨S1, .i32⟩
  | _, _ => ⟨S180224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![704], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v8 : BitVec 32 := Scalar.subi arg0 c1_i32
  let c0_i32_2 : BitVec 32 := 0#32
  let v9 : BitVec 32 := Scalar.maxsi v8 c0_i32_2
  let v10 : Index := Scalar.indexCast v9
  ![v10.toNat]
def k0_off3 (i : grid0.Coords) : Fin 1 → Nat :=
  let arg0 : BitVec 32 := BitVec.ofNat 32 (i 0).val
  let v13 : Index := Scalar.indexCast arg0
  ![v13.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S704.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S704) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S704.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S704) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S704.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S704) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S704 : Shape := ⟨1, ![704]⟩
abbrev S1 : Shape := ⟨1, ![1]⟩
abbrev S180224x1024 : Shape := ⟨2, ![180224, 1024]⟩
abbrev S2x64x1024x256 : Shape := ⟨4, ![2, 64, 1024, 256]⟩
abbrev S2x64x256x1024 : Shape := ⟨4, ![2, 64, 256, 1024]⟩
abbrev S704x256x1024 : Shape := ⟨3, ![704, 256, 1024]⟩
abbrev S1x64x1024x256 : Shape := ⟨4, ![1, 64, 1024, 256]⟩
abbrev S64x1024x256 : Shape := ⟨3, ![64, 1024, 256]⟩
abbrev S_ : Shape := ⟨0, ![]⟩
abbrev S704x1 : Shape := ⟨2, ![704, 1]⟩
abbrev S704x1024x256 : Shape := ⟨3, ![704, 1024, 256]⟩
abbrev S1x64x256x1024 : Shape := ⟨4, ![1, 64, 256, 1024]⟩
abbrev S64x256x1024 : Shape := ⟨3, ![64, 256, 1024]⟩
abbrev S704x256x256 : Shape := ⟨3, ![704, 256, 256]⟩
abbrev S704x1x1 : Shape := ⟨3, ![704, 1, 1]⟩

abbrev nBuf : Space → Nat
  | .hbm => 64
  | .vmem => 0
  | .smem => 0
  | _ => 0

abbrev bufTy : (tb : Table) → Fin (tcTables nBuf tb) → BufTy
  | .hbm, ⟨0, _⟩ => ⟨S704, .i32⟩
  | .hbm, ⟨1, _⟩ => ⟨S1, .i32⟩
  | .hbm, ⟨2, _⟩ => ⟨S180224x1024, .f32⟩
  | .hbm, ⟨3, _⟩ => ⟨S2x64x1024x256, .f32⟩
  | .hbm, ⟨4, _⟩ => ⟨S2x64x1024x256, .f32⟩
  | .hbm, ⟨5, _⟩ => ⟨S2x64x256x1024, .f32⟩
  | .hbm, ⟨6, _⟩ => ⟨S704x256x1024, .f32⟩
  | .hbm, ⟨7, _⟩ => ⟨S1x64x1024x256, .f32⟩
  | .hbm, ⟨8, _⟩ => ⟨S64x1024x256, .f32⟩
  | .hbm, ⟨9, _⟩ => ⟨S_, .i32⟩
  | .hbm, ⟨10, _⟩ => ⟨S704, .i32⟩
  | .hbm, ⟨11, _⟩ => ⟨S704, .i1⟩
  | .hbm, ⟨12, _⟩ => ⟨S_, .i32⟩
  | .hbm, ⟨13, _⟩ => ⟨S704, .i32⟩
  | .hbm, ⟨14, _⟩ => ⟨S704, .i32⟩
  | .hbm, ⟨15, _⟩ => ⟨S704, .i32⟩
  | .hbm, ⟨16, _⟩ => ⟨S704x1, .i32⟩
  | .hbm, ⟨17, _⟩ => ⟨S704x1024x256, .f32⟩
  | .hbm, ⟨18, _⟩ => ⟨S1x64x1024x256, .f32⟩
  | .hbm, ⟨19, _⟩ => ⟨S64x1024x256, .f32⟩
  | .hbm, ⟨20, _⟩ => ⟨S_, .i32⟩
  | .hbm, ⟨21, _⟩ => ⟨S704, .i32⟩
  | .hbm, ⟨22, _⟩ => ⟨S704, .i1⟩
  | .hbm, ⟨23, _⟩ => ⟨S_, .i32⟩
  | .hbm, ⟨24, _⟩ => ⟨S704, .i32⟩
  | .hbm, ⟨25, _⟩ => ⟨S704, .i32⟩
  | .hbm, ⟨26, _⟩ => ⟨S704, .i32⟩
  | .hbm, ⟨27, _⟩ => ⟨S704x1, .i32⟩
  | .hbm, ⟨28, _⟩ => ⟨S704x1024x256, .f32⟩
  | .hbm, ⟨29, _⟩ => ⟨S1x64x256x1024, .f32⟩
  | .hbm, ⟨30, _⟩ => ⟨S64x256x1024, .f32⟩
  | .hbm, ⟨31, _⟩ => ⟨S_, .i32⟩
  | .hbm, ⟨32, _⟩ => ⟨S704, .i32⟩
  | .hbm, ⟨33, _⟩ => ⟨S704, .i1⟩
  | .hbm, ⟨34, _⟩ => ⟨S_, .i32⟩
  | .hbm, ⟨35, _⟩ => ⟨S704, .i32⟩
  | .hbm, ⟨36, _⟩ => ⟨S704, .i32⟩
  | .hbm, ⟨37, _⟩ => ⟨S704, .i32⟩
  | .hbm, ⟨38, _⟩ => ⟨S704x1, .i32⟩
  | .hbm, ⟨39, _⟩ => ⟨S704x256x1024, .f32⟩
  | .hbm, ⟨40, _⟩ => ⟨S704x256x256, .f32⟩
  | .hbm, ⟨41, _⟩ => ⟨S704x256x256, .f32⟩
  | .hbm, ⟨42, _⟩ => ⟨S704x256x256, .f32⟩
  | .hbm, ⟨43, _⟩ => ⟨S704x256x256, .f32⟩
  | .hbm, ⟨44, _⟩ => ⟨S_, .f32⟩
  | .hbm, ⟨45, _⟩ => ⟨S704x256x256, .f32⟩
  | .hbm, ⟨46, _⟩ => ⟨S704x256x256, .f32⟩
  | .hbm, ⟨47, _⟩ => ⟨S_, .f32⟩
  | .hbm, ⟨48, _⟩ => ⟨S704x256x256, .f32⟩
  | .hbm, ⟨49, _⟩ => ⟨S704x256x256, .f32⟩
  | .hbm, ⟨50, _⟩ => ⟨S704x256x256, .f32⟩
  | .hbm, ⟨51, _⟩ => ⟨S704x256x256, .f32⟩
  | .hbm, ⟨52, _⟩ => ⟨S704x256x1024, .f32⟩
  | .hbm, ⟨53, _⟩ => ⟨S704, .i32⟩
  | .hbm, ⟨54, _⟩ => ⟨S_, .i32⟩
  | .hbm, ⟨55, _⟩ => ⟨S704, .i32⟩
  | .hbm, ⟨56, _⟩ => ⟨S704, .i1⟩
  | .hbm, ⟨57, _⟩ => ⟨S704x1x1, .i1⟩
  | .hbm, ⟨58, _⟩ => ⟨S_, .f32⟩
  | .hbm, ⟨59, _⟩ => ⟨S_, .f32⟩
  | .hbm, ⟨60, _⟩ => ⟨S704x256x1024, .i1⟩
  | .hbm, ⟨61, _⟩ => ⟨S704x256x1024, .f32⟩
  | .hbm, ⟨62, _⟩ => ⟨S704x256x1024, .f32⟩
  | .hbm, ⟨63, _⟩ => ⟨S180224x1024, .f32⟩
  | _, _ => ⟨S704, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v38 : Ref sig .tc := ⟨.hbm, 62, rfl⟩
abbrev main_v39 : Ref sig .tc := ⟨.hbm, 63, rfl⟩

abbrev nD : Nat := 1
abbrev τ : Topo := Topo.v7x

variable {F : FTy → Type} [FloatOps F]
-- ==== Kernel2.lean ====
abbrev S20480x1024 : Shape := ⟨2, ![20480, 1024]⟩
abbrev S8x6x1024 : Shape := ⟨3, ![8, 6, 1024]⟩
abbrev S1024x2592 : Shape := ⟨2, ![1024, 2592]⟩
abbrev S1024x1056 : Shape := ⟨2, ![1024, 1056]⟩
abbrev S_ : Shape := ⟨0, ![]⟩
abbrev S1024x96 : Shape := ⟨2, ![1024, 96]⟩
abbrev S1024x1536 : Shape := ⟨2, ![1024, 1536]⟩
abbrev S1024x2688 : Shape := ⟨2, ![1024, 2688]⟩
abbrev S20480x768 : Shape := ⟨2, ![20480, 768]⟩
abbrev S20480x256 : Shape := ⟨2, ![20480, 256]⟩
abbrev S20480x128 : Shape := ⟨2, ![20480, 128]⟩
abbrev S20480x512 : Shape := ⟨2, ![20480, 512]⟩
abbrev S256x1024 : Shape := ⟨2, ![256, 1024]⟩
abbrev S1x6x1024 : Shape := ⟨3, ![1, 6, 1024]⟩
abbrev S256x768 : Shape := ⟨2, ![256, 768]⟩
abbrev S256x256 : Shape := ⟨2, ![256, 256]⟩
abbrev S256x128 : Shape := ⟨2, ![256, 128]⟩
abbrev S256x512 : Shape := ⟨2, ![256, 512]⟩
abbrev S1x1x1024 : Shape := ⟨3, ![1, 1, 1024]⟩
abbrev S1x1024 : Shape := ⟨2, ![1, 1024]⟩
abbrev S256 : Shape := ⟨1, ![256]⟩
abbrev S256x1 : Shape := ⟨2, ![256, 1]⟩
abbrev S256x2688 : Shape := ⟨2, ![256, 2688]⟩

abbrev nBuf : Space → Nat
  | .hbm => 15
  | .vmem => 17
  | .smem => 0
  | _ => 0

abbrev bufTy : (tb : Table) → Fin (tcTables nBuf tb) → BufTy
  | .hbm, ⟨0, _⟩ => ⟨S20480x1024, .f32⟩
  | .hbm, ⟨1, _⟩ => ⟨S8x6x1024, .f32⟩
  | .hbm, ⟨2, _⟩ => ⟨S1024x2592, .f32⟩
  | .hbm, ⟨3, _⟩ => ⟨S1024x1056, .f32⟩
  | .hbm, ⟨4, _⟩ => ⟨S_, .f32⟩
  | .hbm, ⟨5, _⟩ => ⟨S1024x96, .f32⟩
  | .hbm, ⟨6, _⟩ => ⟨S1024x1536, .f32⟩
  | .hbm, ⟨7, _⟩ => ⟨S1024x2688, .f32⟩
  | .hbm, ⟨8, _⟩ => ⟨S1024x2688, .bf16⟩
  | .hbm, ⟨9, _⟩ => ⟨S20480x768, .f32⟩
  | .hbm, ⟨10, _⟩ => ⟨S20480x256, .f32⟩
  | .hbm, ⟨11, _⟩ => ⟨S20480x128, .f32⟩
  | .hbm, ⟨12, _⟩ => ⟨S20480x512, .f32⟩
  | .hbm, ⟨13, _⟩ => ⟨S20480x768, .f32⟩
  | .hbm, ⟨14, _⟩ => ⟨S20480x256, .f32⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x2688, .bf16⟩
  | .local _ .vmem, ⟨5, _⟩ => ⟨S256x768, .f32⟩
  | .local _ .vmem, ⟨6, _⟩ => ⟨S256x768, .f32⟩
  | .local _ .vmem, ⟨7, _⟩ => ⟨S256x256, .f32⟩
  | .local _ .vmem, ⟨8, _⟩ => ⟨S256x256, .f32⟩
  | .local _ .vmem, ⟨9, _⟩ => ⟨S256x128, .f32⟩
  | .local _ .vmem, ⟨10, _⟩ => ⟨S256x128, .f32⟩
  | .local _ .vmem, ⟨11, _⟩ => ⟨S256x512, .f32⟩
  | .local _ .vmem, ⟨12, _⟩ => ⟨S256x512, .f32⟩
  | .local _ .vmem, ⟨13, _⟩ => ⟨S256x768, .f32⟩
  | .local _ .vmem, ⟨14, _⟩ => ⟨S256x768, .f32⟩
  | .local _ .vmem, ⟨15, _⟩ => ⟨S256x256, .f32⟩
  | .local _ .vmem, ⟨16, _⟩ => ⟨S256x256, .f32⟩
  | _, _ => ⟨S20480x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev main_v5_4 : Ref sig .tc := ⟨.hbm, 13, rfl⟩
abbrev main_v5_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c16_i32_1 : BitVec 32 := 16#32
  let v2 : BitVec 32 := Scalar.divsi v1 c16_i32_1
  let c0_i32 : BitVec 32 := 0#32
  let v3 : BitVec 1 := Scalar.cmpi .sgt v1 c0_i32
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c16_i32_1 c0_i32_3
  let v9 : BitVec 32 := Scalar.extui v8
  let c0_i32_4 : BitVec 32 := 0#32
  let v10 : BitVec 1 := Scalar.cmpi .slt c16_i32_1 c0_i32_4
  let v11 : BitVec 32 := Scalar.extui v10
  let v12 : BitVec 32 := Scalar.subi v9 v11
  let v13 : BitVec 1 := Scalar.cmpi .ne v7 v12
  let v14 : BitVec 32 := Scalar.remsi v1 c16_i32_1
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c1_i32_6 : BitVec 32 := 1#32
  let v19 : BitVec 32 := Scalar.addi c1_i32_6 v18
  let c0_i32_7 : BitVec 32 := 0#32
  let v20 : BitVec 32 := Scalar.select v0 c0_i32_7 v19
  let c0_i32_8 : BitVec 32 := 0#32
  let c0_i32_9 : BitVec 32 := 0#32
  let c0_i32_10 : BitVec 32 := 0#32
  ![v20.toNat, c0_i32_8.toNat, c0_i32_9.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S20480x1024 : Shape := ⟨2, ![20480, 1024]⟩
abbrev S8x6x1024 : Shape := ⟨3, ![8, 6, 1024]⟩
abbrev S1024x2592 : Shape := ⟨2, ![1024, 2592]⟩
abbrev S_ : Shape := ⟨0, ![]⟩
abbrev S20480 : Shape := ⟨1, ![20480]⟩
abbrev S20480x1 : Shape := ⟨2, ![20480, 1]⟩
abbrev S1x1x1024 : Shape := ⟨3, ![1, 1, 1024]⟩
abbrev S1024 : Shape := ⟨1, ![1024]⟩
abbrev S4096x1024 : Shape := ⟨2, ![4096, 1024]⟩
abbrev S4x1x1024 : Shape := ⟨3, ![4, 1, 1024]⟩
abbrev S4x1024 : Shape := ⟨2, ![4, 1024]⟩
abbrev S4x4096x1024 : Shape := ⟨3, ![4, 4096, 1024]⟩
abbrev S16384x1024 : Shape := ⟨2, ![16384, 1024]⟩
abbrev S20480x2592 : Shape := ⟨2, ![20480, 2592]⟩
abbrev S20480x32 : Shape := ⟨2, ![20480, 32]⟩
abbrev S20480x96 : Shape := ⟨2, ![20480, 96]⟩
abbrev S20480x128 : Shape := ⟨2, ![20480, 128]⟩
abbrev S20480x768 : Shape := ⟨2, ![20480, 768]⟩
abbrev S20480x256 : Shape := ⟨2, ![20480, 256]⟩
abbrev S20480x512 : Shape := ⟨2, ![20480, 512]⟩

abbrev nBuf : Space → Nat
  | .hbm => 59
  | .vmem => 0
  | .smem => 0
  | _ => 0

abbrev bufTy : (tb : Table) → Fin (tcTables nBuf tb) → BufTy
  | .hbm, ⟨0, _⟩ => ⟨S20480x1024, .f32⟩
  | .hbm, ⟨1, _⟩ => ⟨S8x6x1024, .f32⟩
  | .hbm, ⟨2, _⟩ => ⟨S1024x2592, .f32⟩
  | .hbm, ⟨3, _⟩ => ⟨S_, .f32⟩
  | .hbm, ⟨4, _⟩ => ⟨S20480, .f32⟩
  | .hbm, ⟨5, _⟩ => ⟨S20480x1, .f32⟩
  | .hbm, ⟨6, _⟩ => ⟨S_, .f32⟩
  | .hbm, ⟨7, _⟩ => ⟨S20480x1, .f32⟩
  | .hbm, ⟨8, _⟩ => ⟨S20480x1, .f32⟩
  | .hbm, ⟨9, _⟩ => ⟨S20480x1024, .f32⟩
  | .hbm, ⟨10, _⟩ => ⟨S20480x1024, .f32⟩
  | .hbm, ⟨11, _⟩ => ⟨S20480x1024, .f32⟩
  | .hbm, ⟨12, _⟩ => ⟨S_, .f32⟩
  | .hbm, ⟨13, _⟩ => ⟨S20480, .f32⟩
  | .hbm, ⟨14, _⟩ => ⟨S20480x1, .f32⟩
  | .hbm, ⟨15, _⟩ => ⟨S_, .f32⟩
  | .hbm, ⟨16, _⟩ => ⟨S20480x1, .f32⟩
  | .hbm, ⟨17, _⟩ => ⟨S20480x1, .f32⟩
  | .hbm, ⟨18, _⟩ => ⟨S20480x1024, .f32⟩
  | .hbm, ⟨19, _⟩ => ⟨S20480x1024, .f32⟩
  | .hbm, ⟨20, _⟩ => ⟨S_, .f32⟩
  | .hbm, ⟨21, _⟩ => ⟨S20480x1, .f32⟩
  | .hbm, ⟨22, _⟩ => ⟨S20480x1, .f32⟩
  | .hbm, ⟨23, _⟩ => ⟨S20480x1, .f32⟩
  | .hbm, ⟨24, _⟩ => ⟨S20480x1024, .f32⟩
  | .hbm, ⟨25, _⟩ => ⟨S20480x1024, .f32⟩
  | .hbm, ⟨26, _⟩ => ⟨S1x1x1024, .f32⟩
  | .hbm, ⟨27, _⟩ => ⟨S1024, .f32⟩
  | .hbm, ⟨28, _⟩ => ⟨S4096x1024, .f32⟩
  | .hbm, ⟨29, _⟩ => ⟨S4x1x1024, .f32⟩
  | .hbm, ⟨30, _⟩ => ⟨S4x1024, .f32⟩
  | .hbm, ⟨31, _⟩ => ⟨S4x1x1024, .f32⟩
  | .hbm, ⟨32, _⟩ => ⟨S4x4096x1024, .f32⟩
  | .hbm, ⟨33, _⟩ => ⟨S16384x1024, .f32⟩
  | .hbm, ⟨34, _⟩ => ⟨S20480x1024, .f32⟩
  | .hbm, ⟨35, _⟩ => ⟨S_, .f32⟩
  | .hbm, ⟨36, _⟩ => ⟨S20480x1024, .f32⟩
  | .hbm, ⟨37, _⟩ => ⟨S20480x1024, .f32⟩
  | .hbm, ⟨38, _⟩ => ⟨S20480x1024, .f32⟩
  | .hbm, ⟨39, _⟩ => ⟨S1x1x1024, .f32⟩
  | .hbm, ⟨40, _⟩ => ⟨S1024, .f32⟩
  | .hbm, ⟨41, _⟩ => ⟨S4096x1024, .f32⟩
  | .hbm, ⟨42, _⟩ => ⟨S4x1x1024, .f32⟩
  | .hbm, ⟨43, _⟩ => ⟨S4x1024, .f32⟩
  | .hbm, ⟨44, _⟩ => ⟨S4x1x1024, .f32⟩
  | .hbm, ⟨45, _⟩ => ⟨S4x4096x1024, .f32⟩
  | .hbm, ⟨46, _⟩ => ⟨S16384x1024, .f32⟩
  | .hbm, ⟨47, _⟩ => ⟨S20480x1024, .f32⟩
  | .hbm, ⟨48, _⟩ => ⟨S20480x1024, .f32⟩
  | .hbm, ⟨49, _⟩ => ⟨S20480x2592, .f32⟩
  | .hbm, ⟨50, _⟩ => ⟨S20480x32, .f32⟩
  | .hbm, ⟨51, _⟩ => ⟨S_, .f32⟩
  | .hbm, ⟨52, _⟩ => ⟨S20480x96, .f32⟩
  | .hbm, ⟨53, _⟩ => ⟨S20480x128, .f32⟩
  | .hbm, ⟨54, _⟩ => ⟨S20480x768, .f32⟩
  | .hbm, ⟨55, _⟩ => ⟨S20480x256, .f32⟩
  | .hbm, ⟨56, _⟩ => ⟨S20480x512, .f32⟩
  | .hbm, ⟨57, _⟩ => ⟨S20480x768, .f32⟩
  | .hbm, ⟨58, _⟩ => ⟨S20480x256, .f32⟩
  | _, _ => ⟨S20480x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩

abbrev nD : Nat := 1
abbrev τ : Topo := Topo.v7x

variable {F : FTy → Type} [FloatOps F]
-- ==== Kernel3.lean ====
abbrev S20480x512 : Shape := ⟨2, ![20480, 512]⟩
abbrev S20480x768 : Shape := ⟨2, ![20480, 768]⟩
abbrev S256 : Shape := ⟨1, ![256]⟩
abbrev S4x128x128 : Shape := ⟨3, ![4, 128, 128]⟩
abbrev S4x128 : Shape := ⟨2, ![4, 128]⟩
abbrev S3x256 : Shape := ⟨2, ![3, 256]⟩
abbrev S4x128x1 : Shape := ⟨3, ![4, 128, 1]⟩
abbrev S4x128x64 : Shape := ⟨3, ![4, 128, 64]⟩
abbrev S1x256 : Shape := ⟨2, ![1, 256]⟩
abbrev S20480x256 : Shape := ⟨2, ![20480, 256]⟩
abbrev S256x512 : Shape := ⟨2, ![256, 512]⟩
abbrev S256x768 : Shape := ⟨2, ![256, 768]⟩
abbrev S8x768 : Shape := ⟨2, ![8, 768]⟩
abbrev S256x256 : Shape := ⟨2, ![256, 256]⟩
abbrev S256x1 : Shape := ⟨2, ![256, 1]⟩
abbrev S1x128x128 : Shape := ⟨3, ![1, 128, 128]⟩
abbrev S128x128 : Shape := ⟨2, ![128, 128]⟩
abbrev S128x64 : Shape := ⟨2, ![128, 64]⟩
abbrev S1x128x64 : Shape := ⟨3, ![1, 128, 64]⟩
abbrev S128x256 : Shape := ⟨2, ![128, 256]⟩

abbrev nBuf : Space → Nat
  | .hbm => 14
  | .vmem => 17
  | .smem => 0
  | _ => 0

abbrev bufTy : (tb : Table) → Fin (tcTables nBuf tb) → BufTy
  | .hbm, ⟨0, _⟩ => ⟨S20480x512, .f32⟩
  | .hbm, ⟨1, _⟩ => ⟨S20480x768, .f32⟩
  | .hbm, ⟨2, _⟩ => ⟨S256, .f32⟩
  | .hbm, ⟨3, _⟩ => ⟨S256, .f32⟩
  | .hbm, ⟨4, _⟩ => ⟨S4x128x128, .f32⟩
  | .hbm, ⟨5, _⟩ => ⟨S4x128, .f32⟩
  | .hbm, ⟨6, _⟩ => ⟨S3x256, .f32⟩
  | .hbm, ⟨7, _⟩ => ⟨S4x128x1, .f32⟩
  | .hbm, ⟨8, _⟩ => ⟨S4x128x64, .f32⟩
  | .hbm, ⟨9, _⟩ => ⟨S1x256, .f32⟩
  | .hbm, ⟨10, _⟩ => ⟨S1x256, .f32⟩
  | .hbm, ⟨11, _⟩ => ⟨S4x128x128, .bf16⟩
  | .hbm, ⟨12, _⟩ => ⟨S20480x256, .f32⟩
  | .hbm, ⟨13, _⟩ => ⟨S20480x256, .f32⟩
  | .local _ .vmem, ⟨0, _⟩ => ⟨S256x512, .f32⟩
  | .local _ .vmem, ⟨1, _⟩ => ⟨S256x512, .f32⟩
  | .local _ .vmem, ⟨2, _⟩ => ⟨S256x768, .f32⟩
  | .local _ .vmem, ⟨3, _⟩ => ⟨S256x768, .f32⟩
  | .local _ .vmem, ⟨4, _⟩ => ⟨S8x768, .f32⟩
  | .local _ .vmem, ⟨5, _⟩ => ⟨S8x768, .f32⟩
  | .local _ .vmem, ⟨6, _⟩ => ⟨S8x768, .f32⟩
  | .local _ .vmem, ⟨7, _⟩ => ⟨S8x768, .f32⟩
  | .local _ .vmem, ⟨8, _⟩ => ⟨S1x256, .f32⟩
  | .local _ .vmem, ⟨9, _⟩ => ⟨S1x256, .f32⟩
  | .local _ .vmem, ⟨10, _⟩ => ⟨S4x128x128, .bf16⟩
  | .local _ .vmem, ⟨11, _⟩ => ⟨S4x128x64, .f32⟩
  | .local _ .vmem, ⟨12, _⟩ => ⟨S3x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | _, _ => ⟨S20480x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2559_i32 : BitVec 32 := 2559#32
  let v2 : BitVec 32 := Scalar.minsi v1 c2559_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S20480x512 : Shape := ⟨2, ![20480, 512]⟩
abbrev S20480x768 : Shape := ⟨2, ![20480, 768]⟩
abbrev S256 : Shape := ⟨1, ![256]⟩
abbrev S4x128x128 : Shape := ⟨3, ![4, 128, 128]⟩
abbrev S4x128 : Shape := ⟨2, ![4, 128]⟩
abbrev S3x256 : Shape := ⟨2, ![3, 256]⟩
abbrev S4096x512 : Shape := ⟨2, ![4096, 512]⟩
abbrev S16x256x512 : Shape := ⟨3, ![16, 256, 512]⟩
abbrev S4096x768 : Shape := ⟨2, ![4096, 768]⟩
abbrev S16x256x768 : Shape := ⟨3, ![16, 256, 768]⟩
abbrev S16x256x256 : Shape := ⟨3, ![16, 256, 256]⟩
abbrev S_ : Shape := ⟨0, ![]⟩
abbrev S16x256 : Shape := ⟨2, ![16, 256]⟩
abbrev S16x256x1 : Shape := ⟨3, ![16, 256, 1]⟩
abbrev S1x1x256 : Shape := ⟨3, ![1, 1, 256]⟩
abbrev S16x2x128x4x64 : Shape := ⟨5, ![16, 2, 128, 4, 64]⟩
abbrev S4x16x2x64x128 : Shape := ⟨5, ![4, 16, 2, 64, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S16x258x256 : Shape := ⟨3, ![16, 258, 256]⟩
abbrev S1x256 : Shape := ⟨2, ![1, 256]⟩
abbrev S16384x512 : Shape := ⟨2, ![16384, 512]⟩
abbrev S4x4096x512 : Shape := ⟨3, ![4, 4096, 512]⟩
abbrev S16384x768 : Shape := ⟨2, ![16384, 768]⟩
abbrev S4x4096x768 : Shape := ⟨3, ![4, 4096, 768]⟩
abbrev S4x4096x256 : Shape := ⟨3, ![4, 4096, 256]⟩
abbrev S4x4096 : Shape := ⟨2, ![4, 4096]⟩
abbrev S4x4096x1 : Shape := ⟨3, ![4, 4096, 1]⟩
abbrev S4x32x128x4x64 : Shape := ⟨5, ![4, 32, 128, 4, 64]⟩
abbrev S4x4x32x64x128 : Shape := ⟨5, ![4, 4, 32, 64, 128]⟩
abbrev S4x4098x256 : Shape := ⟨3, ![4, 4098, 256]⟩
abbrev S4096x256 : Shape := ⟨2, ![4096, 256]⟩
abbrev S16384x256 : Shape := ⟨2, ![16384, 256]⟩
abbrev S20480x256 : Shape := ⟨2, ![20480, 256]⟩

abbrev nBuf : Space → Nat
  | .hbm => 159
  | .vmem => 0
  | .smem => 0
  | _ => 0

abbrev hbmTy0_0 (i : Nat) : BufTy := match i % 128 with
  | 0 => ⟨S20480x512, .f32⟩
  | 1 => ⟨S20480x768, .f32⟩
  | 2 => ⟨S256, .f32⟩
  | 3 => ⟨S256, .f32⟩
  | 4 => ⟨S4x128x128, .f32⟩
  | 5 => ⟨S4x128, .f32⟩
  | 6 => ⟨S3x256, .f32⟩
  | 7 => ⟨S4096x512, .f32⟩
  | 8 => ⟨S16x256x512, .f32⟩
  | 9 => ⟨S4096x768, .f32⟩
  | 10 => ⟨S16x256x768, .f32⟩
  | 11 => ⟨S16x256x256, .f32⟩
  | 12 => ⟨S_, .f32⟩
  | 13 => ⟨S16x256, .f32⟩
  | 14 => ⟨S16x256x1, .f32⟩
  | 15 => ⟨S_, .f32⟩
  | 16 => ⟨S16x256x1, .f32⟩
  | 17 => ⟨S16x256x1, .f32⟩
  | 18 => ⟨S16x256x256, .f32⟩
  | 19 => ⟨S16x256x256, .f32⟩
  | 20 => ⟨S16x256x256, .f32⟩
  | 21 => ⟨S_, .f32⟩
  | 22 => ⟨S16x256, .f32⟩
  | 23 => ⟨S16x256x1, .f32⟩
  | 24 => ⟨S_, .f32⟩
  | 25 => ⟨S16x256x1, .f32⟩
  | 26 => ⟨S16x256x1, .f32⟩
  | 27 => ⟨S16x256x256, .f32⟩
  | 28 => ⟨S16x256x256, .f32⟩
  | 29 => ⟨S_, .f32⟩
  | 30 => ⟨S16x256x1, .f32⟩
  | 31 => ⟨S16x256x1, .f32⟩
  | 32 => ⟨S16x256x1, .f32⟩
  | 33 => ⟨S16x256x256, .f32⟩
  | 34 => ⟨S16x256x256, .f32⟩
  | 35 => ⟨S1x1x256, .f32⟩
  | 36 => ⟨S16x256x256, .f32⟩
  | 37 => ⟨S16x256x256, .f32⟩
  | 38 => ⟨S1x1x256, .f32⟩
  | 39 => ⟨S16x256x256, .f32⟩
  | 40 => ⟨S16x256x256, .f32⟩
  | 41 => ⟨S16x2x128x4x64, .f32⟩
  | 42 => ⟨S4x16x2x64x128, .f32⟩
  | 43 => ⟨S16x2x128x4x64, .f32⟩
  | 44 => ⟨S128x4, .f32⟩
  | 45 => ⟨S128x4x1, .f32⟩
  | 46 => ⟨S1x1x128x4x1, .f32⟩
  | 47 => ⟨S16x2x128x4x64, .f32⟩
  | 48 => ⟨S16x2x128x4x64, .f32⟩
  | 49 => ⟨S16x256x256, .f32⟩
  | 50 => ⟨S16x256x256, .f32⟩
  | 51 => ⟨S16x256x256, .f32⟩
  | 52 => ⟨S16x256x256, .f32⟩
  | 53 => ⟨S16x256x256, .f32⟩
  | 54 => ⟨S16x256x256, .f32⟩
  | 55 => ⟨S16x256x256, .f32⟩
  | 56 => ⟨S_, .i32⟩
  | 57 => ⟨S_, .f32⟩
  | 58 => ⟨S16x258x256, .f32⟩
  | 59 => ⟨S1x256, .f32⟩
  | 60 => ⟨S256, .f32⟩
  | 61 => ⟨S16x256x256, .f32⟩
  | 62 => ⟨S1x1x256, .f32⟩
  | 63 => ⟨S16x256x256, .f32⟩
  | 64 => ⟨S16x256x256, .f32⟩
  | 65 => ⟨S1x256, .f32⟩
  | 66 => ⟨S256, .f32⟩
  | 67 => ⟨S16x256x256, .f32⟩
  | 68 => ⟨S1x1x256, .f32⟩
  | 69 => ⟨S16x256x256, .f32⟩
  | 70 => ⟨S16x256x256, .f32⟩
  | 71 => ⟨S16x256x256, .f32⟩
  | 72 => ⟨S1x256, .f32⟩
  | 73 => ⟨S256, .f32⟩
  | 74 => ⟨S16x256x256, .f32⟩
  | 75 => ⟨S1x1x256, .f32⟩
  | 76 => ⟨S16x256x256, .f32⟩
  | 77 => ⟨S16x256x256, .f32⟩
  | 78 => ⟨S16x256x256, .f32⟩
  | 79 => ⟨S16x256x256, .f32⟩
  | 80 => ⟨S16384x512, .f32⟩
  | 81 => ⟨S4x4096x512, .f32⟩
  | 82 => ⟨S16384x768, .f32⟩
  | 83 => ⟨S4x4096x768, .f32⟩
  | 84 => ⟨S4x4096x256, .f32⟩
  | 85 => ⟨S_, .f32⟩
  | 86 => ⟨S4x4096, .f32⟩
  | 87 => ⟨S4x4096x1, .f32⟩
  | 88 => ⟨S_, .f32⟩
  | 89 => ⟨S4x4096x1, .f32⟩
  | 90 => ⟨S4x4096x1, .f32⟩
  | 91 => ⟨S4x4096x256, .f32⟩
  | 92 => ⟨S4x4096x256, .f32⟩
  | 93 => ⟨S4x4096x256, .f32⟩
  | 94 => ⟨S_, .f32⟩
  | 95 => ⟨S4x4096, .f32⟩
  | 96 => ⟨S4x4096x1, .f32⟩
  | 97 => ⟨S_, .f32⟩
  | 98 => ⟨S4x4096x1, .f32⟩
  | 99 => ⟨S4x4096x1, .f32⟩
  | 100 => ⟨S4x4096x256, .f32⟩
  | 101 => ⟨S4x4096x256, .f32⟩
  | 102 => ⟨S_, .f32⟩
  | 103 => ⟨S4x4096x1, .f32⟩
  | 104 => ⟨S4x4096x1, .f32⟩
  | 105 => ⟨S4x4096x1, .f32⟩
  | 106 => ⟨S4x4096x256, .f32⟩
  | 107 => ⟨S4x4096x256, .f32⟩
  | 108 => ⟨S1x1x256, .f32⟩
  | 109 => ⟨S4x4096x256, .f32⟩
  | 110 => ⟨S4x4096x256, .f32⟩
  | 111 => ⟨S1x1x256, .f32⟩
  | 112 => ⟨S4x4096x256, .f32⟩
  | 113 => ⟨S4x4096x256, .f32⟩
  | 114 => ⟨S4x32x128x4x64, .f32⟩
  | 115 => ⟨S4x4x32x64x128, .f32⟩
  | 116 => ⟨S4x32x128x4x64, .f32⟩
  | 117 => ⟨S128x4, .f32⟩
  | 118 => ⟨S128x4x1, .f32⟩
  | 119 => ⟨S1x1x128x4x1, .f32⟩
  | 120 => ⟨S4x32x128x4x64, .f32⟩
  | 121 => ⟨S4x32x128x4x64, .f32⟩
  | 122 => ⟨S4x4096x256, .f32⟩
  | 123 => ⟨S4x4096x256, .f32⟩
  | 124 => ⟨S4x4096x256, .f32⟩
  | 125 => ⟨S4x4096x256, .f32⟩
  | 126 => ⟨S4x4096x256, .f32⟩
  | 127 => ⟨S4x4096x256, .f32⟩
  | _ => ⟨S20480x512, .f32⟩

abbrev hbmTy0_1 (i : Nat) : BufTy := match i % 128 with
  | 0 => ⟨S4x4096x256, .f32⟩
  | 1 => ⟨S_, .i32⟩
  | 2 => ⟨S_, .f32⟩
  | 3 => ⟨S4x4098x256, .f32⟩
  | 4 => ⟨S1x256, .f32⟩
  | 5 => ⟨S256, .f32⟩
  | 6 => ⟨S4x4096x256, .f32⟩
  | 7 => ⟨S1x1x256, .f32⟩
  | 8 => ⟨S4x4096x256, .f32⟩
  | 9 => ⟨S4x4096x256, .f32⟩
  | 10 => ⟨S1x256, .f32⟩
  | 11 => ⟨S256, .f32⟩
  | 12 => ⟨S4x4096x256, .f32⟩
  | 13 => ⟨S1x1x256, .f32⟩
  | 14 => ⟨S4x4096x256, .f32⟩
  | 15 => ⟨S4x4096x256, .f32⟩
  | 16 => ⟨S4x4096x256, .f32⟩
  | 17 => ⟨S1x256, .f32⟩
  | 18 => ⟨S256, .f32⟩
  | 19 => ⟨S4x4096x256, .f32⟩
  | 20 => ⟨S1x1x256, .f32⟩
  | 21 => ⟨S4x4096x256, .f32⟩
  | 22 => ⟨S4x4096x256, .f32⟩
  | 23 => ⟨S4x4096x256, .f32⟩
  | 24 => ⟨S4x4096x256, .f32⟩
  | 25 => ⟨S4096x256, .f32⟩
  | 26 => ⟨S16384x256, .f32⟩
  | 27 => ⟨S20480x256, .f32⟩
  | 28 => ⟨S4096x256, .f32⟩
  | 29 => ⟨S16384x256, .f32⟩
  | 30 => ⟨S20480x256, .f32⟩
  | _ => ⟨S20480x512, .f32⟩

abbrev hbmTy (i : Nat) : BufTy := match i / 128 with
  | 0 => hbmTy0_0 i
  | 1 => hbmTy0_1 i
  | _ => ⟨S20480x512, .f32⟩

abbrev bufTy : (tb : Table) → Fin (tcTables nBuf tb) → BufTy
  | .hbm, ⟨i, _⟩ => hbmTy i
  | _, _ => ⟨S20480x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c : Ref sig .tc := ⟨.hbm, 56, rfl⟩
abbrev main_call0_v0 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_cst_4 : Ref sig .tc := ⟨.hbm, 85, rfl⟩
abbrev main_v71 : Ref sig .tc := ⟨.hbm, 86, rfl⟩
abbrev main_v72 : Ref sig .tc := ⟨.hbm, 87, rfl⟩
abbrev main_cst_5 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_cst_6 : Ref sig .tc := ⟨.hbm, 94, rfl⟩
abbrev main_v78 : Ref sig .tc := ⟨.hbm, 95, rfl⟩
abbrev main_v79 : Ref sig .tc := ⟨.hbm, 96, rfl⟩
abbrev main_cst_7 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_cst_8 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_c_9 : Ref sig .tc := ⟨.hbm, 129, rfl⟩
abbrev main_call1_v0 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩

abbrev nD : Nat := 1
abbrev τ : Topo := Topo.v7x

variable {F : FTy → Type} [FloatOps F]
-- ==== Kernel4.lean ====
abbrev S20480x256 : Shape := ⟨2, ![20480, 256]⟩
abbrev S20480x1024 : Shape := ⟨2, ![20480, 1024]⟩
abbrev S8x6x1024 : Shape := ⟨3, ![8, 6, 1024]⟩
abbrev S1024x1024 : Shape := ⟨2, ![1024, 1024]⟩
abbrev S1024 : Shape := ⟨1, ![1024]⟩
abbrev S1024x64 : Shape := ⟨2, ![1024, 64]⟩
abbrev S1x1024 : Shape := ⟨2, ![1, 1024]⟩
abbrev S64x1024 : Shape := ⟨2, ![64, 1024]⟩
abbrev S64x20480 : Shape := ⟨2, ![64, 20480]⟩
abbrev S256x256 : Shape := ⟨2, ![256, 256]⟩
abbrev S256x1024 : Shape := ⟨2, ![256, 1024]⟩
abbrev S1x6x1024 : Shape := ⟨3, ![1, 6, 1024]⟩
abbrev S64x256 : Shape := ⟨2, ![64, 256]⟩
abbrev S1x1x1024 : Shape := ⟨3, ![1, 1, 1024]⟩
abbrev S256 : Shape := ⟨1, ![256]⟩
abbrev S256x1 : Shape := ⟨2, ![256, 1]⟩

abbrev nBuf : Space → Nat
  | .hbm => 17
  | .vmem => 22
  | .smem => 0
  | _ => 0

abbrev bufTy : (tb : Table) → Fin (tcTables nBuf tb) → BufTy
  | .hbm, ⟨0, _⟩ => ⟨S20480x256, .f32⟩
  | .hbm, ⟨1, _⟩ => ⟨S20480x256, .f32⟩
  | .hbm, ⟨2, _⟩ => ⟨S20480x256, .f32⟩
  | .hbm, ⟨3, _⟩ => ⟨S20480x256, .f32⟩
  | .hbm, ⟨4, _⟩ => ⟨S20480x1024, .f32⟩
  | .hbm, ⟨5, _⟩ => ⟨S8x6x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x64, .f32⟩
  | .hbm, ⟨10, _⟩ => ⟨S1024x1024, .bf16⟩
  | .hbm, ⟨11, _⟩ => ⟨S1x1024, .f32⟩
  | .hbm, ⟨12, _⟩ => ⟨S1x1024, .f32⟩
  | .hbm, ⟨13, _⟩ => ⟨S64x1024, .f32⟩
  | .hbm, ⟨14, _⟩ => ⟨S20480x1024, .f32⟩
  | .hbm, ⟨15, _⟩ => ⟨S20480x1024, .f32⟩
  | .hbm, ⟨16, _⟩ => ⟨S64x20480, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x1024, .f32⟩
  | .local _ .vmem, ⟨9, _⟩ => ⟨S256x1024, .f32⟩
  | .local _ .vmem, ⟨10, _⟩ => ⟨S1x6x1024, .f32⟩
  | .local _ .vmem, ⟨11, _⟩ => ⟨S1x6x1024, .f32⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S64x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S64x256, .f32⟩
  | .local _ .vmem, ⟨21, _⟩ => ⟨S64x256, .f32⟩
  | _, _ => ⟨S20480x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c16_i32_1 : BitVec 32 := 16#32
  let v2 : BitVec 32 := Scalar.divsi v1 c16_i32_1
  let c0_i32 : BitVec 32 := 0#32
  let v3 : BitVec 1 := Scalar.cmpi .sgt v1 c0_i32
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c16_i32_1 c0_i32_3
  let v9 : BitVec 32 := Scalar.extui v8
  let c0_i32_4 : BitVec 32 := 0#32
  let v10 : BitVec 1 := Scalar.cmpi .slt c16_i32_1 c0_i32_4
  let v11 : BitVec 32 := Scalar.extui v10
  let v12 : BitVec 32 := Scalar.subi v9 v11
  let v13 : BitVec 1 := Scalar.cmpi .ne v7 v12
  let v14 : BitVec 32 := Scalar.remsi v1 c16_i32_1
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c1_i32_6 : BitVec 32 := 1#32
  let v19 : BitVec 32 := Scalar.addi c1_i32_6 v18
  let c0_i32_7 : BitVec 32 := 0#32
  let v20 : BitVec 32 := Scalar.select v0 c0_i32_7 v19
  let c0_i32_8 : BitVec 32 := 0#32
  let c0_i32_9 : BitVec 32 := 0#32
  let c0_i32_10 : BitVec 32 := 0#32
  ![v20.toNat, c0_i32_8.toNat, c0_i32_9.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S20480x256 : Shape := ⟨2, ![20480, 256]⟩
abbrev S20480x1024 : Shape := ⟨2, ![20480, 1024]⟩
abbrev S8x6x1024 : Shape := ⟨3, ![8, 6, 1024]⟩
abbrev S1024x1024 : Shape := ⟨2, ![1024, 1024]⟩
abbrev S1024 : Shape := ⟨1, ![1024]⟩
abbrev S1024x64 : Shape := ⟨2, ![1024, 64]⟩
abbrev S_ : Shape := ⟨0, ![]⟩
abbrev S1x1x1024 : Shape := ⟨3, ![1, 1, 1024]⟩
abbrev S4096x1024 : Shape := ⟨2, ![4096, 1024]⟩
abbrev S4x1x1024 : Shape := ⟨3, ![4, 1, 1024]⟩
abbrev S4x1024 : Shape := ⟨2, ![4, 1024]⟩
abbrev S4x4096x1024 : Shape := ⟨3, ![4, 4096, 1024]⟩
abbrev S16384x1024 : Shape := ⟨2, ![16384, 1024]⟩
abbrev S20480 : Shape := ⟨1, ![20480]⟩
abbrev S20480x1 : Shape := ⟨2, ![20480, 1]⟩
abbrev S1x1024 : Shape := ⟨2, ![1, 1024]⟩

abbrev nBuf : Space → Nat
  | .hbm => 101
  | .vmem => 0
  | .smem => 0
  | _ => 0

abbrev bufTy : (tb : Table) → Fin (tcTables nBuf tb) → BufTy
  | .hbm, ⟨0, _⟩ => ⟨S20480x256, .f32⟩
  | .hbm, ⟨1, _⟩ => ⟨S20480x256, .f32⟩
  | .hbm, ⟨2, _⟩ => ⟨S20480x256, .f32⟩
  | .hbm, ⟨3, _⟩ => ⟨S20480x256, .f32⟩
  | .hbm, ⟨4, _⟩ => ⟨S20480x1024, .f32⟩
  | .hbm, ⟨5, _⟩ => ⟨S8x6x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x64, .f32⟩
  | .hbm, ⟨10, _⟩ => ⟨S20480x1024, .f32⟩
  | .hbm, ⟨11, _⟩ => ⟨S20480x1024, .f32⟩
  | .hbm, ⟨12, _⟩ => ⟨S_, .f32⟩
  | .hbm, ⟨13, _⟩ => ⟨S20480x1024, .f32⟩
  | .hbm, ⟨14, _⟩ => ⟨S20480x1024, .f32⟩
  | .hbm, ⟨15, _⟩ => ⟨S1x1x1024, .f32⟩
  | .hbm, ⟨16, _⟩ => ⟨S1024, .f32⟩
  | .hbm, ⟨17, _⟩ => ⟨S4096x1024, .f32⟩
  | .hbm, ⟨18, _⟩ => ⟨S4x1x1024, .f32⟩
  | .hbm, ⟨19, _⟩ => ⟨S4x1024, .f32⟩
  | .hbm, ⟨20, _⟩ => ⟨S4x1x1024, .f32⟩
  | .hbm, ⟨21, _⟩ => ⟨S4x4096x1024, .f32⟩
  | .hbm, ⟨22, _⟩ => ⟨S16384x1024, .f32⟩
  | .hbm, ⟨23, _⟩ => ⟨S20480x1024, .f32⟩
  | .hbm, ⟨24, _⟩ => ⟨S20480x1024, .f32⟩
  | .hbm, ⟨25, _⟩ => ⟨S20480x1024, .f32⟩
  | .hbm, ⟨26, _⟩ => ⟨S_, .f32⟩
  | .hbm, ⟨27, _⟩ => ⟨S20480, .f32⟩
  | .hbm, ⟨28, _⟩ => ⟨S20480x1, .f32⟩
  | .hbm, ⟨29, _⟩ => ⟨S_, .f32⟩
  | .hbm, ⟨30, _⟩ => ⟨S20480x1, .f32⟩
  | .hbm, ⟨31, _⟩ => ⟨S20480x1, .f32⟩
  | .hbm, ⟨32, _⟩ => ⟨S20480x1024, .f32⟩
  | .hbm, ⟨33, _⟩ => ⟨S20480x1024, .f32⟩
  | .hbm, ⟨34, _⟩ => ⟨S20480x1024, .f32⟩
  | .hbm, ⟨35, _⟩ => ⟨S_, .f32⟩
  | .hbm, ⟨36, _⟩ => ⟨S20480, .f32⟩
  | .hbm, ⟨37, _⟩ => ⟨S20480x1, .f32⟩
  | .hbm, ⟨38, _⟩ => ⟨S_, .f32⟩
  | .hbm, ⟨39, _⟩ => ⟨S20480x1, .f32⟩
  | .hbm, ⟨40, _⟩ => ⟨S20480x1, .f32⟩
  | .hbm, ⟨41, _⟩ => ⟨S20480x1024, .f32⟩
  | .hbm, ⟨42, _⟩ => ⟨S20480x1024, .f32⟩
  | .hbm, ⟨43, _⟩ => ⟨S_, .f32⟩
  | .hbm, ⟨44, _⟩ => ⟨S20480x1, .f32⟩
  | .hbm, ⟨45, _⟩ => ⟨S20480x1, .f32⟩
  | .hbm, ⟨46, _⟩ => ⟨S20480x1, .f32⟩
  | .hbm, ⟨47, _⟩ => ⟨S20480x1024, .f32⟩
  | .hbm, ⟨48, _⟩ => ⟨S20480x1024, .f32⟩
  | .hbm, ⟨49, _⟩ => ⟨S1x1024, .f32⟩
  | .hbm, ⟨50, _⟩ => ⟨S20480x1024, .f32⟩
  | .hbm, ⟨51, _⟩ => ⟨S20480x1024, .f32⟩
  | .hbm, ⟨52, _⟩ => ⟨S1x1024, .f32⟩
  | .hbm, ⟨53, _⟩ => ⟨S20480x1024, .f32⟩
  | .hbm, ⟨54, _⟩ => ⟨S20480x1024, .f32⟩
  | .hbm, ⟨55, _⟩ => ⟨S_, .f32⟩
  | .hbm, ⟨56, _⟩ => ⟨S20480, .f32⟩
  | .hbm, ⟨57, _⟩ => ⟨S20480x1, .f32⟩
  | .hbm, ⟨58, _⟩ => ⟨S_, .f32⟩
  | .hbm, ⟨59, _⟩ => ⟨S20480x1, .f32⟩
  | .hbm, ⟨60, _⟩ => ⟨S20480x1, .f32⟩
  | .hbm, ⟨61, _⟩ => ⟨S20480x1024, .f32⟩
  | .hbm, ⟨62, _⟩ => ⟨S20480x1024, .f32⟩
  | .hbm, ⟨63, _⟩ => ⟨S20480x1024, .f32⟩
  | .hbm, ⟨64, _⟩ => ⟨S_, .f32⟩
  | .hbm, ⟨65, _⟩ => ⟨S20480, .f32⟩
  | .hbm, ⟨66, _⟩ => ⟨S20480x1, .f32⟩
  | .hbm, ⟨67, _⟩ => ⟨S_, .f32⟩
  | .hbm, ⟨68, _⟩ => ⟨S20480x1, .f32⟩
  | .hbm, ⟨69, _⟩ => ⟨S20480x1, .f32⟩
  | .hbm, ⟨70, _⟩ => ⟨S20480x1024, .f32⟩
  | .hbm, ⟨71, _⟩ => ⟨S20480x1024, .f32⟩
  | .hbm, ⟨72, _⟩ => ⟨S_, .f32⟩
  | .hbm, ⟨73, _⟩ => ⟨S20480x1, .f32⟩
  | .hbm, ⟨74, _⟩ => ⟨S20480x1, .f32⟩
  | .hbm, ⟨75, _⟩ => ⟨S20480x1, .f32⟩
  | .hbm, ⟨76, _⟩ => ⟨S20480x1024, .f32⟩
  | .hbm, ⟨77, _⟩ => ⟨S20480x1024, .f32⟩
  | .hbm, ⟨78, _⟩ => ⟨S1x1x1024, .f32⟩
  | .hbm, ⟨79, _⟩ => ⟨S1024, .f32⟩
  | .hbm, ⟨80, _⟩ => ⟨S4096x1024, .f32⟩
  | .hbm, ⟨81, _⟩ => ⟨S4x1x1024, .f32⟩
  | .hbm, ⟨82, _⟩ => ⟨S4x1024, .f32⟩
  | .hbm, ⟨83, _⟩ => ⟨S4x1x1024, .f32⟩
  | .hbm, ⟨84, _⟩ => ⟨S4x4096x1024, .f32⟩
  | .hbm, ⟨85, _⟩ => ⟨S16384x1024, .f32⟩
  | .hbm, ⟨86, _⟩ => ⟨S20480x1024, .f32⟩
  | .hbm, ⟨87, _⟩ => ⟨S_, .f32⟩
  | .hbm, ⟨88, _⟩ => ⟨S20480x1024, .f32⟩
  | .hbm, ⟨89, _⟩ => ⟨S20480x1024, .f32⟩
  | .hbm, ⟨90, _⟩ => ⟨S20480x1024, .f32⟩
  | .hbm, ⟨91, _⟩ => ⟨S1x1x1024, .f32⟩
  | .hbm, ⟨92, _⟩ => ⟨S1024, .f32⟩
  | .hbm, ⟨93, _⟩ => ⟨S4096x1024, .f32⟩
  | .hbm, ⟨94, _⟩ => ⟨S4x1x1024, .f32⟩
  | .hbm, ⟨95, _⟩ => ⟨S4x1024, .f32⟩
  | .hbm, ⟨96, _⟩ => ⟨S4x1x1024, .f32⟩
  | .hbm, ⟨97, _⟩ => ⟨S4x4096x1024, .f32⟩
  | .hbm, ⟨98, _⟩ => ⟨S16384x1024, .f32⟩
  | .hbm, ⟨99, _⟩ => ⟨S20480x1024, .f32⟩
  | .hbm, ⟨100, _⟩ => ⟨S20480x1024, .f32⟩
  | _, _ => ⟨S20480x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_7 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_10 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩

abbrev nD : Nat := 1
abbrev τ : Topo := Topo.v7x

variable {F : FTy → Type} [FloatOps F]
-- ==== Kernel5.lean ====
abbrev S20480x256 : Shape := ⟨2, ![20480, 256]⟩
abbrev S20480x1024 : Shape := ⟨2, ![20480, 1024]⟩
abbrev S8x6x1024 : Shape := ⟨3, ![8, 6, 1024]⟩
abbrev S1024x1024 : Shape := ⟨2, ![1024, 1024]⟩
abbrev S1024 : Shape := ⟨1, ![1024]⟩
abbrev S1024x64 : Shape := ⟨2, ![1024, 64]⟩
abbrev S1x1024 : Shape := ⟨2, ![1, 1024]⟩
abbrev S64x1024 : Shape := ⟨2, ![64, 1024]⟩
abbrev S64x20480 : Shape := ⟨2, ![64, 20480]⟩
abbrev S256x256 : Shape := ⟨2, ![256, 256]⟩
abbrev S256x1024 : Shape := ⟨2, ![256, 1024]⟩
abbrev S1x6x1024 : Shape := ⟨3, ![1, 6, 1024]⟩
abbrev S64x256 : Shape := ⟨2, ![64, 256]⟩
abbrev S1x1x1024 : Shape := ⟨3, ![1, 1, 1024]⟩
abbrev S256 : Shape := ⟨1, ![256]⟩
abbrev S256x1 : Shape := ⟨2, ![256, 1]⟩

abbrev nBuf : Space → Nat
  | .hbm => 17
  | .vmem => 22
  | .smem => 0
  | _ => 0

abbrev bufTy : (tb : Table) → Fin (tcTables nBuf tb) → BufTy
  | .hbm, ⟨0, _⟩ => ⟨S20480x256, .f32⟩
  | .hbm, ⟨1, _⟩ => ⟨S20480x256, .f32⟩
  | .hbm, ⟨2, _⟩ => ⟨S20480x256, .f32⟩
  | .hbm, ⟨3, _⟩ => ⟨S20480x256, .f32⟩
  | .hbm, ⟨4, _⟩ => ⟨S20480x1024, .f32⟩
  | .hbm, ⟨5, _⟩ => ⟨S8x6x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x64, .f32⟩
  | .hbm, ⟨10, _⟩ => ⟨S1024x1024, .bf16⟩
  | .hbm, ⟨11, _⟩ => ⟨S1x1024, .f32⟩
  | .hbm, ⟨12, _⟩ => ⟨S1x1024, .f32⟩
  | .hbm, ⟨13, _⟩ => ⟨S64x1024, .f32⟩
  | .hbm, ⟨14, _⟩ => ⟨S20480x1024, .f32⟩
  | .hbm, ⟨15, _⟩ => ⟨S20480x1024, .f32⟩
  | .hbm, ⟨16, _⟩ => ⟨S64x20480, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x1024, .f32⟩
  | .local _ .vmem, ⟨9, _⟩ => ⟨S256x1024, .f32⟩
  | .local _ .vmem, ⟨10, _⟩ => ⟨S1x6x1024, .f32⟩
  | .local _ .vmem, ⟨11, _⟩ => ⟨S1x6x1024, .f32⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S64x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S64x256, .f32⟩
  | .local _ .vmem, ⟨21, _⟩ => ⟨S64x256, .f32⟩
  | _, _ => ⟨S20480x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c16_i32_1 : BitVec 32 := 16#32
  let v2 : BitVec 32 := Scalar.divsi v1 c16_i32_1
  let c0_i32 : BitVec 32 := 0#32
  let v3 : BitVec 1 := Scalar.cmpi .sgt v1 c0_i32
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c16_i32_1 c0_i32_3
  let v9 : BitVec 32 := Scalar.extui v8
  let c0_i32_4 : BitVec 32 := 0#32
  let v10 : BitVec 1 := Scalar.cmpi .slt c16_i32_1 c0_i32_4
  let v11 : BitVec 32 := Scalar.extui v10
  let v12 : BitVec 32 := Scalar.subi v9 v11
  let v13 : BitVec 1 := Scalar.cmpi .ne v7 v12
  let v14 : BitVec 32 := Scalar.remsi v1 c16_i32_1
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c1_i32_6 : BitVec 32 := 1#32
  let v19 : BitVec 32 := Scalar.addi c1_i32_6 v18
  let c0_i32_7 : BitVec 32 := 0#32
  let v20 : BitVec 32 := Scalar.select v0 c0_i32_7 v19
  let c0_i32_8 : BitVec 32 := 0#32
  let c0_i32_9 : BitVec 32 := 0#32
  let c0_i32_10 : BitVec 32 := 0#32
  ![v20.toNat, c0_i32_8.toNat, c0_i32_9.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference5Ideal.lean ====
abbrev S20480x256 : Shape := ⟨2, ![20480, 256]⟩
abbrev S20480x1024 : Shape := ⟨2, ![20480, 1024]⟩
abbrev S8x6x1024 : Shape := ⟨3, ![8, 6, 1024]⟩
abbrev S1024x1024 : Shape := ⟨2, ![1024, 1024]⟩
abbrev S1024 : Shape := ⟨1, ![1024]⟩
abbrev S1024x64 : Shape := ⟨2, ![1024, 64]⟩
abbrev S_ : Shape := ⟨0, ![]⟩
abbrev S1x1x1024 : Shape := ⟨3, ![1, 1, 1024]⟩
abbrev S4096x1024 : Shape := ⟨2, ![4096, 1024]⟩
abbrev S4x1x1024 : Shape := ⟨3, ![4, 1, 1024]⟩
abbrev S4x1024 : Shape := ⟨2, ![4, 1024]⟩
abbrev S4x4096x1024 : Shape := ⟨3, ![4, 4096, 1024]⟩
abbrev S16384x1024 : Shape := ⟨2, ![16384, 1024]⟩
abbrev S20480 : Shape := ⟨1, ![20480]⟩
abbrev S20480x1 : Shape := ⟨2, ![20480, 1]⟩
abbrev S1x1024 : Shape := ⟨2, ![1, 1024]⟩
abbrev S20480x64 : Shape := ⟨2, ![20480, 64]⟩
abbrev S64x20480 : Shape := ⟨2, ![64, 20480]⟩

abbrev nBuf : Space → Nat
  | .hbm => 103
  | .vmem => 0
  | .smem => 0
  | _ => 0

abbrev bufTy : (tb : Table) → Fin (tcTables nBuf tb) → BufTy
  | .hbm, ⟨0, _⟩ => ⟨S20480x256, .f32⟩
  | .hbm, ⟨1, _⟩ => ⟨S20480x256, .f32⟩
  | .hbm, ⟨2, _⟩ => ⟨S20480x256, .f32⟩
  | .hbm, ⟨3, _⟩ => ⟨S20480x256, .f32⟩
  | .hbm, ⟨4, _⟩ => ⟨S20480x1024, .f32⟩
  | .hbm, ⟨5, _⟩ => ⟨S8x6x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x64, .f32⟩
  | .hbm, ⟨10, _⟩ => ⟨S20480x1024, .f32⟩
  | .hbm, ⟨11, _⟩ => ⟨S20480x1024, .f32⟩
  | .hbm, ⟨12, _⟩ => ⟨S_, .f32⟩
  | .hbm, ⟨13, _⟩ => ⟨S20480x1024, .f32⟩
  | .hbm, ⟨14, _⟩ => ⟨S20480x1024, .f32⟩
  | .hbm, ⟨15, _⟩ => ⟨S1x1x1024, .f32⟩
  | .hbm, ⟨16, _⟩ => ⟨S1024, .f32⟩
  | .hbm, ⟨17, _⟩ => ⟨S4096x1024, .f32⟩
  | .hbm, ⟨18, _⟩ => ⟨S4x1x1024, .f32⟩
  | .hbm, ⟨19, _⟩ => ⟨S4x1024, .f32⟩
  | .hbm, ⟨20, _⟩ => ⟨S4x1x1024, .f32⟩
  | .hbm, ⟨21, _⟩ => ⟨S4x4096x1024, .f32⟩
  | .hbm, ⟨22, _⟩ => ⟨S16384x1024, .f32⟩
  | .hbm, ⟨23, _⟩ => ⟨S20480x1024, .f32⟩
  | .hbm, ⟨24, _⟩ => ⟨S20480x1024, .f32⟩
  | .hbm, ⟨25, _⟩ => ⟨S20480x1024, .f32⟩
  | .hbm, ⟨26, _⟩ => ⟨S_, .f32⟩
  | .hbm, ⟨27, _⟩ => ⟨S20480, .f32⟩
  | .hbm, ⟨28, _⟩ => ⟨S20480x1, .f32⟩
  | .hbm, ⟨29, _⟩ => ⟨S_, .f32⟩
  | .hbm, ⟨30, _⟩ => ⟨S20480x1, .f32⟩
  | .hbm, ⟨31, _⟩ => ⟨S20480x1, .f32⟩
  | .hbm, ⟨32, _⟩ => ⟨S20480x1024, .f32⟩
  | .hbm, ⟨33, _⟩ => ⟨S20480x1024, .f32⟩
  | .hbm, ⟨34, _⟩ => ⟨S20480x1024, .f32⟩
  | .hbm, ⟨35, _⟩ => ⟨S_, .f32⟩
  | .hbm, ⟨36, _⟩ => ⟨S20480, .f32⟩
  | .hbm, ⟨37, _⟩ => ⟨S20480x1, .f32⟩
  | .hbm, ⟨38, _⟩ => ⟨S_, .f32⟩
  | .hbm, ⟨39, _⟩ => ⟨S20480x1, .f32⟩
  | .hbm, ⟨40, _⟩ => ⟨S20480x1, .f32⟩
  | .hbm, ⟨41, _⟩ => ⟨S20480x1024, .f32⟩
  | .hbm, ⟨42, _⟩ => ⟨S20480x1024, .f32⟩
  | .hbm, ⟨43, _⟩ => ⟨S_, .f32⟩
  | .hbm, ⟨44, _⟩ => ⟨S20480x1, .f32⟩
  | .hbm, ⟨45, _⟩ => ⟨S20480x1, .f32⟩
  | .hbm, ⟨46, _⟩ => ⟨S20480x1, .f32⟩
  | .hbm, ⟨47, _⟩ => ⟨S20480x1024, .f32⟩
  | .hbm, ⟨48, _⟩ => ⟨S20480x1024, .f32⟩
  | .hbm, ⟨49, _⟩ => ⟨S1x1024, .f32⟩
  | .hbm, ⟨50, _⟩ => ⟨S20480x1024, .f32⟩
  | .hbm, ⟨51, _⟩ => ⟨S20480x1024, .f32⟩
  | .hbm, ⟨52, _⟩ => ⟨S1x1024, .f32⟩
  | .hbm, ⟨53, _⟩ => ⟨S20480x1024, .f32⟩
  | .hbm, ⟨54, _⟩ => ⟨S20480x1024, .f32⟩
  | .hbm, ⟨55, _⟩ => ⟨S_, .f32⟩
  | .hbm, ⟨56, _⟩ => ⟨S20480, .f32⟩
  | .hbm, ⟨57, _⟩ => ⟨S20480x1, .f32⟩
  | .hbm, ⟨58, _⟩ => ⟨S_, .f32⟩
  | .hbm, ⟨59, _⟩ => ⟨S20480x1, .f32⟩
  | .hbm, ⟨60, _⟩ => ⟨S20480x1, .f32⟩
  | .hbm, ⟨61, _⟩ => ⟨S20480x1024, .f32⟩
  | .hbm, ⟨62, _⟩ => ⟨S20480x1024, .f32⟩
  | .hbm, ⟨63, _⟩ => ⟨S20480x1024, .f32⟩
  | .hbm, ⟨64, _⟩ => ⟨S_, .f32⟩
  | .hbm, ⟨65, _⟩ => ⟨S20480, .f32⟩
  | .hbm, ⟨66, _⟩ => ⟨S20480x1, .f32⟩
  | .hbm, ⟨67, _⟩ => ⟨S_, .f32⟩
  | .hbm, ⟨68, _⟩ => ⟨S20480x1, .f32⟩
  | .hbm, ⟨69, _⟩ => ⟨S20480x1, .f32⟩
  | .hbm, ⟨70, _⟩ => ⟨S20480x1024, .f32⟩
  | .hbm, ⟨71, _⟩ => ⟨S20480x1024, .f32⟩
  | .hbm, ⟨72, _⟩ => ⟨S_, .f32⟩
  | .hbm, ⟨73, _⟩ => ⟨S20480x1, .f32⟩
  | .hbm, ⟨74, _⟩ => ⟨S20480x1, .f32⟩
  | .hbm, ⟨75, _⟩ => ⟨S20480x1, .f32⟩
  | .hbm, ⟨76, _⟩ => ⟨S20480x1024, .f32⟩
  | .hbm, ⟨77, _⟩ => ⟨S20480x1024, .f32⟩
  | .hbm, ⟨78, _⟩ => ⟨S1x1x1024, .f32⟩
  | .hbm, ⟨79, _⟩ => ⟨S1024, .f32⟩
  | .hbm, ⟨80, _⟩ => ⟨S4096x1024, .f32⟩
  | .hbm, ⟨81, _⟩ => ⟨S4x1x1024, .f32⟩
  | .hbm, ⟨82, _⟩ => ⟨S4x1024, .f32⟩
  | .hbm, ⟨83, _⟩ => ⟨S4x1x1024, .f32⟩
  | .hbm, ⟨84, _⟩ => ⟨S4x4096x1024, .f32⟩
  | .hbm, ⟨85, _⟩ => ⟨S16384x1024, .f32⟩
  | .hbm, ⟨86, _⟩ => ⟨S20480x1024, .f32⟩
  | .hbm, ⟨87, _⟩ => ⟨S_, .f32⟩
  | .hbm, ⟨88, _⟩ => ⟨S20480x1024, .f32⟩
  | .hbm, ⟨89, _⟩ => ⟨S20480x1024, .f32⟩
  | .hbm, ⟨90, _⟩ => ⟨S20480x1024, .f32⟩
  | .hbm, ⟨91, _⟩ => ⟨S1x1x1024, .f32⟩
  | .hbm, ⟨92, _⟩ => ⟨S1024, .f32⟩
  | .hbm, ⟨93, _⟩ => ⟨S4096x1024, .f32⟩
  | .hbm, ⟨94, _⟩ => ⟨S4x1x1024, .f32⟩
  | .hbm, ⟨95, _⟩ => ⟨S4x1024, .f32⟩
  | .hbm, ⟨96, _⟩ => ⟨S4x1x1024, .f32⟩
  | .hbm, ⟨97, _⟩ => ⟨S4x4096x1024, .f32⟩
  | .hbm, ⟨98, _⟩ => ⟨S16384x1024, .f32⟩
  | .hbm, ⟨99, _⟩ => ⟨S20480x1024, .f32⟩
  | .hbm, ⟨100, _⟩ => ⟨S20480x1024, .f32⟩
  | .hbm, ⟨101, _⟩ => ⟨S20480x64, .f32⟩
  | .hbm, ⟨102, _⟩ => ⟨S64x20480, .f32⟩
  | _, _ => ⟨S20480x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_7 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_10 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩

abbrev nD : Nat := 1
abbrev τ : Topo := Topo.v7x

variable {F : FTy → Type} [FloatOps F]
-- ==== Kernel6.lean ====
abbrev S1024 : Shape := ⟨1, ![1024]⟩
abbrev S4x1024 : Shape := ⟨2, ![4, 1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 10
  | .vmem => 7
  | .smem => 0
  | _ => 0

abbrev bufTy : (tb : Table) → Fin (tcTables nBuf tb) → BufTy
  | .hbm, ⟨0, _⟩ => ⟨S1024, .f32⟩
  | .hbm, ⟨1, _⟩ => ⟨S4x1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S2x1x6144, .f32⟩
  | .hbm, ⟨9, _⟩ => ⟨S2x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S1024 : Shape := ⟨1, ![1024]⟩
abbrev S4x1024 : Shape := ⟨2, ![4, 1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S2x8x6144 : Shape := ⟨3, ![2, 8, 6144]⟩

abbrev nBuf : Space → Nat
  | .hbm => 45
  | .vmem => 0
  | .smem => 0
  | _ => 0

abbrev bufTy : (tb : Table) → Fin (tcTables nBuf tb) → BufTy
  | .hbm, ⟨0, _⟩ => ⟨S1024, .f32⟩
  | .hbm, ⟨1, _⟩ => ⟨S4x1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S1x1024x6144, .f32⟩
  | .hbm, ⟨18, _⟩ => ⟨S1024x6144, .f32⟩
  | .hbm, ⟨19, _⟩ => ⟨S8x6144, .f32⟩
  | .hbm, ⟨20, _⟩ => ⟨S1x6144, .f32⟩
  | .hbm, ⟨21, _⟩ => ⟨S6144, .f32⟩
  | .hbm, ⟨22, _⟩ => ⟨S1x6144, .f32⟩
  | .hbm, ⟨23, _⟩ => ⟨S8x6144, .f32⟩
  | .hbm, ⟨24, _⟩ => ⟨S8x6144, .f32⟩
  | .hbm, ⟨25, _⟩ => ⟨S8x1024, .f32⟩
  | .hbm, ⟨26, _⟩ => ⟨S8x1024, .f32⟩
  | .hbm, ⟨27, _⟩ => ⟨S_, .f32⟩
  | .hbm, ⟨28, _⟩ => ⟨S8x1024, .f32⟩
  | .hbm, ⟨29, _⟩ => ⟨S8x1024, .f32⟩
  | .hbm, ⟨30, _⟩ => ⟨S_, .f32⟩
  | .hbm, ⟨31, _⟩ => ⟨S8x1024, .f32⟩
  | .hbm, ⟨32, _⟩ => ⟨S8x1024, .f32⟩
  | .hbm, ⟨33, _⟩ => ⟨S8x1024, .f32⟩
  | .hbm, ⟨34, _⟩ => ⟨S1x1024x6144, .f32⟩
  | .hbm, ⟨35, _⟩ => ⟨S1024x6144, .f32⟩
  | .hbm, ⟨36, _⟩ => ⟨S8x6144, .f32⟩
  | .hbm, ⟨37, _⟩ => ⟨S1x6144, .f32⟩
  | .hbm, ⟨38, _⟩ => ⟨S6144, .f32⟩
  | .hbm, ⟨39, _⟩ => ⟨S1x6144, .f32⟩
  | .hbm, ⟨40, _⟩ => ⟨S8x6144, .f32⟩
  | .hbm, ⟨41, _⟩ => ⟨S8x6144, .f32⟩
  | .hbm, ⟨42, _⟩ => ⟨S1x8x6144, .f32⟩
  | .hbm, ⟨43, _⟩ => ⟨S1x8x6144, .f32⟩
  | .hbm, ⟨44, _⟩ => ⟨S2x8x6144, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩

abbrev nD : Nat := 1
abbrev τ : Topo := Topo.v7x

variable {F : FTy → Type} [FloatOps F]
-- ==== Proof.ExpertsBody.lean ====
/- The expert kernel's body, run once per control path: a point past the used blocks, a used point whose
   expert's weights are already in the scratch buffers, and a used point that copies them there first. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Quiescent
public import Idealize.ShloMosaic.Lib.Pipeline.ValueKit

@[expose] public section

set_option maxRecDepth 16384

noncomputable section

namespace Cert.KernelIdeal.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The two prefetched tables (each block's expert, the number of used blocks) and the two scratch buffers. -/
abbrev tabE : Memref sig .tc .smem S704 .i32 := Memref.whole main_arg0
abbrev tabN : Memref sig .tc .smem S1 .i32 := Memref.whole main_arg1
abbrev scrA : Memref sig .tc .vmem S1024x512 .bf16 := Memref.whole cc0_scratch0
abbrev scrB : Memref sig .tc .vmem S256x1024 .bf16 := Memref.whole cc0_scratch1

/-- The word the body reads for the number of used blocks, -/
abbrev usedW (T1 : S1.Idx → Elt F .i32) : BitVec 32 :=
  View.readAt (Elt F) tabN.view (Rect.unit (s := S1) ![0] S1.size inb_S1_S1_0).toLoadRect T1 (Shape.Idx.first (numel1_S1.symm ▸ Nat.one_pos))
/-- for the block before's expert, -/
abbrev prevW (i : grid0.Coords) (T0 : S704.Idx → Elt F .i32) : BitVec 32 :=
  View.readAt (Elt F) tabE.view (Rect.unit (s := S704) (k0_off2 i) S1.size (k0_off2_inb i)).toLoadRect T0 (Shape.Idx.first (numel1_S1.symm ▸ Nat.one_pos))
/-- and for the block's own expert. -/
abbrev hereW (i : grid0.Coords) (T0 : S704.Idx → Elt F .i32) : BitVec 32 :=
  View.readAt (Elt F) tabE.view (Rect.unit (s := S704) (k0_off3 i) S1.size (k0_off3_inb i)).toLoadRect T0 (Shape.Idx.first (numel1_S1.symm ▸ Nat.one_pos))

/-- Whether the body copies the weights at point `i`: it is the first point or its expert is not the one before's. -/
abbrev reload (i : grid0.Coords) (here prev : BitVec 32) : BitVec 1 :=
  Scalar.cmpi .ne (Scalar.extui (Scalar.ori (Scalar.cmpi .eq (BitVec.ofNat 32 (i 0).val) 0#32) (Scalar.cmpi .ne here prev))) 0#32

/-- What is held around the body: the four input blocks, the tables' halves, and the rest as stated. -/
abbrev held (c : Dev nD) (arg3 : Memref sig .tc .vmem S256x1024 .f32) (arg4 arg5 : Memref sig .tc .vmem S1x1x1024x256 .f32)
    (arg6 : Memref sig .tc .vmem S1x1x256x1024 .f32) (T0 : S704.Idx → Elt F .i32) (T1 : S1.Idx → Elt F .i32)
    (x0 : S256x1024.Idx → Elt F .f32) (x1 x2 : S1x1x1024x256.Idx → Elt F .f32) (x3 : S1x1x256x1024.Idx → Elt F .f32)
    (rest : sProp 𝕄) : sProp 𝕄 :=
  iprop((arg3.view.loc (c : Thread nD τ) ↦[arg3.view.set]{fullShare} arg3.view.rep x0)
    ∗ (arg4.view.loc (c : Thread nD τ) ↦[arg4.view.set]{fullShare} arg4.view.rep x1)
    ∗ (arg5.view.loc (c : Thread nD τ) ↦[arg5.view.set]{fullShare} arg5.view.rep x2)
    ∗ (arg6.view.loc (c : Thread nD τ) ↦[arg6.view.set]{fullShare} arg6.view.rep x3)
    ∗ (tabE.view.loc (c : Thread nD τ) ↦{fullShare.right} T0)
    ∗ (tabN.view.loc (c : Thread nD τ) ↦{fullShare.right} T1)
    ∗ rest)

section paths
variable (c : Dev nD) (i : grid0.Coords) (arg3 : Memref sig .tc .vmem S256x1024 .f32) (harg3 : arg3.IsWhole)
  (arg4 : Memref sig .tc .vmem S1x1x1024x256 .f32) (harg4 : arg4.IsWhole) (arg5 : Memref sig .tc .vmem S1x1x1024x256 .f32) (harg5 : arg5.IsWhole)
  (arg6 : Memref sig .tc .vmem S1x1x256x1024 .f32) (harg6 : arg6.IsWhole) (arg7 : Memref sig .tc .vmem S256x1024 .f32) (harg7 : arg7.IsWhole)
  (T0 : S704.Idx → Elt F .i32) (T1 : S1.Idx → Elt F .i32)
  (x0 : S256x1024.Idx → Elt F .f32) (x1 x2 : S1x1x1024x256.Idx → Elt F .f32) (x3 : S1x1x256x1024.Idx → Elt F .f32)
  (xa : Buf (Elt F) ((c : Thread nD τ).loc cc0_scratch0)) (xb : Buf (Elt F) ((c : Thread nD τ).loc cc0_scratch1))

/-- The body at point `i` on these staging buffers. -/
abbrev bodyOn : Prog (TpuEff nD τ sig (Elt F) Λ₀ .tc) PUnit :=
  cc0__experts_kernel i tabE (Memref.isWhole_whole _) tabN (Memref.isWhole_whole _) arg3 harg3 arg4 harg4 arg5 harg5 arg6 harg6 arg7 harg7 scrA (Memref.isWhole_whole _) scrB (Memref.isWhole_whole _)

set_option backward.proofsInPublic true in
set_option maxHeartbeats 4000000 in
/-- A point that copies the weights: what it leaves in the output's buffer and in the scratch buffers, with the run. -/
noncomputable def runLoad (h1 : k0_cond1 i (usedW T1) = 1#1) (h2 : reload i (hereW i T0) (prevW i T0) = 1#1) (h3 : ¬ k0_cond3 i (usedW T1) = 1#1) :
    Σ' (out : List (View.Piece (Elt F) S256x1024 .f32)) (outA : Buf (Elt F) ((c : Thread nD τ).loc cc0_scratch0)), { outB : Buf (Elt F) ((c : Thread nD τ).loc cc0_scratch1) //
      ∀ (K : PUnit → sProp 𝕄),
        held c arg3 arg4 arg5 arg6 T0 T1 x0 x1 x2 x3 iprop((∃ d, owns (c : Thread nD τ) arg7 fullShare d)
          ∗ (scrA.view.loc (c : Thread nD τ) ↦{fullShare} xa) ∗ (scrB.view.loc (c : Thread nD τ) ↦{fullShare} xb)
          ∗ (held c arg3 arg4 arg5 arg6 T0 T1 x0 x1 x2 x3 iprop((∃ f, arg7.view.loc (c : Thread nD τ) ↦[arg7.view.set]{fullShare} arg7.view.writes (Elt F) f out)
              ∗ (scrA.view.loc (c : Thread nD τ) ↦{fullShare} outA) ∗ (scrB.view.loc (c : Thread nD τ) ↦{fullShare} outB)) -∗ K ⟨⟩))
          ⊢ wp frame (wpE (defs₀ (F := F)) Variants.none c none) Set.univ (bodyOn i arg3 harg3 arg4 harg4 arg5 harg5 arg6 harg6 arg7 harg7) K } :=
  ⟨_, _, _, fun K => by
    unfold held owns bodyOn
    rw [cc0__experts_kernel_eq_skeleton]; unfold cc0__experts_kernel_skel
    iintro ⟨H0, H1, H2, H3, HT0, HT1, ⟨%d4, %f4, -, HO4⟩, HS0, HS1, Hk⟩
    have hS0 : scrA.IsWhole := Memref.isWhole_whole _
    have hS1 : scrB.IsWhole := Memref.isWhole_whole _
    have hT0 : tabE.IsWhole := Memref.isWhole_whole _
    have hT1 : tabN.IsWhole := Memref.isWhole_whole _
    sl_exec! (disch := first | (guard_target = k0_cond1 _ _ = _; exact h1) | (guard_target = ¬ (k0_cond3 _ _ = _); exact h3) | exact h2)
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    iexact HS1⟩

set_option backward.proofsInPublic true in
set_option maxHeartbeats 4000000 in
/-- A used point whose weights are in the scratch buffers already: it leaves them as they are. -/
noncomputable def runKeep (h1 : k0_cond1 i (usedW T1) = 1#1) (h2 : ¬ reload i (hereW i T0) (prevW i T0) = 1#1) (h3 : ¬ k0_cond3 i (usedW T1) = 1#1) :
    { out : List (View.Piece (Elt F) S256x1024 .f32) //
      ∀ (K : PUnit → sProp 𝕄),
        held c arg3 arg4 arg5 arg6 T0 T1 x0 x1 x2 x3 iprop((∃ d, owns (c : Thread nD τ) arg7 fullShare d)
          ∗ (scrA.view.loc (c : Thread nD τ) ↦{fullShare} xa) ∗ (scrB.view.loc (c : Thread nD τ) ↦{fullShare} xb)
          ∗ (held c arg3 arg4 arg5 arg6 T0 T1 x0 x1 x2 x3 iprop((∃ f, arg7.view.loc (c : Thread nD τ) ↦[arg7.view.set]{fullShare} arg7.view.writes (Elt F) f out)
              ∗ (scrA.view.loc (c : Thread nD τ) ↦{fullShare} xa) ∗ (scrB.view.loc (c : Thread nD τ) ↦{fullShare} xb)) -∗ K ⟨⟩))
          ⊢ wp frame (wpE (defs₀ (F := F)) Variants.none c none) Set.univ (bodyOn i arg3 harg3 arg4 harg4 arg5 harg5 arg6 harg6 arg7 harg7) K } :=
  ⟨_, fun K => by
    unfold held owns bodyOn
    rw [cc0__experts_kernel_eq_skeleton]; unfold cc0__experts_kernel_skel
    iintro ⟨H0, H1, H2, H3, HT0, HT1, ⟨%d4, %f4, -, HO4⟩, HS0, HS1, Hk⟩
    have hS0 : scrA.IsWhole := Memref.isWhole_whole _
    have hS1 : scrB.IsWhole := Memref.isWhole_whole _
    have hT0 : tabE.IsWhole := Memref.isWhole_whole _
    have hT1 : tabN.IsWhole := Memref.isWhole_whole _
    sl_exec! (disch := first | (guard_target = k0_cond1 _ _ = _; exact h1) | (guard_target = ¬ (k0_cond3 _ _ = _); exact h3) | exact h2)
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    iexact HS1⟩

set_option backward.proofsInPublic true in
set_option maxHeartbeats 4000000 in
/-- A point past the used blocks: it stores zeros. -/
noncomputable def runZero (h1 : ¬ k0_cond1 i (usedW T1) = 1#1) (h3 : k0_cond3 i (usedW T1) = 1#1) :
    { out : List (View.Piece (Elt F) S256x1024 .f32) //
      ∀ (K : PUnit → sProp 𝕄),
        held c arg3 arg4 arg5 arg6 T0 T1 x0 x1 x2 x3 iprop((∃ d, owns (c : Thread nD τ) arg7 fullShare d)
          ∗ (scrA.view.loc (c : Thread nD τ) ↦{fullShare} xa) ∗ (scrB.view.loc (c : Thread nD τ) ↦{fullShare} xb)
          ∗ (held c arg3 arg4 arg5 arg6 T0 T1 x0 x1 x2 x3 iprop((∃ f, arg7.view.loc (c : Thread nD τ) ↦[arg7.view.set]{fullShare} arg7.view.writes (Elt F) f out)
              ∗ (scrA.view.loc (c : Thread nD τ) ↦{fullShare} xa) ∗ (scrB.view.loc (c : Thread nD τ) ↦{fullShare} xb)) -∗ K ⟨⟩))
          ⊢ wp frame (wpE (defs₀ (F := F)) Variants.none c none) Set.univ (bodyOn i arg3 harg3 arg4 harg4 arg5 harg5 arg6 harg6 arg7 harg7) K } :=
  ⟨_, fun K => by
    unfold held owns bodyOn
    rw [cc0__experts_kernel_eq_skeleton]; unfold cc0__experts_kernel_skel
    iintro ⟨H0, H1, H2, H3, HT0, HT1, ⟨%d4, %f4, -, HO4⟩, HS0, HS1, Hk⟩
    have hS0 : scrA.IsWhole := Memref.isWhole_whole _
    have hS1 : scrB.IsWhole := Memref.isWhole_whole _
    have hT0 : tabE.IsWhole := Memref.isWhole_whole _
    have hT1 : tabN.IsWhole := Memref.isWhole_whole _
    sl_exec! (disch := first | (guard_target = ¬ (k0_cond1 _ _ = _); exact h1) | (guard_target = k0_cond3 _ _ = _; exact h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    iexact HS1⟩

end paths

end Cert.KernelIdeal.Experts
end
-- ==== Proof.ExpertsOut.lean ====
/- What the expert kernel's body leaves, as plain functions of its blocks. -/
module

public import proofs.«01_k».proof.Proof.ExpertsBody
public import Idealize.ShloMosaic.Lib.Ring
public import Idealize.ShloMosaic.Lib.Pipeline.TableIdle

@[expose] public section

set_option maxRecDepth 16384

noncomputable section

namespace Cert.KernelIdeal.Experts

open Cert.KernelIdeal Cert.KernelIdeal.Gen
open Idealize.ShloMosaic
open Idealize.ShloMosaic.TcCoe Idealize.ShloMosaic.Tactic

variable {F : FTy → Type} [FloatOps F]

/-- The output block's view its contents are stated through. -/
abbrev outV : View sig .tc .vmem S256x1024 .f32 := (Memref.whole cc0_stg4_0 : Memref sig .tc .vmem S256x1024 .f32).view

/-- The gate and up weights side by side, as the body lays them in the first scratch buffer. -/
def gateUp (x1 x2 : FVec F S1x1x1024x256 .f32) : S1024x512.Idx → Elt F .bf16 :=
  View.canon (Val := Elt F) (s := S1024x512) (e := .bf16) [⟨Rect.unit (s := S1024x512) ![0, 256] S1024x256.size inb_S1024x512_S1024x256_0_256, k0_pay2 x2⟩,
    ⟨Rect.unit (s := S1024x512) ![0, 0] S1024x256.size inb_S1024x512_S1024x256_0_0, k0_pay1 x1⟩]

/-- A load of the whole first scratch buffer reads what its pieces left. -/
theorem readCov_full (L : List (View.Piece (Elt F) S1024x512 .bf16)) :
    (View.whole cc0_scratch0 : View sig .tc .vmem S1024x512 .bf16).readCov L (Rect.unit (s := S1024x512) ![0, 0] S1024x512.size inb_S1024x512_S1024x512_0_0).toLoadRect
      = View.canon L := by
  rw [View.readCov_eq_canon']
  funext j
  congr 1
  funext a
  apply Fin.ext
  fin_cases a <;> simp [Rect.unit, LoadRect.idx, Rect.toLoadRect]

section paths
variable (c : Dev nD) (i : grid0.Coords) (arg3 : Memref sig .tc .vmem S256x1024 .f32) (harg3 : arg3.IsWhole)
  (arg4 : Memref sig .tc .vmem S1x1x1024x256 .f32) (harg4 : arg4.IsWhole) (arg5 : Memref sig .tc .vmem S1x1x1024x256 .f32) (harg5 : arg5.IsWhole)
  (arg6 : Memref sig .tc .vmem S1x1x256x1024 .f32) (harg6 : arg6.IsWhole) (arg7 : Memref sig .tc .vmem S256x1024 .f32) (harg7 : arg7.IsWhole)
  (T0 : S704.Idx → Elt F .i32) (T1 : S1.Idx → Elt F .i32)
  (x0 : S256x1024.Idx → Elt F .f32) (x1 x2 : S1x1x1024x256.Idx → Elt F .f32) (x3 : S1x1x256x1024.Idx → Elt F .f32)
  (xa : Buf (Elt F) ((c : Thread nD τ).loc cc0_scratch0)) (xb : Buf (Elt F) ((c : Thread nD τ).loc cc0_scratch1))

theorem coverLoad (h1 h2 h3) (y : S256x1024.Idx) :
    ∃ pc ∈ (runLoad c i arg3 harg3 arg4 harg4 arg5 harg5 arg6 harg6 arg7 harg7 T0 T1 x0 x1 x2 x3 xa xb h1 h2 h3).1, y ∈ pc.1.set :=
  Idealize.ShloMosaic.View.cover_of_tiledL _ S256x1024.size (by sl_kernel_rfl) y

theorem coverKeep (h1 h2 h3) (y : S256x1024.Idx) :
    ∃ pc ∈ (runKeep c i arg3 harg3 arg4 harg4 arg5 harg5 arg6 harg6 arg7 harg7 T0 T1 x0 x1 x2 x3 xa xb h1 h2 h3).1, y ∈ pc.1.set :=
  Idealize.ShloMosaic.View.cover_of_tiledL _ S256x1024.size (by sl_kernel_rfl) y

theorem coverZero (h1 h3) (y : S256x1024.Idx) :
    ∃ pc ∈ (runZero c i arg3 harg3 arg4 harg4 arg5 harg5 arg6 harg6 arg7 harg7 T0 T1 x0 x1 x2 x3 xa xb h1 h3).1, y ∈ pc.1.set :=
  Idealize.ShloMosaic.View.cover_of_tiledL _ S256x1024.size (by sl_kernel_rfl) y

/-- After a point that copies the weights the first scratch buffer holds them, -/
theorem load_scrA (h1 h2 h3) :
    scrA.view.read (Elt F) (runLoad c i arg3 harg3 arg4 harg4 arg5 harg5 arg6 harg6 arg7 harg7 T0 T1 x0 x1 x2 x3 xa xb h1 h2 h3).2.1 = gateUp x1 x2 := by
  unfold runLoad gateUp
  frame_out
  simp only [View.read_rep]

/-- and so does the second; -/
theorem load_scrB (h1 h2 h3) :
    scrB.view.read (Elt F) (runLoad c i arg3 harg3 arg4 harg4 arg5 harg5 arg6 harg6 arg7 harg7 T0 T1 x0 x1 x2 x3 xa xb h1 h2 h3).2.2.1 = k0_pay3 x3 := by
  unfold runLoad
  frame_out
  simp only [View.read_rep]

set_option maxHeartbeats 2000000 in
/-- the output block is the expert's of the token block. -/
theorem load_out (h1 h2 h3) :
    outV.read (Elt F) (outV.writes (Elt F) outV.junk (runLoad c i arg3 harg3 arg4 harg4 arg5 harg5 arg6 harg6 arg7 harg7 T0 T1 x0 x1 x2 x3 xa xb h1 h2 h3).1)
      = k0_pay4 x0 (gateUp x1 x2) (k0_pay3 x3) := by
  unfold runLoad gateUp
  frame_out
  simp only [View.read_rep]
  exact congrArg (fun z => k0_pay4 x0 z (k0_pay3 x3)) (readCov_full _)

/-- A point that keeps the scratch buffers computes with what they hold. -/
theorem keep_out (h1 h2 h3) :
    outV.read (Elt F) (outV.writes (Elt F) outV.junk (runKeep c i arg3 harg3 arg4 harg4 arg5 harg5 arg6 harg6 arg7 harg7 T0 T1 x0 x1 x2 x3 xa xb h1 h2 h3).1)
      = k0_pay4 x0 (scrA.view.read (Elt F) xa) (scrB.view.read (Elt F) xb) := by
  unfold runKeep
  frame_out
  simp only [View.read_rep]

/-- A point past the used blocks leaves zeros. -/
theorem zero_out (h1 h3) :
    outV.read (Elt F) (outV.writes (Elt F) outV.junk (runZero c i arg3 harg3 arg4 harg4 arg5 harg5 arg6 harg6 arg7 harg7 T0 T1 x0 x1 x2 x3 xa xb h1 h3).1)
      = k0_pay5 (F := F) := by
  unfold runZero
  frame_out

end paths
end Cert.KernelIdeal.Experts
end
-- ==== Proof.ExpertsCfg.lean ====
/- The expert kernel's tables and blocks: what a table of experts in range gives at each grid point. -/
module

public import proofs.«01_k».proof.Proof.ExpertsOut

@[expose] public section

set_option maxRecDepth 16384

noncomputable section

namespace Cert.KernelIdeal.Experts

open Cert.KernelIdeal Cert.KernelIdeal.Gen
open Idealize.ShloMosaic
open Idealize.ShloMosaic.TcCoe Idealize.ShloMosaic.Tactic

variable {F : FTy → Type} [FloatOps F]

/-! ## The words the body and the index maps read -/

/-- The grid has one axis: a point's coordinate is the point. -/
theorem coords_val (t : Fin grid0.N) : ((grid0.coords t) 0).val = t.val := by
  have h : grid0.N = 704 := N_0
  have := t.isLt
  show t.val / grid0.stride 0 % 704 = t.val
  rw [show grid0.stride 0 = 1 by decide]
  omega

/-- A block's number as a 32-bit word reads back as itself. -/
theorem toNat_point (n : ℕ) (h : n < 704) : (BitVec.ofNat 32 n).toNat = n := by
  rw [BitVec.toNat_ofNat]; omega

/-- The number of used blocks is the second table's one word. -/
theorem usedW_eq (T1 : S1.Idx → Elt F .i32) : usedW T1 = T1 (ix1 0) := by
  unfold usedW
  rw [View.readAt_eq_ld]
  refine congrArg T1 ?_
  funext a; apply Fin.ext; fin_cases a; rfl

/-- The block's own word is its expert's, -/
theorem hereW_eq (i : grid0.Coords) (T0 : S704.Idx → Elt F .i32) : hereW i T0 = T0 (ix1 (i 0)) := by
  unfold hereW
  rw [View.readAt_eq_ld]
  refine congrArg T0 ?_
  funext a; apply Fin.ext; fin_cases a
  show k0_off3 i 0 + _ = (i 0).val
  have := toNat_point (i 0).val (i 0).isLt
  simp [k0_off3, Scalar.indexCast]
  try omega

/-- and the word before it the block before's, from the second block on. -/
theorem prevW_eq (i : grid0.Coords) (T0 : S704.Idx → Elt F .i32) (h : 0 < (i 0).val) :
    prevW i T0 = T0 (ix1 ⟨(i 0).val - 1, lt_of_le_of_lt (Nat.sub_le _ _) (i 0).isLt⟩) := by
  unfold prevW
  rw [View.readAt_eq_ld]
  refine congrArg T0 ?_
  funext a; apply Fin.ext; fin_cases a
  show k0_off2 i 0 + _ = (i 0).val - 1
  have hl : (i 0).val < 704 := (i 0).isLt
  have e : (BitVec.ofNat 32 (i 0).val - 1#32).toNat = (i 0).val - 1 := by
    rw [BitVec.toNat_sub]; simp; omega
  have e' : (BitVec.ofNat 32 (i 0).val - 1#32) = BitVec.ofNat 32 ((i 0).val - 1) := by
    apply BitVec.eq_of_toNat_eq; rw [e, toNat_point _ (by omega)]
  have e2 : Scalar.maxsi (BitVec.ofNat 32 ((i 0).val - 1)) 0#32 = BitVec.ofNat 32 ((i 0).val - 1) := by
    generalize hn : (i 0).val - 1 = n
    have hn' : n < 704 := by omega
    have h0 : (BitVec.ofNat 32 n).toInt = n := by
      rw [BitVec.toInt_eq_toNat_of_lt (by rw [toNat_point n hn']; omega), toNat_point n hn']
    simp only [Scalar.maxsi, IntOp.maxsi, BitVec.slt, h0]
    by_cases hz : n = 0
    · subst hz; rfl
    · rw [if_pos]
      simp; omega
  have e3 : k0_off2 i 0 = (i 0).val - 1 := by
    show (Scalar.maxsi (BitVec.ofNat 32 (i 0).val - 1#32) 0#32).toNat = _
    rw [e', e2, toNat_point _ (by omega)]
  rw [e3]
  simp

/-- A point is used when it lies below the number of used blocks, -/
theorem cond1_iff (i : grid0.Coords) (w : BitVec 32) : k0_cond1 i w = 1#1 ↔ ((i 0).val : ℤ) < w.toInt := by
  have hl : (i 0).val < 704 := (i 0).isLt
  have e : (BitVec.ofNat 32 (i 0).val).toInt = ((i 0).val : ℤ) := by
    rw [BitVec.toInt_eq_toNat_of_lt (by rw [toNat_point _ hl]; omega), toNat_point _ hl]
  simp only [k0_cond1, Scalar.cmpi, Scalar.extui, IntOp.cmpi, BitVec.slt, e]
  by_cases h : ((i 0).val : ℤ) < w.toInt <;> simp [h]

/-- and past them otherwise. -/
theorem cond3_iff (i : grid0.Coords) (w : BitVec 32) : k0_cond3 i w = 1#1 ↔ w.toInt ≤ ((i 0).val : ℤ) := by
  have hl : (i 0).val < 704 := (i 0).isLt
  have e : (BitVec.ofNat 32 (i 0).val).toInt = ((i 0).val : ℤ) := by
    rw [BitVec.toInt_eq_toNat_of_lt (by rw [toNat_point _ hl]; omega), toNat_point _ hl]
  simp only [k0_cond3, Scalar.cmpi, Scalar.extui, IntOp.cmpi, BitVec.sle, e]
  by_cases h : w.toInt ≤ ((i 0).val : ℤ) <;> simp [h]

theorem cond3_of_not (i : grid0.Coords) (w : BitVec 32) (h : ¬ k0_cond1 i w = 1#1) : k0_cond3 i w = 1#1 := by
  rw [cond1_iff] at h; rw [cond3_iff]; omega

theorem not_cond3_of (i : grid0.Coords) (w : BitVec 32) (h : k0_cond1 i w = 1#1) : ¬ k0_cond3 i w = 1#1 := by
  rw [cond1_iff] at h; rw [cond3_iff]; omega

/-- A point that does not copy the weights is not the first, and its expert is the block before's. -/
theorem not_reload (i : grid0.Coords) (here prev : BitVec 32) (h : ¬ reload i here prev = 1#1) : 0 < (i 0).val ∧ here = prev := by
  have hl : (i 0).val < 704 := (i 0).isLt
  refine ⟨Nat.pos_of_ne_zero fun h0 => h ?_, Classical.byContradiction fun hne => h ?_⟩
  · simp only [reload, h0, Scalar.cmpi, Scalar.extui, Scalar.ori, IntOp.cmpi, IntOp.ori]
    cases here != prev <;> rfl
  · have hb : (here != prev) = true := bne_iff_ne.2 hne
    simp only [reload, Scalar.cmpi, Scalar.extui, Scalar.ori, IntOp.cmpi, IntOp.ori, hb]
    cases BitVec.ofNat 32 (i 0).val == 0#32 <;> rfl

/-- The tables' contents as the region reads them. -/
def tables (T0 : S704.Idx → Elt F .i32) (T1 : S1.Idx → Elt F .i32) : pre0.Contents (Elt F) :=
  fun | ⟨0, _⟩ => T0 | ⟨1, _⟩ => T1 | ⟨_ + 2, h⟩ => absurd h (by simp)

variable (T0 : S704.Idx → Elt F .i32) (T1 : S1.Idx → Elt F .i32)

/-- The expert of block `i`. -/
def expert (i : grid0.Coords) : ℕ := BitVec.toNat (w := 32) (T0 (ix1 (i 0)))

/-- The index maps read the block's expert. -/
theorem at_eq (i : grid0.Coords) :
    (tables T0 T1).at 0 (Rect.unit (s := S704) ![(Scalar.indexCast (BitVec.ofNat 32 (i 0).val)).toNat] S1.size (k0_off1_inb i)) numel1_S1 = T0 (ix1 (i 0)) := by
  show T0 _ = T0 _
  refine congrArg T0 ?_
  funext a; apply Fin.ext; fin_cases a
  show (BitVec.ofNat 32 (i 0).val).toNat + _ = (i 0).val
  rw [toNat_point _ (i 0).isLt]
  simp

/-- Each weight window takes the whole of its block's expert, in the first direction. -/
theorem index1 (i : grid0.Coords) : cc0_transform_1 k0_off1_inb numel1_S1 (tables T0 T1) i = ![0, expert T0 i, 0, 0] := by
  exact congrArg (fun e : BitVec 32 => ![0, e.toNat, 0, 0]) (at_eq T0 T1 i)
theorem index2 (i : grid0.Coords) : cc0_transform_2 k0_off1_inb numel1_S1 (tables T0 T1) i = ![0, expert T0 i, 0, 0] := by
  exact congrArg (fun e : BitVec 32 => ![0, e.toNat, 0, 0]) (at_eq T0 T1 i)
theorem index3 (i : grid0.Coords) : cc0_transform_3 k0_off1_inb numel1_S1 (tables T0 T1) i = ![0, expert T0 i, 0, 0] := by
  exact congrArg (fun e : BitVec 32 => ![0, e.toNat, 0, 0]) (at_eq T0 T1 i)

/-- Every table of experts below 64 gives blocks inside the arrays. -/
theorem ok_tables (h : ∀ i : grid0.Coords, expert T0 i < 64) : ok0 (tables T0 T1) := by
  refine ⟨fun i => ⟨?_, .inl rfl⟩, fun i => ⟨?_, .inl rfl⟩, fun i => ⟨?_, .inl rfl⟩⟩
  all_goals
    have := h i
    simp only [index1, index2, index3]
    intro a
    fin_cases a <;> simp [S1x1x1024x256, S2x64x1024x256, S1x1x256x1024, S2x64x256x1024] <;> omega

end Cert.KernelIdeal.Experts
end
-- ==== Proof.ExpertsRun.lean ====
/- The expert kernel's launch: from tables whose experts are in range every execution terminates, the arguments
   end unchanged, and the output array holds, block by block, what its point leaves. -/
module

public import proofs.«01_k».proof.Proof.ExpertsCfg
public import Idealize.ShloMosaic.Lib.Claim
public import Idealize.ShloMosaic.Lib.Pipeline.Kit
public import Idealize.ShloMosaic.Lib.Pipeline.FrameBody
public import Idealize.ShloMosaic.Lib.Pipeline.Covers
public import Idealize.ShloMosaic.Lib.Writes
public import Idealize.ShloMosaic.Adequacy
public import Idealize.ShloMosaic.Init

@[expose] public section

set_option maxRecDepth 16384

noncomputable section

namespace Cert.KernelIdeal.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (T0 : S704.Idx → Elt F .i32) (T1 : S1.Idx → Elt F .i32) (hE : ∀ i : grid0.Coords, expert T0 i < 64)
variable (m : (ℓ : Loc nD τ sig) → Buf (Elt F) ℓ) (ρ : Dev nD → PrngReg)

/-- The pipeline at the tables' contents. -/
def adm : (pcfg0 (F := F)).Adm := ⟨tables T0 T1, ok_tables T0 T1 hE⟩
abbrev cfgA : Cfg sig Λ₀ := cfg0 (adm T0 T1 hE)
abbrev pcs : Fin 1 → Cfg sig Λ₀ := Pipeline.pin (pcfgs (F := F)) fun _ => adm T0 T1 hE

/-- Point `t`'s coordinates and its staging buffers. -/
abbrev crd (t : Fin (cfgA T0 T1 hE).N) : grid0.Coords := grid0.coords t
abbrev st0 (t : Fin (cfgA T0 T1 hE).N) : Memref sig .tc .vmem S256x1024 .f32 := spec0_0.stage ((cfgA T0 T1 hE).slots t (0 : Fin 5))
abbrev hs0 (t : Fin (cfgA T0 T1 hE).N) : (st0 T0 T1 hE t).IsWhole := hstage0_0 (((cfgA T0 T1 hE).slots t (0 : Fin 5)).cast nbuf0_0)
abbrev st1 (t : Fin (cfgA T0 T1 hE).N) : Memref sig .tc .vmem S1x1x1024x256 .f32 := spec0_1.stage ((cfgA T0 T1 hE).slots t (1 : Fin 5))
abbrev hs1 (t : Fin (cfgA T0 T1 hE).N) : (st1 T0 T1 hE t).IsWhole := hstage0_1 (((cfgA T0 T1 hE).slots t (1 : Fin 5)).cast nbuf0_1)
abbrev st2 (t : Fin (cfgA T0 T1 hE).N) : Memref sig .tc .vmem S1x1x1024x256 .f32 := spec0_2.stage ((cfgA T0 T1 hE).slots t (2 : Fin 5))
abbrev hs2 (t : Fin (cfgA T0 T1 hE).N) : (st2 T0 T1 hE t).IsWhole := hstage0_2 (((cfgA T0 T1 hE).slots t (2 : Fin 5)).cast nbuf0_2)
abbrev st3 (t : Fin (cfgA T0 T1 hE).N) : Memref sig .tc .vmem S1x1x256x1024 .f32 := spec0_3.stage ((cfgA T0 T1 hE).slots t (3 : Fin 5))
abbrev hs3 (t : Fin (cfgA T0 T1 hE).N) : (st3 T0 T1 hE t).IsWhole := hstage0_3 (((cfgA T0 T1 hE).slots t (3 : Fin 5)).cast nbuf0_3)
abbrev st4 (t : Fin (cfgA T0 T1 hE).N) : Memref sig .tc .vmem S256x1024 .f32 := spec0_4.stage ((cfgA T0 T1 hE).slots t (4 : Fin 5))
abbrev hs4 (t : Fin (cfgA T0 T1 hE).N) : (st4 T0 T1 hE t).IsWhole := hstage0_4 (((cfgA T0 T1 hE).slots t (4 : Fin 5)).cast nbuf0_4)

/-- Window `w`'s block at point `t`, read off its array at launch. -/
def iblk (c : Dev nD) (w : Fin (cfgA T0 T1 hE).W) (t : Fin (cfgA T0 T1 hE).N) : (((cfgA T0 T1 hE).win w).xblock (crd T0 T1 hE t)).Idx → Elt F ((cfgA T0 T1 hE).win w).elt :=
  (((cfgA T0 T1 hE).win w).blk t).view.read (Elt F) ((s₀ m ρ).mem (((cfgA T0 T1 hE).win w).arr.view.loc (c : Thread nD τ)))

/-- The grid has 704 points. -/
theorem lt_N (t : Fin (cfgA T0 T1 hE).N) : t.val < 704 := lt_of_lt_of_eq t.isLt N_0

/-- The windows' blocks are named by the point's number and by its expert. -/
theorem idx (t : Fin (cfgA T0 T1 hE).N) :
    ((cfgA T0 T1 hE).win (0 : Fin 5)).index t = ![t.val, 0] ∧ ((cfgA T0 T1 hE).win (1 : Fin 5)).index t = ![0, expert T0 (crd T0 T1 hE t), 0, 0]
    ∧ ((cfgA T0 T1 hE).win (2 : Fin 5)).index t = ![0, expert T0 (crd T0 T1 hE t), 0, 0] ∧ ((cfgA T0 T1 hE).win (3 : Fin 5)).index t = ![0, expert T0 (crd T0 T1 hE t), 0, 0]
    ∧ ((cfgA T0 T1 hE).win (4 : Fin 5)).index t = ![t.val, 0] := by
  have ht : (grid0.coords t 0).val = t.val := coords_val t
  have h0 : cc0_transform_0 (grid0.coords t) = ![t.val, 0] := by
    simp only [cc0_transform_0, ht, toNat_point t.val (lt_N T0 T1 hE t)]; rfl
  refine ⟨h0, index1 T0 T1 _, index2 T0 T1 _, index3 T0 T1 _, h0⟩

/-- A point's blocks as entries of the arrays. -/
theorem iblk0_at (c : Dev nD) (t : Fin (cfgA T0 T1 hE).N) (a : Fin 256) (b : Fin 1024) :
    (iblk T0 T1 hE m ρ c (0 : Fin 5) t : S256x1024.Idx → Elt F .f32) (ix2 a b)
      = m ((c : Thread nD τ).loc main_arg2) (ix2 ⟨t.val * 256 + a.val, by have := lt_N T0 T1 hE t; omega⟩ b) := by
  blk_ext [iblk, idx T0 T1 hE t]
theorem iblk1_at (c : Dev nD) (t : Fin (cfgA T0 T1 hE).N) (a : Fin 1024) (b : Fin 256) :
    (iblk T0 T1 hE m ρ c (1 : Fin 5) t : S1x1x1024x256.Idx → Elt F .f32) (ix4 0 0 a b)
      = m ((c : Thread nD τ).loc main_arg3) (ix4 0 ⟨expert T0 (crd T0 T1 hE t), hE _⟩ a b) := by
  blk_ext [iblk, idx T0 T1 hE t]
theorem iblk2_at (c : Dev nD) (t : Fin (cfgA T0 T1 hE).N) (a : Fin 1024) (b : Fin 256) :
    (iblk T0 T1 hE m ρ c (2 : Fin 5) t : S1x1x1024x256.Idx → Elt F .f32) (ix4 0 0 a b)
      = m ((c : Thread nD τ).loc main_arg4) (ix4 0 ⟨expert T0 (crd T0 T1 hE t), hE _⟩ a b) := by
  blk_ext [iblk, idx T0 T1 hE t]
theorem iblk3_at (c : Dev nD) (t : Fin (cfgA T0 T1 hE).N) (a : Fin 256) (b : Fin 1024) :
    (iblk T0 T1 hE m ρ c (3 : Fin 5) t : S1x1x256x1024.Idx → Elt F .f32) (ix4 0 0 a b)
      = m ((c : Thread nD τ).loc main_arg5) (ix4 0 ⟨expert T0 (crd T0 T1 hE t), hE _⟩ a b) := by
  blk_ext [iblk, idx T0 T1 hE t]

/-- A block of one expert in one direction is its entries at the last two axes. -/
theorem ext_last {α : Type} {p q : ℕ} {X Y : (⟨4, ![1, 1, p, q]⟩ : Shape).Idx → α} (h : ∀ (a : Fin p) (b : Fin q), X (ix4 0 0 a b) = Y (ix4 0 0 a b)) : X = Y := by
  funext y
  have e : y = ix4 0 0 (y 2) (y 3) := by
    funext a; fin_cases a <;> first | rfl | exact Subsingleton.elim (α := Fin 1) _ _
  rw [e]; exact h _ _

/-- Two points of one expert have the same weight blocks. -/
theorem iblk1_congr (c : Dev nD) (t t' : Fin (cfgA T0 T1 hE).N) (h : expert T0 (crd T0 T1 hE t) = expert T0 (crd T0 T1 hE t')) :
    (iblk T0 T1 hE m ρ c (1 : Fin 5) t : S1x1x1024x256.Idx → Elt F .f32) = iblk T0 T1 hE m ρ c (1 : Fin 5) t' :=
  ext_last fun a b => (iblk1_at T0 T1 hE m ρ c t a b).trans (by simp only [h]; exact (iblk1_at T0 T1 hE m ρ c t' a b).symm)
theorem iblk2_congr (c : Dev nD) (t t' : Fin (cfgA T0 T1 hE).N) (h : expert T0 (crd T0 T1 hE t) = expert T0 (crd T0 T1 hE t')) :
    (iblk T0 T1 hE m ρ c (2 : Fin 5) t : S1x1x1024x256.Idx → Elt F .f32) = iblk T0 T1 hE m ρ c (2 : Fin 5) t' :=
  ext_last fun a b => (iblk2_at T0 T1 hE m ρ c t a b).trans (by simp only [h]; exact (iblk2_at T0 T1 hE m ρ c t' a b).symm)
theorem iblk3_congr (c : Dev nD) (t t' : Fin (cfgA T0 T1 hE).N) (h : expert T0 (crd T0 T1 hE t) = expert T0 (crd T0 T1 hE t')) :
    (iblk T0 T1 hE m ρ c (3 : Fin 5) t : S1x1x256x1024.Idx → Elt F .f32) = iblk T0 T1 hE m ρ c (3 : Fin 5) t' :=
  ext_last fun a b => (iblk3_at T0 T1 hE m ρ c t a b).trans (by simp only [h]; exact (iblk3_at T0 T1 hE m ρ c t' a b).symm)

/-! ## What each point leaves -/

/-- The weights of point `t`'s expert as the scratch buffers hold them. -/
def wA (c : Dev nD) (t : Fin (cfgA T0 T1 hE).N) : S1024x512.Idx → Elt F .bf16 := gateUp (iblk T0 T1 hE m ρ c (1 : Fin 5) t) (iblk T0 T1 hE m ρ c (2 : Fin 5) t)
def wB (c : Dev nD) (t : Fin (cfgA T0 T1 hE).N) : S256x1024.Idx → Elt F .bf16 := k0_pay3 (iblk T0 T1 hE m ρ c (3 : Fin 5) t)

/-- The output block after point `t`: the expert of the token block if the block is used, zeros if not. -/
def left (c : Dev nD) (t : Fin (cfgA T0 T1 hE).N) : S256x1024.Idx → Elt F .f32 :=
  if k0_cond1 (crd T0 T1 hE t) (usedW T1) = 1#1 then k0_pay4 (iblk T0 T1 hE m ρ c (0 : Fin 5) t) (wA T0 T1 hE m ρ c t) (wB T0 T1 hE m ρ c t) else k0_pay5 (F := F)

/-- Before point `n` the scratch buffers hold the weights of the block before, if there is one and it is used. -/
def Kept (c : Dev nD) (n : ℕ) (a : Buf (Elt F) ((c : Thread nD τ).loc cc0_scratch0)) (b : Buf (Elt F) ((c : Thread nD τ).loc cc0_scratch1)) : Prop :=
  ∀ t : Fin (cfgA T0 T1 hE).N, t.val + 1 = n → k0_cond1 (crd T0 T1 hE t) (usedW T1) = 1#1 →
    scrA.view.read (Elt F) a = wA T0 T1 hE m ρ c t ∧ scrB.view.read (Elt F) b = wB T0 T1 hE m ρ c t

/-- The invariant: the scratch buffers so, and the body's halves of the tables. -/
def Phi (c : Dev nD) (t : Fin ((cfgA T0 T1 hE).N + 1)) : sProp 𝕄 :=
  iprop(∃ a b, ⌜Kept T0 T1 hE m ρ c t.val a b⌝ ∗ (scrA.view.loc (c : Thread nD τ) ↦{fullShare} a) ∗ (scrB.view.loc (c : Thread nD τ) ↦{fullShare} b)
    ∗ (tabE.view.loc (c : Thread nD τ) ↦{fullShare.right} T0) ∗ (tabN.view.loc (c : Thread nD τ) ↦{fullShare.right} T1))

/-- The pipeline's proof data on core `c`. -/
def dats (_ : Fin 1) (c : Dev nD) : Dat τ (Elt F) Unit ℕ (UR sig nD τ) ℕ (cfgA T0 T1 hE) c where
  A w := (s₀ m ρ).mem (((cfgA T0 T1 hE).win w).arr.view.loc (c : Thread nD τ))
  after w t := match w with
    | ⟨0, _⟩ => iblk T0 T1 hE m ρ c (0 : Fin 5) t
    | ⟨1, _⟩ => iblk T0 T1 hE m ρ c (1 : Fin 5) t
    | ⟨2, _⟩ => iblk T0 T1 hE m ρ c (2 : Fin 5) t
    | ⟨3, _⟩ => iblk T0 T1 hE m ρ c (3 : Fin 5) t
    | ⟨4, _⟩ => left T0 T1 hE m ρ c t
  Φ t := Phi T0 T1 hE m ρ c t
  q _ := fullShare
  owed _ := 0

theorem after0 (c : Dev nD) (t : Fin (cfgA T0 T1 hE).N) : (dats T0 T1 hE m ρ 0 c).after (0 : Fin 5) t = iblk T0 T1 hE m ρ c (0 : Fin 5) t := rfl
theorem after1 (c : Dev nD) (t : Fin (cfgA T0 T1 hE).N) : (dats T0 T1 hE m ρ 0 c).after (1 : Fin 5) t = iblk T0 T1 hE m ρ c (1 : Fin 5) t := rfl
theorem after2 (c : Dev nD) (t : Fin (cfgA T0 T1 hE).N) : (dats T0 T1 hE m ρ 0 c).after (2 : Fin 5) t = iblk T0 T1 hE m ρ c (2 : Fin 5) t := rfl
theorem after3 (c : Dev nD) (t : Fin (cfgA T0 T1 hE).N) : (dats T0 T1 hE m ρ 0 c).after (3 : Fin 5) t = iblk T0 T1 hE m ρ c (3 : Fin 5) t := rfl
theorem after4 (c : Dev nD) (t : Fin (cfgA T0 T1 hE).N) : (dats T0 T1 hE m ρ 0 c).after (4 : Fin 5) t = left T0 T1 hE m ρ c t := rfl

/-- Each input window's buffer holds its block when the body runs. -/
theorem before0 (c : Dev nD) (t : Fin (cfgA T0 T1 hE).N) (d) : (dats T0 T1 hE m ρ 0 c).before (0 : Fin 5) t d = iblk T0 T1 hE m ρ c (0 : Fin 5) t :=
  ((dats T0 T1 hE m ρ 0 c).before_in_eq_fetched (0 : Fin 5) rfl (fun _ => rfl) (fun _ _ _ => rfl) (fun t => by rw [after0]; unfold Dat.blockOf iblk; rfl) t d).trans
    (by unfold Dat.fetched Dat.blockOf iblk; rfl)
theorem before1 (c : Dev nD) (t : Fin (cfgA T0 T1 hE).N) (d) : (dats T0 T1 hE m ρ 0 c).before (1 : Fin 5) t d = iblk T0 T1 hE m ρ c (1 : Fin 5) t :=
  ((dats T0 T1 hE m ρ 0 c).before_in_eq_fetched (1 : Fin 5) rfl (fun _ => rfl) (fun _ _ _ => rfl) (fun t => by rw [after1]; unfold Dat.blockOf iblk; rfl) t d).trans
    (by unfold Dat.fetched Dat.blockOf iblk; rfl)
theorem before2 (c : Dev nD) (t : Fin (cfgA T0 T1 hE).N) (d) : (dats T0 T1 hE m ρ 0 c).before (2 : Fin 5) t d = iblk T0 T1 hE m ρ c (2 : Fin 5) t :=
  ((dats T0 T1 hE m ρ 0 c).before_in_eq_fetched (2 : Fin 5) rfl (fun _ => rfl) (fun _ _ _ => rfl) (fun t => by rw [after2]; unfold Dat.blockOf iblk; rfl) t d).trans
    (by unfold Dat.fetched Dat.blockOf iblk; rfl)
theorem before3 (c : Dev nD) (t : Fin (cfgA T0 T1 hE).N) (d) : (dats T0 T1 hE m ρ 0 c).before (3 : Fin 5) t d = iblk T0 T1 hE m ρ c (3 : Fin 5) t :=
  ((dats T0 T1 hE m ρ 0 c).before_in_eq_fetched (3 : Fin 5) rfl (fun _ => rfl) (fun _ _ _ => rfl) (fun t => by rw [after3]; unfold Dat.blockOf iblk; rfl) t d).trans
    (by unfold Dat.fetched Dat.blockOf iblk; rfl)

/-! ## The body at a point -/

/-- The output is stored at every point: a block is used or it is not. -/
theorem idle4 (t : Fin (cfgA T0 T1 hE).N) : (cfgA T0 T1 hE).idle (4 : Fin 5) ((cfgA T0 T1 hE).grid.coords t) = false := by
  have hw : (tables T0 T1).atD 1 ![0] = usedW T1 := by
    rw [usedW_eq]
    refine (dif_pos (fun a => by fin_cases a; decide)).trans (congrArg T1 ?_)
    funext a; apply Fin.ext; fin_cases a; rfl
  show (!(k0_cond1 (crd T0 T1 hE t) ((tables T0 T1).atD 1 ![0]) == 1#1) && !(k0_cond3 (crd T0 T1 hE t) ((tables T0 T1).atD 1 ![0]) == 1#1)) = false
  rw [hw]
  by_cases h : k0_cond1 (crd T0 T1 hE t) (usedW T1) = 1#1
  · simp [h]
  · simp [cond3_of_not _ _ h]

/-- What a used point that copies nothing finds in the scratch buffers: its own expert's weights. -/
theorem kept_here (c : Dev nD) (t : Fin (cfgA T0 T1 hE).N) (a : Buf (Elt F) ((c : Thread nD τ).loc cc0_scratch0)) (b : Buf (Elt F) ((c : Thread nD τ).loc cc0_scratch1))
    (hk : Kept T0 T1 hE m ρ c t.val a b) (h1 : k0_cond1 (crd T0 T1 hE t) (usedW T1) = 1#1)
    (h2 : ¬ reload (crd T0 T1 hE t) (hereW (crd T0 T1 hE t) T0) (prevW (crd T0 T1 hE t) T0) = 1#1) :
    scrA.view.read (Elt F) a = wA T0 T1 hE m ρ c t ∧ scrB.view.read (Elt F) b = wB T0 T1 hE m ρ c t := by
  obtain ⟨hp, he⟩ := not_reload _ _ _ h2
  have hc : (crd T0 T1 hE t 0).val = t.val := coords_val t
  have ht := t.isLt
  let t' : Fin (cfgA T0 T1 hE).N := ⟨t.val - 1, by omega⟩
  have hc' : (crd T0 T1 hE t' 0).val = t.val - 1 := coords_val t'
  rw [hereW_eq, prevW_eq _ _ hp] at he
  have hx : expert T0 (crd T0 T1 hE t) = expert T0 (crd T0 T1 hE t') := by
    unfold expert
    rw [he]
    congr 3
    apply Fin.ext
    rw [hc']; simp only [hc]
  have h1' : k0_cond1 (crd T0 T1 hE t') (usedW T1) = 1#1 := by
    rw [cond1_iff] at h1 ⊢; rw [hc'] ; rw [hc] at h1; omega
  obtain ⟨ha, hb⟩ := hk t' (by show t.val - 1 + 1 = t.val; omega) h1'
  rw [ha, hb]
  unfold wA wB
  rw [iblk1_congr T0 T1 hE m ρ c t t' hx, iblk2_congr T0 T1 hE m ρ c t t' hx, iblk3_congr T0 T1 hE m ρ c t t' hx]
  exact ⟨rfl, rfl⟩

/-- The body at point `t` on its staging buffers. -/
abbrev bodyAt (t : Fin (cfgA T0 T1 hE).N) : Prog (TpuEff nD τ sig (Elt F) Λ₀ .tc) PUnit :=
  bodyOn (crd T0 T1 hE t) (st0 T0 T1 hE t) (hs0 T0 T1 hE t) (st1 T0 T1 hE t) (hs1 T0 T1 hE t) (st2 T0 T1 hE t) (hs2 T0 T1 hE t) (st3 T0 T1 hE t) (hs3 T0 T1 hE t) (st4 T0 T1 hE t) (hs4 T0 T1 hE t)

/-- What is held before the body at point `t`. -/
abbrev pre (c : Dev nD) (t : Fin (cfgA T0 T1 hE).N) : sProp 𝕄 :=
  iprop(Phi T0 T1 hE m ρ c t.castSucc ∗ (dats T0 T1 hE m ρ 0 c).owesAt () t.castSucc
        ∗ (∃ d, owns (c : Thread nD τ) (st0 T0 T1 hE t) fullShare ((dats T0 T1 hE m ρ 0 c).before (0 : Fin 5) t d))
        ∗ (∃ d, owns (c : Thread nD τ) (st1 T0 T1 hE t) fullShare ((dats T0 T1 hE m ρ 0 c).before (1 : Fin 5) t d))
        ∗ (∃ d, owns (c : Thread nD τ) (st2 T0 T1 hE t) fullShare ((dats T0 T1 hE m ρ 0 c).before (2 : Fin 5) t d))
        ∗ (∃ d, owns (c : Thread nD τ) (st3 T0 T1 hE t) fullShare ((dats T0 T1 hE m ρ 0 c).before (3 : Fin 5) t d))
        ∗ (∃ d, owns (c : Thread nD τ) (st4 T0 T1 hE t) fullShare ((dats T0 T1 hE m ρ 0 c).before (4 : Fin 5) t d)))

/-- What is held after it. -/
abbrev post (c : Dev nD) (t : Fin (cfgA T0 T1 hE).N) : sProp 𝕄 :=
  iprop(Phi T0 T1 hE m ρ c t.succ ∗ (dats T0 T1 hE m ρ 0 c).owesAt () t.castSucc
        ∗ owns (c : Thread nD τ) (st0 T0 T1 hE t) fullShare (iblk T0 T1 hE m ρ c (0 : Fin 5) t)
        ∗ owns (c : Thread nD τ) (st1 T0 T1 hE t) fullShare (iblk T0 T1 hE m ρ c (1 : Fin 5) t)
        ∗ owns (c : Thread nD τ) (st2 T0 T1 hE t) fullShare (iblk T0 T1 hE m ρ c (2 : Fin 5) t)
        ∗ owns (c : Thread nD τ) (st3 T0 T1 hE t) fullShare (iblk T0 T1 hE m ρ c (3 : Fin 5) t)
        ∗ owns (c : Thread nD τ) (st4 T0 T1 hE t) fullShare (left T0 T1 hE m ρ c t))

set_option maxHeartbeats 4000000 in
/-- A used point that copies its expert's weights. -/
theorem body_load (c : Dev nD) (t : Fin (cfgA T0 T1 hE).N) (h1 : k0_cond1 (crd T0 T1 hE t) (usedW T1) = 1#1)
    (h2 : reload (crd T0 T1 hE t) (hereW (crd T0 T1 hE t) T0) (prevW (crd T0 T1 hE t) T0) = 1#1) :
    pre T0 T1 hE m ρ c t ⊢ wp frame (wpE (defs₀ (F := F)) Variants.none c none) Set.univ (bodyAt T0 T1 hE t) fun _ => post T0 T1 hE m ρ c t := by
  have h3 := not_cond3_of _ _ h1
  unfold pre post
  simp only [before0, before1, before2, before3]
  unfold Phi
  iintro ⟨⟨%a, %b, %hk, HSA, HSB, HTE, HTN⟩, Ho, ⟨%d0, H0⟩, ⟨%d1, H1⟩, ⟨%d2, H2⟩, ⟨%d3, H3⟩, ⟨%d4, H4⟩⟩
  iapply ((runLoad c (crd T0 T1 hE t) (st0 T0 T1 hE t) (hs0 T0 T1 hE t) (st1 T0 T1 hE t) (hs1 T0 T1 hE t) (st2 T0 T1 hE t) (hs2 T0 T1 hE t) (st3 T0 T1 hE t) (hs3 T0 T1 hE t) (st4 T0 T1 hE t) (hs4 T0 T1 hE t) T0 T1
    (iblk T0 T1 hE m ρ c (0 : Fin 5) t) (iblk T0 T1 hE m ρ c (1 : Fin 5) t) (iblk T0 T1 hE m ρ c (2 : Fin 5) t) (iblk T0 T1 hE m ρ c (3 : Fin 5) t) a b h1 h2 h3).2.2.2 _)
  unfold held
  isplitl [H0]; · iapply rep_of_owns; iexact H0
  isplitl [H1]; · iapply rep_of_owns; iexact H1
  isplitl [H2]; · iapply rep_of_owns; iexact H2
  isplitl [H3]; · iapply rep_of_owns; iexact H3
  isplitl [HTE]; · iexact HTE
  isplitl [HTN]; · iexact HTN
  isplitl [H4]; · iexists _; iexact H4
  isplitl [HSA]; · iexact HSA
  isplitl [HSB]; · iexact HSB
  iintro ⟨H0, H1, H2, H3, HTE, HTN, ⟨%e4, H4⟩, HSA, HSB⟩
  isplitl [HSA HSB HTE HTN]
  · iexists _; iexists _; isplitr; swap
    · isplitl [HSA]; · iexact HSA
      isplitl [HSB]; · iexact HSB
      isplitl [HTE]; · iexact HTE
      iexact HTN
    · ipureintro; intro t' ht' _
      have e : t' = t := Fin.ext (by simp only [Fin.val_succ] at ht'; omega)
      subst e
      exact ⟨load_scrA .., load_scrB ..⟩
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  unfold owns; iexists _; isplitr; swap
  · iexact H4
  · ipureintro
    refine (View.read_writes_of_cover _ _ outV outV.junk _ (fun y => coverLoad ..)).trans ?_
    refine (load_out ..).trans ?_
    unfold left wA wB; rw [if_pos h1]

set_option maxHeartbeats 4000000 in
/-- A used point that finds its expert's weights in the scratch buffers. -/
theorem body_keep (c : Dev nD) (t : Fin (cfgA T0 T1 hE).N) (h1 : k0_cond1 (crd T0 T1 hE t) (usedW T1) = 1#1)
    (h2 : ¬ reload (crd T0 T1 hE t) (hereW (crd T0 T1 hE t) T0) (prevW (crd T0 T1 hE t) T0) = 1#1) :
    pre T0 T1 hE m ρ c t ⊢ wp frame (wpE (defs₀ (F := F)) Variants.none c none) Set.univ (bodyAt T0 T1 hE t) fun _ => post T0 T1 hE m ρ c t := by
  have h3 := not_cond3_of _ _ h1
  unfold pre post
  simp only [before0, before1, before2, before3]
  unfold Phi
  iintro ⟨⟨%a, %b, %hk, HSA, HSB, HTE, HTN⟩, Ho, ⟨%d0, H0⟩, ⟨%d1, H1⟩, ⟨%d2, H2⟩, ⟨%d3, H3⟩, ⟨%d4, H4⟩⟩
  have hh := kept_here T0 T1 hE m ρ c t a b hk h1 h2
  iapply ((runKeep c (crd T0 T1 hE t) (st0 T0 T1 hE t) (hs0 T0 T1 hE t) (st1 T0 T1 hE t) (hs1 T0 T1 hE t) (st2 T0 T1 hE t) (hs2 T0 T1 hE t) (st3 T0 T1 hE t) (hs3 T0 T1 hE t) (st4 T0 T1 hE t) (hs4 T0 T1 hE t) T0 T1
    (iblk T0 T1 hE m ρ c (0 : Fin 5) t) (iblk T0 T1 hE m ρ c (1 : Fin 5) t) (iblk T0 T1 hE m ρ c (2 : Fin 5) t) (iblk T0 T1 hE m ρ c (3 : Fin 5) t) a b h1 h2 h3).2 _)
  unfold held
  isplitl [H0]; · iapply rep_of_owns; iexact H0
  isplitl [H1]; · iapply rep_of_owns; iexact H1
  isplitl [H2]; · iapply rep_of_owns; iexact H2
  isplitl [H3]; · iapply rep_of_owns; iexact H3
  isplitl [HTE]; · iexact HTE
  isplitl [HTN]; · iexact HTN
  isplitl [H4]; · iexists _; iexact H4
  isplitl [HSA]; · iexact HSA
  isplitl [HSB]; · iexact HSB
  iintro ⟨H0, H1, H2, H3, HTE, HTN, ⟨%e4, H4⟩, HSA, HSB⟩
  isplitl [HSA HSB HTE HTN]
  · iexists _; iexists _; isplitr; swap
    · isplitl [HSA]; · iexact HSA
      isplitl [HSB]; · iexact HSB
      isplitl [HTE]; · iexact HTE
      iexact HTN
    · ipureintro; intro t' ht' _
      have e : t' = t := Fin.ext (by simp only [Fin.val_succ] at ht'; omega)
      subst e
      exact hh
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  unfold owns; iexists _; isplitr; swap
  · iexact H4
  · ipureintro
    refine (View.read_writes_of_cover _ _ outV outV.junk _ (fun y => coverKeep ..)).trans ?_
    refine (keep_out ..).trans ?_
    unfold left; rw [if_pos h1, hh.1, hh.2]

set_option maxHeartbeats 4000000 in
/-- A point past the used blocks. -/
theorem body_zero (c : Dev nD) (t : Fin (cfgA T0 T1 hE).N) (h1 : ¬ k0_cond1 (crd T0 T1 hE t) (usedW T1) = 1#1) :
    pre T0 T1 hE m ρ c t ⊢ wp frame (wpE (defs₀ (F := F)) Variants.none c none) Set.univ (bodyAt T0 T1 hE t) fun _ => post T0 T1 hE m ρ c t := by
  have h3 := cond3_of_not _ _ h1
  unfold pre post
  simp only [before0, before1, before2, before3]
  unfold Phi
  iintro ⟨⟨%a, %b, %hk, HSA, HSB, HTE, HTN⟩, Ho, ⟨%d0, H0⟩, ⟨%d1, H1⟩, ⟨%d2, H2⟩, ⟨%d3, H3⟩, ⟨%d4, H4⟩⟩
  iapply ((runZero c (crd T0 T1 hE t) (st0 T0 T1 hE t) (hs0 T0 T1 hE t) (st1 T0 T1 hE t) (hs1 T0 T1 hE t) (st2 T0 T1 hE t) (hs2 T0 T1 hE t) (st3 T0 T1 hE t) (hs3 T0 T1 hE t) (st4 T0 T1 hE t) (hs4 T0 T1 hE t) T0 T1
    (iblk T0 T1 hE m ρ c (0 : Fin 5) t) (iblk T0 T1 hE m ρ c (1 : Fin 5) t) (iblk T0 T1 hE m ρ c (2 : Fin 5) t) (iblk T0 T1 hE m ρ c (3 : Fin 5) t) a b h1 h3).2 _)
  unfold held
  isplitl [H0]; · iapply rep_of_owns; iexact H0
  isplitl [H1]; · iapply rep_of_owns; iexact H1
  isplitl [H2]; · iapply rep_of_owns; iexact H2
  isplitl [H3]; · iapply rep_of_owns; iexact H3
  isplitl [HTE]; · iexact HTE
  isplitl [HTN]; · iexact HTN
  isplitl [H4]; · iexists _; iexact H4
  isplitl [HSA]; · iexact HSA
  isplitl [HSB]; · iexact HSB
  iintro ⟨H0, H1, H2, H3, HTE, HTN, ⟨%e4, H4⟩, HSA, HSB⟩
  isplitl [HSA HSB HTE HTN]
  · iexists _; iexists _; isplitr; swap
    · isplitl [HSA]; · iexact HSA
      isplitl [HSB]; · iexact HSB
      isplitl [HTE]; · iexact HTE
      iexact HTN
    · ipureintro; intro t' ht' hu
      have e : t' = t := Fin.ext (by simp only [Fin.val_succ] at ht'; omega)
      subst e
      exact absurd hu h1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  unfold owns; iexists _; isplitr; swap
  · iexact H4
  · ipureintro
    refine (View.read_writes_of_cover _ _ outV outV.junk _ (fun y => coverZero ..)).trans ?_
    refine (zero_out ..).trans ?_
    unfold left; rw [if_neg h1]

/-- The body's obligation at every point. -/
theorem body_obligation (c : Dev nD) : BodyObligation (dats T0 T1 hE m ρ 0 c) (defs₀ (F := F)) Variants.none () Set.univ := fun t => by
  rw [bigSep_W0]
  have hb : pre T0 T1 hE m ρ c t ⊢ wp frame (wpE (defs₀ (F := F)) Variants.none c none) Set.univ (bodyAt T0 T1 hE t) fun _ => post T0 T1 hE m ρ c t := by
    by_cases h1 : k0_cond1 (crd T0 T1 hE t) (usedW T1) = 1#1
    · by_cases h2 : reload (crd T0 T1 hE t) (hereW (crd T0 T1 hE t) T0) (prevW (crd T0 T1 hE t) T0) = 1#1
      · exact body_load T0 T1 hE m ρ c t h1 h2
      · exact body_keep T0 T1 hE m ρ c t h1 h2
    · exact body_zero T0 T1 hE m ρ c t h1
  have he := idle4 T0 T1 hE t
  rw [bigSep_W0]
  rewrite [he]
  exact hb

/-! ## The launch -/

/-- The launch's ghost state. -/
def u₀ : UR sig nD τ :=
  initOf (Pipeline.cells (pcs T0 T1 hE) ((launch0 (F := F)).cellOf_inj fun _ => adm T0 T1 hE))
    (Pipeline.launchToks (pcs T0 T1 hE) ((launch0 (F := F)).cellOf_inj fun _ => adm T0 T1 hE))

theorem share_eq (c : Dev nD) (w : Fin (cfgA T0 T1 hE).W) : (dats T0 T1 hE m ρ 0 c).share w = fullShare := by unfold Dat.share; split <;> rfl

/-- The tables as the launch hands them over, one by one. -/
theorem tables_held (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- At the first point nothing is asked of the scratch buffers; -/
theorem phi_first (c : Dev nD) :
    iprop(BI.emp ∗ Pipeline.prefHeld pre0 c (fun _ => fullShare.right) (adm T0 T1 hE).1 ∗ Pipeline.scopedRest spec0 c) ⊢ (dats T0 T1 hE m ρ 0 c).Φ 0 := by
  rw [tables_held, scopedRest0_eq, show (dats T0 T1 hE m ρ 0 c).Φ 0 = Phi T0 T1 hE m ρ c 0 from rfl]
  unfold Phi
  iintro ⟨-, ⟨HT0, HT1⟩, ⟨%a, HA⟩, ⟨%b, HB⟩⟩
  iexists a; iexists b
  isplitr
  · ipureintro; intro t ht; exact absurd ht (by simp)
  isplitl [HA]; · iexact HA
  isplitl [HB]; · iexact HB
  isplitl [HT0]; · iexact HT0
  iexact HT1

/-- at the last they are given back. -/
theorem phi_last (c : Dev nD) : (dats T0 T1 hE m ρ 0 c).Φ (Fin.last (cfgA T0 T1 hE).N) ⊢ iprop(BI.emp ∗ Pipeline.scopedRest spec0 c) := by
  rw [scopedRest0_eq, show (dats T0 T1 hE m ρ 0 c).Φ (Fin.last (cfgA T0 T1 hE).N) = Phi T0 T1 hE m ρ c (Fin.last _) from rfl]
  unfold Phi
  iintro ⟨%a, %b, -, HA, HB, -, -⟩
  isplitr; · iempintro
  isplitl [HA]
  · iexists a; iexact HA
  iexists b; iexact HB

/-- What a final state holds: every array as computed, every table as it was. -/
def Ends : PUnit × MemSt nD τ sig (Elt F) → Prop := fun r =>
  ∀ c : Dev nD, (∀ w : Fin (cfgA T0 T1 hE).W, r.2.mem (((cfgA T0 T1 hE).win w).arr.view.loc (c : Thread nD τ)) = (dats T0 T1 hE m ρ 0 c).arrAt w (cfgA T0 T1 hE).N)
    ∧ ∀ j, r.2.mem ((c : Thread nD τ).loc (pre0.ref j)) = (adm T0 T1 hE).1 j

/-- The memory's tables are these. -/
abbrev Holds : Prop := (∀ c : Dev nD, m ((c : Thread nD τ).loc main_arg0) = T0) ∧ (∀ c : Dev nD, m ((c : Thread nD τ).loc main_arg1) = T1)

theorem tables_eq (hp : Holds T0 T1 m) (c : Dev nD) (j : Fin 2) : m ((c : Thread nD τ).loc (pre0.ref j)) = (adm T0 T1 hE).1 j := by
  fin_cases j
  · exact hp.1 c
  · exact hp.2 c

set_option backward.isDefEq.respectTransparency.types false in
set_option maxHeartbeats 4000000 in
/-- From a memory that holds tables in range, every execution ends so, with every semaphore at zero. -/
theorem run_quiescent (hp : Holds T0 T1 m) : θ_run (defs (F := F)) (onTc (τ := τ) (main (F := F))) (s₀ m ρ) (fun r => Ends T0 T1 hE m ρ r ∧ r.2.sem = fun _ => 0) :=
  Pipeline.θ_run_region_noSem_pf_quiescent pcfgs (fun _ => adm T0 T1 hE) (dats T0 T1 hE m ρ) () ((launch0 (F := F)).cellOf_inj fun _ => adm T0 T1 hE) (0 : Fin 1)
    (launch0 (F := F)).win.to₀ (launch0 (F := F)).pre emb₁ defs₀ Variants.none m ρ main
    (hbody := fun c => (body_obligation T0 T1 hE m ρ c).loose) (hne := (launch0 (F := F)).block_pos)
    (harr := (launch0 (F := F)).arr_whole) (hstage := (launch0 (F := F)).stage_whole) (howed := fun _ _ => rfl)
    (u₀ := u₀ T0 T1 hE) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T0 T1 hE) (dats T0 T1 hE m ρ) 0 (launch0 (F := F)).win.arr_inj c (launch0 (F := F)).arr_whole
      (share_eq T0 T1 hE m ρ c) _ _ fun _ => rfl)
    (hpf := tables_eq T0 T1 hE m hp)
    (X := fun _ => iprop(emp)) (Y := fun _ => iprop(emp)) (Z := fun _ => iprop(emp))
    (hX := fun c => by rw [unscopedRestP0_eq]; iintro -; isplitr <;> iempintro)
    (hin := phi_first T0 T1 hE m ρ)
    (hout := phi_last T0 T1 hE m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The output array, entry by entry: row `r` of it is row `r % 256` of what point `r / 256` leaves. -/
def result (c : Dev nD) : Buf (Elt F) ((c : Thread nD τ).loc main_v0) := fun j : S180224x1024.Idx =>
  left T0 T1 hE m ρ c ⟨(j 0).val / 256, lt_of_lt_of_eq (by have : (j 0).val < 180224 := (j 0).isLt; omega : (j 0).val / 256 < 704) N_0.symm⟩
    (ix2 ⟨(j 0).val % 256, Nat.mod_lt _ (by decide)⟩ (j 1))

/-- Every block of the output is some point's. -/
theorem covers4 : ((cfgA T0 T1 hE).win (4 : Fin 5)).Covers := by
  refine Window.covers_of_index_surj _ rfl ?_ fun β => ?_
  · exact (by decide : ∀ a, 0 < S256x1024.size a)
  · have h0 : (β (0 : Fin 2)).val < 704 := lt_of_lt_of_eq (β (0 : Fin 2)).isLt (by show (180224 + 255) / 256 = 704; rfl)
    have h1 : (β (1 : Fin 2)).val < 1 := lt_of_lt_of_eq (β (1 : Fin 2)).isLt (by show (1024 + 1023) / 1024 = 1; rfl)
    refine ⟨⟨(β (0 : Fin 2)).val, lt_of_lt_of_eq h0 N_0.symm⟩, fun a => ?_⟩
    rw [(idx T0 T1 hE _).2.2.2.2]
    revert a
    refine Fin.forall_fin_two.2 ⟨rfl, ?_⟩
    show 0 = (β (1 : Fin 2)).val
    omega

/-- The output array ends as `result`. -/
theorem final (c : Dev nD) : (dats T0 T1 hE m ρ 0 c).arrAt (4 : Fin 5) (cfgA T0 T1 hE).N = result T0 T1 hE m ρ c := by
  refine (dats T0 T1 hE m ρ 0 c).arrAt_eq_of_covers (4 : Fin 5) _ ?_ fun t _ y => ?_
  · exact covers4 T0 T1 hE
  · refine (congrFun (after4 T0 T1 hE m ρ c t) y).trans ?_
    have e : (((cfgA T0 T1 hE).win (4 : Fin 5)).blk t).view.emb y
        = (ix2 (n0 := 180224) (n1 := 1024) ⟨t.val * 256 + (y 0).val, by have := lt_N T0 T1 hE t; have : (y 0).val < 256 := (y 0).isLt; omega⟩ (y 1)) := by
      blk_ext [idx T0 T1 hE t]
    rw [e]
    have hy : (y 0).val < 256 := (y 0).isLt
    unfold result
    congr 1
    · apply Fin.ext; show t.val = (t.val * 256 + (y 0).val) / 256; omega
    · funext a
      fin_cases a
      · apply Fin.ext; show (y 0).val = (t.val * 256 + (y 0).val) % 256; omega
      · rfl

end Cert.KernelIdeal.Experts
end
-- ==== Proof.ExpertsFrame.lean ====
/- What the precondition says of the table of experts, and the expert kernel's frame under it. -/
module

public import proofs.«01_k».proof.Proof.ExpertsRun
public import proofs.«01_k».proof.Proof.Gen.Pre_experts_in_range
public import Idealize.ShloMosaic.Lib.ReduceAll

@[expose] public section

set_option maxRecDepth 16384

noncomputable section

namespace Cert.KernelIdeal.Experts

open Cert.KernelIdeal Cert.KernelIdeal.Gen
open Idealize.ShloMosaic
open Idealize.ShloMosaic.TcCoe
open Idealize.SL.Sem

variable {F : FTy → Type} [FloatOps F]

/-- A word that is signed at least 0 and below 64 is below 64 as a natural number. -/
theorem word_lt (w : BitVec 32) (h0 : IntOp.cmpi .sge w 0#32 = 1#1) (h1 : IntOp.cmpi .slt w 64#32 = 1#1) : w.toNat < 64 := by
  revert h0 h1; unfold IntOp.cmpi
  simp only [BitVec.sle, BitVec.slt]
  have e0 : (0#32 : BitVec 32).toInt = 0 := by decide
  have e1 : (64#32 : BitVec 32).toInt = 64 := by decide
  rw [e0, e1]
  intro h0 h1
  have h0' : (0 : ℤ) ≤ w.toInt := by
    by_contra h; simp [h] at h0
  have h1' : w.toInt < 64 := by
    by_contra h; simp [h] at h1
  rw [BitVec.toInt_eq_toNat_cond] at h0' h1'
  split at h0' <;> omega

instance : Subsingleton Cert.Pre_experts_in_range.S_.Idx := ⟨fun a b => funext fun i => i.elim0⟩

/-- Under the precondition every word of the table of experts is below 64. -/
theorem words_lt (T0 : S704.Idx → BitVec 32) (x1 : S1.Idx → BitVec 32) (x2 : S180224x1024.Idx → F .f32) (x3 x4 : S2x64x1024x256.Idx → F .f32)
    (x5 : S2x64x256x1024.Idx → F .f32) (h : Cert.Pre_experts_in_range.fn (F := F) T0 x1 x2 x3 x4 x5 = fun _ => 1#1) (j : S704.Idx) : (T0 j).toNat < 64 := by
  have hj := Host.reduce_andi_all _ _ _ _ (fun i => i.elim0) (congrFun h fun i => i.elim0) j
  have hb : ∀ a b : BitVec 1, IntOp.andi a b = 1#1 → a = 1#1 ∧ b = 1#1 := by decide
  obtain ⟨ha, hb⟩ := hb _ _ hj
  exact word_lt _ ha hb

variable (T0 : S704.Idx → Elt F .i32) (T1 : S1.Idx → Elt F .i32) (hE : ∀ i : grid0.Coords, expert T0 i < 64)
variable (m : (ℓ : Loc nD τ sig) → Buf (Elt F) ℓ) (ρ : Dev nD → PrngReg)

/-- The arguments a run leaves as they were. -/
abbrev Same (r : PUnit × MemSt nD τ sig (Elt F)) (c : Dev nD) : Prop :=
  r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)

/-- A run that ends as the launch says leaves the arguments as they were. -/
theorem same_of_ends (hp : Holds T0 T1 m) (r : PUnit × MemSt nD τ sig (Elt F)) (h : Ends T0 T1 hE m ρ r) (c : Dev nD) : Same m r c :=
  ⟨((h c).2 0).trans (hp.1 c).symm, ((h c).2 1).trans (hp.2 c).symm,
    ((h c).1 (0 : Fin 5)).trans ((dats T0 T1 hE m ρ 0 c).arrAt_in (0 : Fin 5) rfl _),
    ((h c).1 (1 : Fin 5)).trans ((dats T0 T1 hE m ρ 0 c).arrAt_in (1 : Fin 5) rfl _),
    ((h c).1 (2 : Fin 5)).trans ((dats T0 T1 hE m ρ 0 c).arrAt_in (2 : Fin 5) rfl _),
    ((h c).1 (3 : Fin 5)).trans ((dats T0 T1 hE m ρ 0 c).arrAt_in (3 : Fin 5) rfl _)⟩

/-- The kernel's frame: from tables in range it terminates, leaves the arguments and ends with every semaphore at zero. -/
theorem frame_held (hE : ∀ i : grid0.Coords, expert T0 i < 64) (hp : Holds T0 T1 m) : θ_run (defs (F := F)) (onTc (τ := τ) (main (F := F))) ⟨m, fun _ => 0, ρ⟩
    (fun r => (∀ c : Dev nD, Same m r c) ∧ r.2.sem = fun _ => 0) :=
  (θ_run (defs (F := F)) _ _).mono (fun r h => ⟨fun c => same_of_ends T0 T1 hE m ρ hp r h.1 c, h.2⟩) (run_quiescent T0 T1 hE m ρ hp)

/-- The kernel's value: the output ends at `result`, the arguments as they were. -/
theorem value_held (hp : Holds T0 T1 m) : θ_run (defs (F := F)) (onTc (τ := τ) (main (F := F))) ⟨m, fun _ => 0, ρ⟩
    (fun r => ∀ c : Dev nD, r.2.mem ((c : Thread nD τ).loc main_v0) = result T0 T1 hE m ρ c ∧ Same m r c) :=
  (θ_run (defs (F := F)) _ _).mono (fun r h c => ⟨((h.1 c).1 (4 : Fin 5)).trans (final T0 T1 hE m ρ c), same_of_ends T0 T1 hE m ρ hp r h.1 c⟩) (run_quiescent T0 T1 hE m ρ hp)

/-- There is one device: its tables are every device's. -/
theorem holds_here (c₀ : Dev nD) : Holds (m ((c₀ : Thread nD τ).loc main_arg0)) (m ((c₀ : Thread nD τ).loc main_arg1)) m := by
  have e : ∀ c : Dev nD, c = c₀ := fun c => Subsingleton.elim (α := Fin 1) c c₀
  exact ⟨fun c => by rw [e c], fun c => by rw [e c]⟩

/-- The frame from the precondition. -/
theorem frame_pre (h : ∀ c : Dev nD, Cert.Pre_experts_in_range.fn (F := F) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) = fun _ => 1#1) :
    θ_run (defs (F := F)) (onTc (τ := τ) (main (F := F))) ⟨m, fun _ => 0, ρ⟩ (fun r => (∀ c : Dev nD, Same m r c) ∧ r.2.sem = fun _ => 0) :=
  frame_held _ _ m ρ (fun i => words_lt _ _ _ _ _ _ (h (0 : Fin 1)) (ix1 (i 0))) (holds_here m (0 : Fin 1))

end Cert.KernelIdeal.Experts

end
-- ==== Proof.ExpertsBits.lean ====
/- The expert kernel as lowered: its program is the idealised one's, so the frame proved there at every float holds. -/
module

public import proofs.«01_k».proof.Proof.ExpertsFrame
public import proofs.«01_k».proof.Proof.Gen.Kernel

@[expose] public section

set_option maxRecDepth 16384

noncomputable section

namespace Cert.KernelIdeal.Experts

open Idealize.ShloMosaic
open Idealize.ShloMosaic.TcCoe
open Idealize.SL.Sem

variable {F : FTy → Type} [FloatOps F]

/-- The two programs' kernel bodies are one. -/
theorem bodies_eq : @Cert.Kernel.defs₀ F _ _ = @Cert.KernelIdeal.defs₀ F _ _ := by
  unfold Cert.Kernel.defs₀ Cert.KernelIdeal.defs₀
  refine congrArg Defs.onTc ?_
  funext l x
  match l, x with
  | 0, x => rfl

/-- The two programs' tables of bodies are one. -/
theorem defs_eq : @Cert.Kernel.defs F _ _ = @Cert.KernelIdeal.defs F _ _ := by
  unfold Cert.Kernel.defs Cert.KernelIdeal.defs
  exact congrArg (Pipeline.defs (Cert.KernelIdeal.pcfgs (F := F))) bodies_eq

/-- The two programs' main functions are one. -/
theorem main_eq : @Cert.Kernel.main F _ _ = @Cert.KernelIdeal.main F _ _ := rfl

/-- A run of the lowered program is a run of the idealised one. -/
theorem run_eq (s : MemSt Cert.KernelIdeal.nD Cert.KernelIdeal.τ Cert.KernelIdeal.sig (Elt F)) (Q : PUnit × MemSt Cert.KernelIdeal.nD Cert.KernelIdeal.τ Cert.KernelIdeal.sig (Elt F) → Prop)
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q := by
  rw [defs_eq (F := F)]
  exact h

end Cert.KernelIdeal.Experts

end
-- ==== Proof.ExpertsRef.lean ====
/- The expert reference's term over the reals, element by element. -/
module

public import proofs.«01_k».proof.Proof.Gen.ReferenceIdeal
public import Idealize.ShloMosaic.Lib.Pointwise
public import Idealize.ShloMosaic.Lib.ValueIdx

@[expose] public section

set_option maxRecDepth 16384

noncomputable section

namespace Cert.ReferenceIdeal.Experts

open Cert.ReferenceIdeal Cert.ReferenceIdeal.Gen
open Idealize.ShloMosaic
open Idealize.ShloMosaic.TcCoe

/-- One row's feed-forward: `x` the row, `g` and `u` the gate and up weights, `w` one column of the down weights. -/
def ffn (x : Fin 1024 → EReal) (g u : Fin 1024 → Fin 256 → EReal) (w : Fin 256 → EReal) : EReal :=
  ∑ h : Fin 256, ((∑ k : Fin 1024, x k * g k h) * Ideal.logistic (∑ k : Fin 1024, x k * g k h) * ∑ k : Fin 1024, x k * u k h) * w h

/-- Equal operands give equal feed-forwards. -/
theorem ffn_congr {x x' : Fin 1024 → EReal} {g g' u u' : Fin 1024 → Fin 256 → EReal} {w w' : Fin 256 → EReal} (hx : ∀ k, x k = x' k)
    (hg : ∀ k h, g k h = g' k h) (hu : ∀ k h, u k h = u' k h) (hw : ∀ h, w h = w' h) : ffn x g u w = ffn x' g' u' w' := by
  obtain rfl : x = x' := funext hx
  obtain rfl : g = g' := funext fun k => funext (hg k)
  obtain rfl : u = u' := funext fun k => funext (hu k)
  obtain rfl : w = w' := funext hw
  rfl

/-- A row's block. -/
def blk (r : Fin 180224) : Fin 704 := ⟨r.val / 256, by omega⟩

/-- Dimension numbers of taking, for each of `B` indices, one slice `P × Q` of `N`. -/
abbrev sliceDims (N P Q B : ℕ) (wf : GatherDims.WF ⟨3, ![N, P, Q]⟩ ⟨2, ![B, 1]⟩ ⟨3, ![B, P, Q]⟩ [1, 2] [0] [] [0] [] 1 ![1, P, Q]) :
    GatherDims ⟨3, ![N, P, Q]⟩ ⟨2, ![B, 1]⟩ ⟨3, ![B, P, Q]⟩ where
  offsetDims := [1, 2]
  collapsedSliceDims := [0]
  operandBatchingDims := []
  startIndicesBatchingDims := []
  startIndexMap := [0]
  indexVectorDim := 1
  sliceSizes := ![1, P, Q]
  wf := wf

/-- Taking slices reads, at slice `b`, the operand's slice of the index, read signed and clamped into range. -/
theorem take_slice {α : Type} {N P Q B w : ℕ} (hN : 0 < N)
    (wf : GatherDims.WF ⟨3, ![N, P, Q]⟩ ⟨2, ![B, 1]⟩ ⟨3, ![B, P, Q]⟩ [1, 2] [0] [] [0] [] 1 ![1, P, Q])
    (x : (⟨3, ![N, P, Q]⟩ : Shape).Idx → α) (idx : IVec ⟨2, ![B, 1]⟩ w) (b : Fin B) (p : Fin P) (q : Fin Q) :
    Host.gather (sliceDims N P Q B wf) x idx (ix3 b p q) = x (ix3 ⟨min (idx (ix2 b 0)).toInt.toNat (N - 1), by omega⟩ p q) := by
  unfold Host.gather
  congr 1
  funext a
  refine Fin.ext ?_
  show (sliceDims N P Q B wf).start (ix3 b p q) idx a + (sliceDims N P Q B wf).batchCoord (ix3 b p q) a
      + (sliceDims N P Q B wf).offCoord (ix3 b p q) a = _
  rw [GatherDims.batchCoord_eq_zero _ _ _ List.not_mem_nil]
  have ha : a = 0 ∨ a = 1 ∨ a = 2 := by
    match a with
    | ⟨0, _⟩ => exact .inl rfl
    | ⟨1, _⟩ => exact .inr (.inl rfl)
    | ⟨2, _⟩ => exact .inr (.inr rfl)
  rcases ha with rfl | rfl | rfl
  · rw [GatherDims.offCoord_eq_zero _ _ _ (fun h => ((GatherDims.mem_sKept _ _).mp h).1 (List.mem_singleton.mpr rfl))]
    unfold GatherDims.start
    rw [dif_pos (show (0 : Fin 3) ∈ (sliceDims N P Q B wf).startIndexMap from List.mem_singleton.mpr rfl)]
    have hsi : (sliceDims N P Q B wf).siIdx (ix3 b p q) ⟨List.idxOf (0 : Fin 3) (sliceDims N P Q B wf).startIndexMap,
        List.idxOf_lt_length_iff.2 (List.mem_singleton.mpr rfl)⟩ = ix2 b 0 := by
      funext e; refine Fin.ext ?_
      match e with
      | ⟨0, _⟩ => rfl
      | ⟨1, _⟩ => rfl
    rw [hsi]
    rfl
  · unfold GatherDims.start
    rw [dif_neg (by simp)]
    simp only [Nat.zero_add, Nat.add_zero]
    unfold GatherDims.offCoord
    rw [dif_pos ((GatherDims.mem_sKept _ _).mpr ⟨(by decide : (1 : Fin 3) ∉ [(0 : Fin 3)]), List.not_mem_nil⟩)]
    rfl
  · unfold GatherDims.start
    rw [dif_neg (by simp)]
    simp only [Nat.zero_add, Nat.add_zero]
    unfold GatherDims.offCoord
    rw [dif_pos ((GatherDims.mem_sKept _ _).mpr ⟨(by decide : (2 : Fin 3) ∉ [(0 : Fin 3)]), List.not_mem_nil⟩)]
    rfl

/-- The experts' indices as the reference takes them: a negative one counts from the end. -/
def wrapped (T0 : IVec S704 32) : IVec S704x1 32 :=
  broadcastInDim S704x1 ![0] bcast_S704_S704x1_0 (select (cmpi .slt T0 (broadcastInDim S704 ![] bcast_S_S704 (constantI S_ 32 0#32)))
    (addi T0 (broadcastInDim S704 ![] bcast_S_S704 (constantI S_ 32 64#32))) T0)

/-- An index in range is taken as it is. -/
theorem wrapped_apply (T0 : IVec S704 32) (b : Fin 704) (h : (T0 (ix1 b)).toNat < 64) : wrapped T0 (ix2 b 0) = T0 (ix1 b) := by
  unfold wrapped
  pointwise
  have hz : IntOp.cmpi .slt (T0 (ix1 b)) 0#32 = 0#1 := by
    unfold IntOp.cmpi
    simp only [BitVec.slt]
    rw [BitVec.toInt_eq_toNat_of_lt (by omega)]
    have : ¬ ((T0 (ix1 b)).toNat : ℤ) < 0 := by omega
    simp [this]
  rw [hz]
  rfl

/-- The gate weights of each block's expert (the up weights likewise). -/
def takeIn (T0 : IVec S704 32) (w : FVec Ideal S2x64x1024x256 .f32) : FVec Ideal S704x1024x256 .f32 :=
  Host.gather gather_S64x1024x256_S704x1_S704x1024x256_12_0_n_n_0_1_11024256
    (shapeCast _ (extractStridedSlice S1x64x1024x256 ![0, 0, 0, 0] w slices_S2x64x1024x256_S1x64x1024x256_0_0_0_0) shapeCasts_S1x64x1024x256_S64x1024x256) (wrapped T0)

/-- The down weights of each block's expert. -/
def takeOut (T0 : IVec S704 32) (w : FVec Ideal S2x64x256x1024 .f32) : FVec Ideal S704x256x1024 .f32 :=
  Host.gather gather_S64x256x1024_S704x1_S704x256x1024_12_0_n_n_0_1_12561024
    (shapeCast _ (extractStridedSlice S1x64x256x1024 ![0, 0, 0, 0] w slices_S2x64x256x1024_S1x64x256x1024_0_0_0_0) shapeCasts_S1x64x256x1024_S64x256x1024) (wrapped T0)

/-- A word below 64 read signed and clamped is itself. -/
theorem clamp_word (w : BitVec 32) (h : w.toNat < 64) : min w.toInt.toNat (64 - 1) = w.toNat := by
  rw [BitVec.toInt_eq_toNat_of_lt (by omega)]; omega

theorem takeIn_apply (T0 : IVec S704 32) (w : FVec Ideal S2x64x1024x256 .f32) (b : Fin 704) (p : Fin 1024) (q : Fin 256) (h : (T0 (ix1 b)).toNat < 64) :
    takeIn T0 w (ix3 b p q) = w (ix4 0 ⟨(T0 (ix1 b)).toNat, h⟩ p q) := by
  unfold takeIn
  refine (take_slice (by decide) gather_S64x1024x256_S704x1_S704x1024x256_12_0_n_n_0_1_11024256_wf _ _ b p q).trans ?_
  pointwise
  congr 1
  refine (ix4_inj ..).2 ⟨rfl, Fin.ext ?_, rfl, rfl⟩
  show min (wrapped T0 (ix2 b 0)).toInt.toNat (64 - 1) = (T0 (ix1 b)).toNat
  rw [wrapped_apply T0 b h, clamp_word _ h]

theorem takeOut_apply (T0 : IVec S704 32) (w : FVec Ideal S2x64x256x1024 .f32) (b : Fin 704) (p : Fin 256) (q : Fin 1024) (h : (T0 (ix1 b)).toNat < 64) :
    takeOut T0 w (ix3 b p q) = w (ix4 0 ⟨(T0 (ix1 b)).toNat, h⟩ p q) := by
  unfold takeOut
  refine (take_slice (by decide) gather_S64x256x1024_S704x1_S704x256x1024_12_0_n_n_0_1_12561024_wf _ _ b p q).trans ?_
  pointwise
  congr 1
  refine (ix4_inj ..).2 ⟨rfl, Fin.ext ?_, rfl, rfl⟩
  show min (wrapped T0 (ix2 b 0)).toInt.toNat (64 - 1) = (T0 (ix1 b)).toNat
  rw [wrapped_apply T0 b h, clamp_word _ h]

/-- The reference on the weights taken: the rows of every block through its expert, the unused blocks zero. -/
def core (T1 : IVec S1 32) (x : FVec Ideal S180224x1024 .f32) (g u : FVec Ideal S704x1024x256 .f32) (w : FVec Ideal S704x256x1024 .f32) : FVec Ideal S180224x1024 .f32 :=
  shapeCast _ (select (broadcastInDim S704x256x1024 ![0, 1, 2] bcast_S704x1x1_S704x256x1024_0_1_2 (broadcastInDim S704x1x1 ![0] bcast_S704_S704x1x1_0
      (cmpi .slt (iotaInDim S704 32 0) (broadcastInDim S704 ![] bcast_S_S704 (shapeCast _ T1 shapeCasts_S1_S_)))))
    (Host.dotGeneral dot_S704x256x256_S704x256x1024_S704x256x1024_2_1_1_2_0_0 none
      (mulf (mulf (Host.dotGeneral dot_S704x256x1024_S704x1024x256_S704x256x256_2_1_1_2_0_0 none (shapeCast _ x shapeCasts_S180224x1024_S704x256x1024) g)
          (Host.divf (broadcastInDim S704x256x256 ![] bcast_S_S704x256x256 (constant S_ .f32 0x3F800000#32))
            (addf (broadcastInDim S704x256x256 ![] bcast_S_S704x256x256 (constant S_ .f32 0x3F800000#32))
              (Host.exp (Host.negf (Host.dotGeneral dot_S704x256x1024_S704x1024x256_S704x256x256_2_1_1_2_0_0 none (shapeCast _ x shapeCasts_S180224x1024_S704x256x1024) g))))))
        (Host.dotGeneral dot_S704x256x1024_S704x1024x256_S704x256x256_2_1_1_2_0_0 none (shapeCast _ x shapeCasts_S180224x1024_S704x256x1024) u)) w)
    (broadcastInDim S704x256x1024 ![] bcast_S_S704x256x1024 (id (constant S_ .f32 0x00000000#32)))) shapeCasts_S704x256x1024_S180224x1024

/-- The reference's term. -/
def REF (T0 : IVec S704 32) (T1 : IVec S1 32) (x : FVec Ideal S180224x1024 .f32) (w1 w2 : FVec Ideal S2x64x1024x256 .f32) (w3 : FVec Ideal S2x64x256x1024 .f32) : FVec Ideal S180224x1024 .f32 :=
  core T1 x (takeIn T0 w1) (takeIn T0 w2) (takeOut T0 w3)

/-- The reference's element in row `r`: its block's feed-forward when the block is used, else zero. -/
theorem core_apply (T1 : IVec S1 32) (x : FVec Ideal S180224x1024 .f32) (g u : FVec Ideal S704x1024x256 .f32) (w : FVec Ideal S704x256x1024 .f32) (r : Fin 180224) (d : Fin 1024) :
    core T1 x g u w (ix2 r d)
      = Scalar.select (IntOp.cmpi .slt (BitVec.ofNat 32 (r.val / 256)) (T1 (ix1 0)))
          (ffn (fun k => x (ix2 r k)) (fun k h => g (ix3 (blk r) k h)) (fun k h => u (ix3 (blk r) k h)) (fun h => w (ix3 (blk r) h d))) (0 : EReal) := by
  unfold ffn blk Ideal.logistic
  pointwise [core, id]

theorem pick_one (b : BitVec 1) (x y : EReal) (h : b = 1#1) : Scalar.select b x y = x := by subst h; rfl
theorem pick_zero (b : BitVec 1) (x y : EReal) (h : b = 0#1) : Scalar.select b x y = y := by subst h; rfl

/-- The reference's element in a row of a used block, -/
theorem ref_used (T0 : IVec S704 32) (T1 : IVec S1 32) (x : FVec Ideal S180224x1024 .f32) (w1 w2 : FVec Ideal S2x64x1024x256 .f32) (w3 : FVec Ideal S2x64x256x1024 .f32)
    (r : Fin 180224) (d : Fin 1024) (h : (T0 (ix1 (blk r))).toNat < 64) (hu : IntOp.cmpi .slt (BitVec.ofNat 32 (r.val / 256)) (T1 (ix1 0)) = 1#1) :
    REF T0 T1 x w1 w2 w3 (ix2 r d)
      = ffn (fun k => x (ix2 r k)) (fun k e => w1 (ix4 0 ⟨(T0 (ix1 (blk r))).toNat, h⟩ k e)) (fun k e => w2 (ix4 0 ⟨(T0 (ix1 (blk r))).toNat, h⟩ k e))
          (fun e => w3 (ix4 0 ⟨(T0 (ix1 (blk r))).toNat, h⟩ e d)) := by
  refine ((core_apply T1 x _ _ _ r d).trans (pick_one _ _ _ hu)).trans ?_
  exact ffn_congr (fun _ => rfl) (fun k e => takeIn_apply T0 w1 (blk r) k e h) (fun k e => takeIn_apply T0 w2 (blk r) k e h) fun e => takeOut_apply T0 w3 (blk r) e d h

/-- and of an unused one. -/
theorem ref_unused (T0 : IVec S704 32) (T1 : IVec S1 32) (x : FVec Ideal S180224x1024 .f32) (w1 w2 : FVec Ideal S2x64x1024x256 .f32) (w3 : FVec Ideal S2x64x256x1024 .f32)
    (r : Fin 180224) (d : Fin 1024) (hu : IntOp.cmpi .slt (BitVec.ofNat 32 (r.val / 256)) (T1 (ix1 0)) = 0#1) : REF T0 T1 x w1 w2 w3 (ix2 r d) = (0 : EReal) := by
  exact (core_apply T1 x _ _ _ r d).trans (pick_zero _ _ _ hu)

end Cert.ReferenceIdeal.Experts

end
-- ==== Proof.ExpertsPure.lean ====
/- The expert kernel's stored block over the reals, element by element: the gated product of the rows with the gate
   and up weights, times the down weights. -/
module

public import proofs.«01_k».proof.Proof.ExpertsOut
public import proofs.«01_k».proof.Proof.ExpertsRef
public import Idealize.ShloMosaic.Lib.Pointwise
public import Idealize.ShloMosaic.Lib.Pipeline.ValueKit

@[expose] public section

set_option maxRecDepth 16384

noncomputable section

namespace Cert.KernelIdeal.Experts

open Cert.KernelIdeal Cert.KernelIdeal.Gen
open Idealize.ShloMosaic
open Idealize.ShloMosaic.TcCoe
open Cert.ReferenceIdeal.Experts (ffn)

/-- The first scratch buffer's left half is the gate weights, -/
theorem gateUp_left (x1 x2 : FVec Ideal S1x1x1024x256 .f32) (k : Fin 1024) (e : Fin 256) :
    gateUp x1 x2 (ix2 k ⟨e.val, by omega⟩) = (x1 (ix4 0 0 k e) : EReal) := by
  unfold gateUp
  canon_tiles x h
  · exact absurd h1 (by show ¬ (e.val = 256 + (x 1).val); omega)
  · pointwise [k0_pay1]
    exact congrArg x1 ((ix4_inj ..).2 ⟨rfl, rfl, Fin.ext h0.symm, Fin.ext h1.symm⟩)

/-- and its right half the up weights. -/
theorem gateUp_right (x1 x2 : FVec Ideal S1x1x1024x256 .f32) (k : Fin 1024) (e : Fin 256) :
    gateUp x1 x2 (ix2 k ⟨256 + e.val, by omega⟩) = (x2 (ix4 0 0 k e) : EReal) := by
  unfold gateUp
  canon_tiles x h
  · pointwise [k0_pay2]
    refine congrArg x2 ((ix4_inj ..).2 ⟨rfl, rfl, Fin.ext h0.symm, Fin.ext ?_⟩)
    have h1' : 256 + e.val = 256 + (x 1).val := h1
    show (x 1).val = e.val
    omega
  · exact absurd h1 (by show ¬ (256 + e.val = (x 1).val); omega)

/-- The block a used point stores. -/
theorem pay4_apply (x : FVec Ideal S256x1024 .f32) (x1 x2 : FVec Ideal S1x1x1024x256 .f32) (x3 : FVec Ideal S1x1x256x1024 .f32) (a : Fin 256) (d : Fin 1024) :
    k0_pay4 (F := Ideal) x (gateUp x1 x2) (k0_pay3 (F := Ideal) x3) (ix2 a d)
      = ffn (fun k => x (ix2 a k)) (fun k h => x1 (ix4 0 0 k h)) (fun k h => x2 (ix4 0 0 k h)) (fun h => x3 (ix4 0 0 h d)) := by
  unfold ffn
  pointwise [k0_pay4, k0_pay3]
  simp only [gateUp_left, gateUp_right]

/-- The block an unused point stores. -/
theorem pay5_apply (a : Fin 256) (d : Fin 1024) : k0_pay5 (F := Ideal) (ix2 a d) = (0 : EReal) := by
  pointwise [k0_pay5]

end Cert.KernelIdeal.Experts

end
-- ==== Proof.ExpertsValue.lean ====
/- The expert kernel's output array over the reals is the reference's term. -/
module

public import proofs.«01_k».proof.Proof.ExpertsFrame
public import proofs.«01_k».proof.Proof.ExpertsPure
public import proofs.«01_k».proof.Proof.ExpertsRef

@[expose] public section

set_option maxRecDepth 16384

noncomputable section

namespace Cert.KernelIdeal.Experts

open Cert.KernelIdeal Cert.KernelIdeal.Gen
open Idealize.ShloMosaic
open Idealize.ShloMosaic.TcCoe
open Idealize.SL.Sem
open Cert.ReferenceIdeal.Experts (ffn ffn_congr blk REF ref_used ref_unused)

variable (T0 : S704.Idx → Elt Ideal .i32) (T1 : S1.Idx → Elt Ideal .i32) (hE : ∀ i : grid0.Coords, expert T0 i < 64)
variable (m : (ℓ : Loc nD τ sig) → Buf (Elt Ideal) ℓ) (ρ : Dev nD → PrngReg)

/-- The point of row `r`'s block. -/
abbrev pt (r : Fin 180224) : Fin (cfgA T0 T1 hE).N := ⟨r.val / 256, lt_of_lt_of_eq (by omega : r.val / 256 < 704) N_0.symm⟩

theorem bit_iff (p : Prop) [Decidable p] : p ↔ BitVec.ofBool (decide p) = 1#1 := by
  by_cases h : p <;> simp [h]

/-- The kernel's choice at a point is the reference's comparison of its block's number. -/
theorem used_iff (r : Fin 180224) : k0_cond1 (crd T0 T1 hE (pt T0 T1 hE r)) (usedW T1) = 1#1 ↔ IntOp.cmpi .slt (BitVec.ofNat 32 (r.val / 256)) (T1 (ix1 0)) = 1#1 := by
  have hc : (crd T0 T1 hE (pt T0 T1 hE r) 0).val = r.val / 256 := coords_val _
  refine (cond1_iff _ _).trans ?_
  rw [usedW_eq, hc]
  have e : (BitVec.ofNat 32 (r.val / 256)).toInt = ((r.val / 256 : ℕ) : ℤ) := by
    rw [BitVec.toInt_eq_toNat_of_lt (by rw [toNat_point _ (by omega)]; omega), toNat_point _ (by omega)]
  show _ ↔ BitVec.ofBool (BitVec.slt _ _) = 1#1
  simp only [BitVec.slt, e]
  exact bit_iff _

/-- The experts agree. -/
theorem expert_pt (r : Fin 180224) : expert T0 (crd T0 T1 hE (pt T0 T1 hE r)) = BitVec.toNat (w := 32) (T0 (ix1 (blk r))) := by
  have hc : (crd T0 T1 hE (pt T0 T1 hE r) 0) = blk r := Fin.ext (coords_val _)
  unfold expert
  rw [hc]

/-- The kernel's output is the reference's. -/
theorem result_eq (c : Dev nD) : result T0 T1 hE m ρ c
    = REF T0 T1 (m ((c : Thread nD τ).loc main_arg2)) (m ((c : Thread nD τ).loc main_arg3)) (m ((c : Thread nD τ).loc main_arg4)) (m ((c : Thread nD τ).loc main_arg5)) := by
  funext j
  obtain ⟨r, d, rfl⟩ : ∃ (r : Fin 180224) (d : Fin 1024), j = ix2 r d := ⟨j 0, j 1, eq_ix2 j⟩
  have hw : BitVec.toNat (w := 32) (T0 (ix1 (blk r))) < 64 := by rw [← expert_pt T0 T1 hE r]; exact hE _
  show left T0 T1 hE m ρ c (pt T0 T1 hE r) (ix2 ⟨r.val % 256, Nat.mod_lt _ (by decide)⟩ d) = _
  unfold left
  by_cases h : k0_cond1 (crd T0 T1 hE (pt T0 T1 hE r)) (usedW T1) = 1#1
  · refine (congrFun (if_pos h) _).trans ?_
    refine Eq.trans ?_ (ref_used T0 T1 _ _ _ _ r d hw ((used_iff T0 T1 hE r).1 h)).symm
    refine (pay4_apply (iblk T0 T1 hE m ρ c (0 : Fin 5) (pt T0 T1 hE r)) (iblk T0 T1 hE m ρ c (1 : Fin 5) (pt T0 T1 hE r)) (iblk T0 T1 hE m ρ c (2 : Fin 5) (pt T0 T1 hE r))
      (iblk T0 T1 hE m ρ c (3 : Fin 5) (pt T0 T1 hE r)) ⟨r.val % 256, Nat.mod_lt _ (by decide)⟩ d).trans ?_
    refine ffn_congr (fun k => ?_) (fun k e => ?_) (fun k e => ?_) fun e => ?_
    · refine (iblk0_at T0 T1 hE m ρ c (pt T0 T1 hE r) _ k).trans ?_
      refine congrArg (m ((c : Thread nD τ).loc main_arg2)) ((ix2_inj ..).2 ⟨Fin.ext ?_, rfl⟩)
      show r.val / 256 * 256 + r.val % 256 = r.val
      omega
    · refine (iblk1_at T0 T1 hE m ρ c (pt T0 T1 hE r) k e).trans ?_
      exact congrArg (m ((c : Thread nD τ).loc main_arg3)) ((ix4_inj ..).2 ⟨rfl, Fin.ext (expert_pt T0 T1 hE r), rfl, rfl⟩)
    · refine (iblk2_at T0 T1 hE m ρ c (pt T0 T1 hE r) k e).trans ?_
      exact congrArg (m ((c : Thread nD τ).loc main_arg4)) ((ix4_inj ..).2 ⟨rfl, Fin.ext (expert_pt T0 T1 hE r), rfl, rfl⟩)
    · refine (iblk3_at T0 T1 hE m ρ c (pt T0 T1 hE r) e d).trans ?_
      exact congrArg (m ((c : Thread nD τ).loc main_arg5)) ((ix4_inj ..).2 ⟨rfl, Fin.ext (expert_pt T0 T1 hE r), rfl, rfl⟩)
  · have h0 : IntOp.cmpi .slt (BitVec.ofNat 32 (r.val / 256)) (T1 (ix1 0)) = 0#1 := by
      have := fun e => h ((used_iff T0 T1 hE r).2 e)
      revert this
      generalize IntOp.cmpi .slt (BitVec.ofNat 32 (r.val / 256)) (T1 (ix1 0)) = b
      revert b; decide
    refine (congrFun (if_neg h) _).trans ?_
    exact (pay5_apply _ _).trans (ref_unused T0 T1 _ _ _ _ r d h0).symm

/-- The kernel's value under the precondition: its output is the reference's term of the arguments, which end as they were. -/
theorem value_pre (h : ∀ c : Dev nD, Cert.Pre_experts_in_range.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) = fun _ => 1#1) :
    θ_run (defs (F := Ideal)) (onTc (τ := τ) (main (F := Ideal))) ⟨m, fun _ => 0, ρ⟩ (fun r => ∀ c : Dev nD,
      r.2.mem ((c : Thread nD τ).loc main_v0) = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) ∧ Same m r c) := by
  have hE : ∀ i : grid0.Coords, expert (F := Ideal) (m (((0 : Fin 1) : Thread nD τ).loc main_arg0)) i < 64 :=
    fun i => words_lt _ _ _ _ _ _ (h (0 : Fin 1)) (ix1 (i 0))
  have hp := holds_here m (0 : Fin 1)
  refine (θ_run (defs (F := Ideal)) _ _).mono (fun r hr c => ⟨((hr c).1.trans (result_eq _ _ hE m ρ c)).trans ?_, (hr c).2⟩) (value_held _ _ hE m ρ hp)
  rw [hp.1 c, hp.2 c]

end Cert.KernelIdeal.Experts

end
-- ==== Proof.LayerNorm.lean ====
/- Rows over the reals: the mean, the normalized row, the row of modulation vectors that a token reads. -/
module

public import Idealize.ShloMosaic.Lib.Pointwise
public import Idealize.ShloMosaic.Lib.ValueIdx

@[expose] public section

noncomputable section

namespace Cert.LayerNorm

open Idealize.ShloMosaic

/-- The mean of a row of 1024 elements. -/
def mean (v : Fin 1024 → EReal) : EReal := Ideal.div (∑ k, v k) (Ideal.ofBits FTy.f32 1149239296#32)

/-- The row less its mean, over its standard deviation. -/
def normed (v : Fin 1024 → EReal) (k : Fin 1024) : EReal :=
  (v k - mean v) * Ideal.rsqrt (mean (fun e => (v e - mean v) * (v e - mean v)) + Ideal.ofBits FTy.f32 925353388#32)

/-- The normalized row, scaled by one and `sc` and shifted by `sh`. -/
def modulated (v sh sc : Fin 1024 → EReal) (k : Fin 1024) : EReal := normed v k * (1 + sc k) + sh k

/-- The modulation vectors' row of a token: 0 for the context's tokens, then one row for each request. -/
def tokRow (r : Fin 20480) : Fin 8 := if r.val < 4096 then 0 else ⟨1 + (r.val - 4096) / 4096, by omega⟩

theorem tokRow_val (r : Fin 20480) : (tokRow r).val = if r.val < 4096 then 0 else 1 + (r.val - 4096) / 4096 := by
  unfold tokRow; split <;> rfl

end Cert.LayerNorm

end
-- ==== Proof.InprojValue.lean ====
/- The input projection over the reals: its terms element by element, and the arrays that the kernel leaves. -/
module

public import proofs.«01_k».proof.Proof.Gen.Kernel2Ideal.Frame
public import proofs.«01_k».proof.Proof.LayerNorm
public import Idealize.ShloMosaic.Lib.Pointwise
public import Idealize.ShloMosaic.Lib.Pipeline.ValueKit

@[expose] public section

set_option maxRecDepth 16384

noncomputable section

namespace Cert.Kernel2Ideal.Inproj

open Cert.Kernel2Ideal Cert.Kernel2Ideal.Gen
open Idealize.ShloMosaic Idealize.ShloMosaic.TcCoe Idealize.SL.Sem
open Cert.LayerNorm

/-- The product the body computes, at a row and a column. -/
theorem pay4_apply (sh sc : FVec Ideal S1x1x1024 .f32) (x : FVec Ideal S256x1024 .f32) (w : FVec Ideal S1024x2688 .bf16) (a : Fin 256) (d : Fin 2688) :
    k0_pay4 (F := Ideal) sh sc x w (ix2 a d)
      = (∑ k, modulated (fun k => x (ix2 a k)) (fun k => sh (ix3 0 0 k)) (fun k => sc (ix3 0 0 k)) k * w (ix2 k d) : EReal) := by
  unfold modulated normed mean
  pointwise [k0_pay4]

/-- The weights with 96 zero columns put in after column 1056. -/
def padded (W : FVec Ideal S1024x2592 .f32) : FVec Ideal S1024x2688 .bf16 :=
  truncf .bf16 (concatenate S1024x2688 1 [⟨S1024x1056, extractStridedSlice S1024x1056 ![0, 0] W slices_S1024x2592_S1024x1056_0_0⟩,
    ⟨S1024x96, broadcastInDim S1024x96 ![] bcast_S_S1024x96 (constant (F := Ideal) S_ .f32 0x00000000#32)⟩,
    ⟨S1024x1536, extractStridedSlice S1024x1536 ![0, 1056] W slices_S1024x2592_S1024x1536_0_1056⟩] concatenates_S1024x1056_S1024x96_S1024x1536_S1024x2688_d1) bitsLt_bf16_f32

theorem padded_apply (W : FVec Ideal S1024x2592 .f32) (k : Fin 1024) (j : Fin 2688) :
    padded W (ix2 k j) = (if h : j.val < 1056 then W (ix2 k ⟨j.val, by omega⟩)
      else if h' : j.val - 1056 < 96 then 0 else W (ix2 k ⟨1056 + (j.val - 1056 - 96), by omega⟩) : EReal) := by
  pointwise [padded]

/-- One element of the projection: the token's normalized and modulated row, times a column of the weights. -/
def proj (X : FVec Ideal S20480x1024 .f32) (M : FVec Ideal S8x6x1024 .f32) (W : FVec Ideal S1024x2592 .f32) (r : Fin 20480) (j : Fin 2592) : EReal :=
  ∑ k, modulated (fun k => X (ix2 r k)) (fun k => M (ix3 (tokRow r) 0 k)) (fun k => M (ix3 (tokRow r) 1 k)) k * W (ix2 k j)

variable (m : (ℓ : Loc nD τ sig) → Buf (Elt Ideal) ℓ)

/-- The weights as the region finds them. -/
theorem V_weights (c : Dev nD) : V m c main_v4 = padded (m ((c : Thread nD τ).loc main_arg2)) := by
  show StableHlo.after hostOps0 _ _ = _
  after_results_simp <;> rfl

/-- Every window's block at every point. -/
theorem idx_val : ∀ t : Fin cfg0.N, win0_0.index t = ![t.val, 0] ∧ win0_1.index t = ![if t.val < 16 then 0 else 1 + (t.val - 16) / 16, 0, 0]
    ∧ win0_2.index t = ![0, 0] ∧ win0_3.index t = ![t.val, 0] ∧ win0_4.index t = ![t.val, 0] ∧ win0_5.index t = ![t.val, 0]
    ∧ win0_6.index t = ![t.val, 0] ∧ win0_7.index t = ![t.val, 0] ∧ win0_8.index t = ![t.val, 0] :=
  (by decide +kernel : ∀ t : Fin grid0.N, _)

/-- The token of a row of a point's block. -/
def tok (t : Fin cfg0.N) (a : Fin 256) : Fin 20480 := ⟨t.val * 256 + a.val, by have ht : t.val < 80 := t.isLt; omega⟩

theorem x_at (c : Dev nD) (t : Fin cfg0.N) (a : Fin 256) (k : Fin 1024) :
    (iblk m c 0 t (ix2 a k) : EReal) = m ((c : Thread nD τ).loc main_arg0) (ix2 (tok t a) k) := by
  unfold tok
  blk_ext [iblk, V, idx_val t]

theorem mod_at (c : Dev nD) (t : Fin cfg0.N) (a : Fin 256) (e : Fin 6) (k : Fin 1024) :
    (iblk m c 1 t (ix3 0 e k) : EReal) = m ((c : Thread nD τ).loc main_arg1) (ix3 (tokRow (tok t a)) e k) := by
  have hr := tokRow_val (tok t a)
  have htok : (tok t a).val = t.val * 256 + a.val := rfl
  blk_ext [iblk, V, idx_val t]
  rw [hr, htok]
  split_ifs <;> omega

theorem w_at (c : Dev nD) (t : Fin cfg0.N) (k : Fin 1024) (j : Fin 2688) :
    (iblk m c 2 t (ix2 k j) : EReal) = padded (m ((c : Thread nD τ).loc main_arg2)) (ix2 k j) := by
  rw [← V_weights m c]
  blk_ext [iblk, idx_val t]

/-- The first two modulation rows of a block, as the body loads them. -/
theorem row_0 (k : Fin 1024) : r0_0.idx (ix3 0 0 k) = ix3 0 0 k := by
  funext e
  refine Fin.ext ?_
  match e with
  | ⟨0, _⟩ => rfl
  | ⟨1, _⟩ => rfl
  | ⟨2, _⟩ => show 0 + 1 * k.val = k.val; omega
theorem row_1 (k : Fin 1024) : r0_1.idx (ix3 0 0 k) = ix3 0 1 k := by
  funext e
  refine Fin.ext ?_
  match e with
  | ⟨0, _⟩ => rfl
  | ⟨1, _⟩ => rfl
  | ⟨2, _⟩ => show 0 + 1 * k.val = k.val; omega

/-- The product at a point, over the arguments. -/
theorem prod_at (c : Dev nD) (t : Fin cfg0.N) (a : Fin 256) (j : Fin 2688) :
    k0_pay4 (F := Ideal) (View.ld (iblk m c 1 t) r0_0) (View.ld (iblk m c 1 t) r0_1) (iblk m c 0 t) (iblk m c 2 t) (ix2 a j)
      = (∑ k, modulated (fun k => m ((c : Thread nD τ).loc main_arg0) (ix2 (tok t a) k)) (fun k => m ((c : Thread nD τ).loc main_arg1) (ix3 (tokRow (tok t a)) 0 k))
          (fun k => m ((c : Thread nD τ).loc main_arg1) (ix3 (tokRow (tok t a)) 1 k)) k * padded (m ((c : Thread nD τ).loc main_arg2)) (ix2 k j) : EReal) := by
  refine (pay4_apply _ _ _ _ a j).trans ?_
  refine Finset.sum_congr rfl fun k _ => ?_
  refine congrArg₂ (fun (x y : EReal) => x * y) ?_ (w_at m c t k j)
  have e0 : (fun k => (iblk m c 0 t (ix2 a k) : EReal)) = fun k => m ((c : Thread nD τ).loc main_arg0) (ix2 (tok t a) k) := funext (x_at m c t a)
  have e1 : (fun k => (View.ld (iblk m c 1 t) r0_0 (ix3 0 0 k) : EReal)) = fun k => m ((c : Thread nD τ).loc main_arg1) (ix3 (tokRow (tok t a)) 0 k) :=
    funext fun k => (congrArg (iblk m c 1 t) (row_0 k)).trans (mod_at m c t a 0 k)
  have e2 : (fun k => (View.ld (iblk m c 1 t) r0_1 (ix3 0 0 k) : EReal)) = fun k => m ((c : Thread nD τ).loc main_arg1) (ix3 (tokRow (tok t a)) 1 k) :=
    funext fun k => (congrArg (iblk m c 1 t) (row_1 k)).trans (mod_at m c t a 1 k)
  exact congrFun (congr (congr (congrArg modulated e0) e1) e2) k

/-- A column before the zero columns, -/
theorem prod_low (c : Dev nD) (t : Fin cfg0.N) (a : Fin 256) (j : Fin 2688) (h : j.val < 1056) :
    k0_pay4 (F := Ideal) (View.ld (iblk m c 1 t) r0_0) (View.ld (iblk m c 1 t) r0_1) (iblk m c 0 t) (iblk m c 2 t) (ix2 a j)
      = proj (m ((c : Thread nD τ).loc main_arg0)) (m ((c : Thread nD τ).loc main_arg1)) (m ((c : Thread nD τ).loc main_arg2)) (tok t a) ⟨j.val, by omega⟩ := by
  refine (prod_at m c t a j).trans (Finset.sum_congr rfl fun k _ => ?_)
  rw [padded_apply, dif_pos h]

/-- a zero column, -/
theorem prod_zero (c : Dev nD) (t : Fin cfg0.N) (a : Fin 256) (j : Fin 2688) (h : 1056 ≤ j.val) (h' : j.val < 1152) :
    k0_pay4 (F := Ideal) (View.ld (iblk m c 1 t) r0_0) (View.ld (iblk m c 1 t) r0_1) (iblk m c 0 t) (iblk m c 2 t) (ix2 a j) = (0 : EReal) := by
  refine (prod_at m c t a j).trans (Finset.sum_eq_zero fun k _ => ?_)
  rw [padded_apply, dif_neg (by omega), dif_pos (by omega), mul_zero]

/-- and one after them. -/
theorem prod_high (c : Dev nD) (t : Fin cfg0.N) (a : Fin 256) (j : Fin 2688) (h : 1152 ≤ j.val) :
    k0_pay4 (F := Ideal) (View.ld (iblk m c 1 t) r0_0) (View.ld (iblk m c 1 t) r0_1) (iblk m c 0 t) (iblk m c 2 t) (ix2 a j)
      = proj (m ((c : Thread nD τ).loc main_arg0)) (m ((c : Thread nD τ).loc main_arg1)) (m ((c : Thread nD τ).loc main_arg2)) (tok t a) ⟨j.val - 96, by omega⟩ := by
  refine (prod_at m c t a j).trans (Finset.sum_congr rfl fun k _ => ?_)
  rw [padded_apply, dif_neg (by omega), dif_neg (by omega)]
  have e : (⟨1056 + (j.val - 1056 - 96), by omega⟩ : Fin 2592) = ⟨j.val - 96, by omega⟩ := Fin.ext (by show 1056 + (j.val - 1056 - 96) = j.val - 96; omega)
  rw [e]

/-- The projection's columns from `o` on, as an array of `n` columns. -/
def cols (n o : ℕ) (h : o + n ≤ 2592) (X : FVec Ideal S20480x1024 .f32) (M : FVec Ideal S8x6x1024 .f32) (W : FVec Ideal S1024x2592 .f32) :
    FVec Ideal ⟨2, ![20480, n]⟩ .f32 :=
  fun i => proj X M W (i 0) ⟨o + (i 1).val, by have h1 : (i 1).val < n := (i 1).isLt; omega⟩

/-- The gates' columns: 32 of the projection, then zeros. -/
def gates (X : FVec Ideal S20480x1024 .f32) (M : FVec Ideal S8x6x1024 .f32) (W : FVec Ideal S1024x2592 .f32) : FVec Ideal S20480x128 .f32 :=
  fun i => if h : (i 1).val < 32 then proj X M W (i 0) ⟨1024 + (i 1).val, by omega⟩ else (0 : EReal)

theorem cols_at (n o : ℕ) (h : o + n ≤ 2592) (X : FVec Ideal S20480x1024 .f32) (M : FVec Ideal S8x6x1024 .f32) (W : FVec Ideal S1024x2592 .f32)
    (i : (⟨2, ![20480, n]⟩ : Shape).Idx) (r : Fin 20480) (j : Fin 2592) (hr : r.val = (i 0).val) (hj : j.val = o + (i 1).val) : proj X M W r j = cols n o h X M W i := by
  unfold cols
  rw [show r = i 0 from Fin.ext hr, show j = ⟨o + (i 1).val, hj ▸ j.isLt⟩ from Fin.ext hj]

theorem gates_at (X : FVec Ideal S20480x1024 .f32) (M : FVec Ideal S8x6x1024 .f32) (W : FVec Ideal S1024x2592 .f32)
    (i : S20480x128.Idx) (r : Fin 20480) (j : Fin 128) (hr : r.val = (i 0).val) (hj : j.val = (i 1).val) :
    (if h : j.val < 32 then proj X M W r ⟨1024 + j.val, by omega⟩ else (0 : EReal)) = gates X M W i := by
  unfold gates
  obtain rfl : r = i 0 := Fin.ext hr
  obtain rfl : j = i 1 := Fin.ext hj
  rfl

/-- The columns of the queries, keys and values. -/
theorem final3 (c : Dev nD) : (dats m 0 c).arrAt 3 (cfgs 0).N
    = cols 768 0 (by decide) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  have key : ∀ (a : Fin 256) (j : Fin 768), k0_pay5 (F := Ideal) (View.ld (iblk m c 1 t) r0_0) (View.ld (iblk m c 1 t) r0_1) (iblk m c 0 t) (iblk m c 2 t) (ix2 a j)
      = k0_pay4 (F := Ideal) (View.ld (iblk m c 1 t) r0_0) (View.ld (iblk m c 1 t) r0_1) (iblk m c 0 t) (iblk m c 2 t) (ix2 a ⟨0 + j.val, by omega⟩) := by
    intro a j
    pointwise [k0_pay5]
  refine (congrArg _ (eq_ix2 y)).trans ((key (y 0) (y 1)).trans ((prod_low m c t (y 0) ⟨0 + (y 1).val, _⟩ ?_).trans (cols_at _ _ _ _ _ _ _ _ _ ?_ ?_)))
  · show 0 + (y 1).val < 1056
    have h1 : (y 1).val < 768 := (y 1).isLt
    exact (Nat.add_lt_add_left h1 _).trans_le (by decide)
  · show t.val * 256 + (y 0).val = _
    blk_simp [idx_val t]
  · show 0 + (y 1).val = _
    blk_simp [idx_val t]

/-- The columns of the output gates. -/
theorem final4 (c : Dev nD) : (dats m 0 c).arrAt 4 (cfgs 0).N
    = cols 256 768 (by decide) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  frame_out
  have key : ∀ (a : Fin 256) (j : Fin 256), k0_pay6 (F := Ideal) (View.ld (iblk m c 1 t) r0_0) (View.ld (iblk m c 1 t) r0_1) (iblk m c 0 t) (iblk m c 2 t) (ix2 a j)
      = k0_pay4 (F := Ideal) (View.ld (iblk m c 1 t) r0_0) (View.ld (iblk m c 1 t) r0_1) (iblk m c 0 t) (iblk m c 2 t) (ix2 a ⟨768 + j.val, by omega⟩) := by
    intro a j
    pointwise [k0_pay6]
  refine (congrArg _ (eq_ix2 y)).trans ((key (y 0) (y 1)).trans ((prod_low m c t (y 0) ⟨768 + (y 1).val, _⟩ ?_).trans (cols_at _ _ _ _ _ _ _ _ _ ?_ ?_)))
  · show 768 + (y 1).val < 1056
    have h1 : (y 1).val < 256 := (y 1).isLt
    exact (Nat.add_lt_add_left h1 _).trans_le (by decide)
  · show t.val * 256 + (y 0).val = _
    blk_simp [idx_val t]
  · show 768 + (y 1).val = _
    blk_simp [idx_val t]

/-- The gates. -/
theorem final5 (c : Dev nD) : (dats m 0 c).arrAt 5 (cfgs 0).N
    = gates (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  frame_out
  have key : ∀ (a : Fin 256) (j : Fin 128), k0_pay7 (F := Ideal) (View.ld (iblk m c 1 t) r0_0) (View.ld (iblk m c 1 t) r0_1) (iblk m c 0 t) (iblk m c 2 t) (ix2 a j)
      = k0_pay4 (F := Ideal) (View.ld (iblk m c 1 t) r0_0) (View.ld (iblk m c 1 t) r0_1) (iblk m c 0 t) (iblk m c 2 t) (ix2 a ⟨1024 + j.val, by omega⟩) := by
    intro a j
    pointwise [k0_pay7]
  have low : ∀ (a : Fin 256) (j : Fin 128), k0_pay7 (F := Ideal) (View.ld (iblk m c 1 t) r0_0) (View.ld (iblk m c 1 t) r0_1) (iblk m c 0 t) (iblk m c 2 t) (ix2 a j)
      = if h : j.val < 32 then proj (m ((c : Thread nD τ).loc main_arg0)) (m ((c : Thread nD τ).loc main_arg1)) (m ((c : Thread nD τ).loc main_arg2)) (tok t a) ⟨1024 + j.val, by omega⟩ else (0 : EReal) := by
    intro a j
    refine (key a j).trans ?_
    split_ifs with h
    · exact prod_low m c t a _ (by show 1024 + j.val < 1056; omega)
    · exact prod_zero m c t a _ (by show 1056 ≤ 1024 + j.val; omega) (by show 1024 + j.val < 1152; omega)
  refine (congrArg _ (eq_ix2 y)).trans ((low (y 0) (y 1)).trans (gates_at _ _ _ _ _ _ ?_ ?_))
  · show t.val * 256 + (y 0).val = _
    blk_simp [idx_val t]
  · show (y 1).val = _
    blk_simp [idx_val t]

/-- The columns of the spatial gating. -/
theorem final6 (c : Dev nD) : (dats m 0 c).arrAt 6 (cfgs 0).N
    = cols 512 1056 (by decide) (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  frame_out
  unfold k0_pay8
  frame_out
  have key : ∀ (a : Fin 256) (j : Fin 512), k0_pay1 (F := Ideal) (k0_pay4 (F := Ideal) (View.ld (iblk m c 1 t) r0_0) (View.ld (iblk m c 1 t) r0_1) (iblk m c 0 t) (iblk m c 2 t)) (ix2 a j)
      = k0_pay4 (F := Ideal) (View.ld (iblk m c 1 t) r0_0) (View.ld (iblk m c 1 t) r0_1) (iblk m c 0 t) (iblk m c 2 t) (ix2 a ⟨1152 + j.val, by omega⟩) := by
    intro a j
    pointwise [k0_pay1]
  refine (congrArg _ (eq_ix2 y)).trans ((key (y 0) (y 1)).trans ((prod_high m c t (y 0) ⟨1152 + (y 1).val, _⟩ ?_).trans (cols_at _ _ _ _ _ _ _ _ _ ?_ ?_)))
  · show 1152 ≤ 1152 + (y 1).val
    exact Nat.le_add_right_of_le (by decide)
  · show t.val * 256 + (y 0).val = _
    blk_simp [idx_val t]
  · show 1152 + (y 1).val - 96 = _
    blk_simp [idx_val t]
    omega

/-- The columns of the convolution. -/
theorem final7 (c : Dev nD) : (dats m 0 c).arrAt 7 (cfgs 0).N
    = cols 768 1568 (by decide) (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  frame_out
  unfold k0_pay8
  frame_out
  have key : ∀ (a : Fin 256) (j : Fin 768), k0_pay2 (F := Ideal) (k0_pay4 (F := Ideal) (View.ld (iblk m c 1 t) r0_0) (View.ld (iblk m c 1 t) r0_1) (iblk m c 0 t) (iblk m c 2 t)) (ix2 a j)
      = k0_pay4 (F := Ideal) (View.ld (iblk m c 1 t) r0_0) (View.ld (iblk m c 1 t) r0_1) (iblk m c 0 t) (iblk m c 2 t) (ix2 a ⟨1664 + j.val, by omega⟩) := by
    intro a j
    pointwise [k0_pay2]
  refine (congrArg _ (eq_ix2 y)).trans ((key (y 0) (y 1)).trans ((prod_high m c t (y 0) ⟨1664 + (y 1).val, _⟩ ?_).trans (cols_at _ _ _ _ _ _ _ _ _ ?_ ?_)))
  · show 1152 ≤ 1664 + (y 1).val
    exact Nat.le_add_right_of_le (by decide)
  · show t.val * 256 + (y 0).val = _
    blk_simp [idx_val t]
  · show 1664 + (y 1).val - 96 = _
    blk_simp [idx_val t]
    omega

/-- The columns of the Fourier mixing. -/
theorem final8 (c : Dev nD) : (dats m 0 c).arrAt 8 (cfgs 0).N
    = cols 256 2336 (by decide) (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8]
  frame_out
  unfold k0_pay8
  frame_out
  have key : ∀ (a : Fin 256) (j : Fin 256), k0_pay3 (F := Ideal) (k0_pay4 (F := Ideal) (View.ld (iblk m c 1 t) r0_0) (View.ld (iblk m c 1 t) r0_1) (iblk m c 0 t) (iblk m c 2 t)) (ix2 a j)
      = k0_pay4 (F := Ideal) (View.ld (iblk m c 1 t) r0_0) (View.ld (iblk m c 1 t) r0_1) (iblk m c 0 t) (iblk m c 2 t) (ix2 a ⟨2432 + j.val, by omega⟩) := by
    intro a j
    pointwise [k0_pay3]
  refine (congrArg _ (eq_ix2 y)).trans ((key (y 0) (y 1)).trans ((prod_high m c t (y 0) ⟨2432 + (y 1).val, _⟩ ?_).trans (cols_at _ _ _ _ _ _ _ _ _ ?_ ?_)))
  · show 1152 ≤ 2432 + (y 1).val
    exact Nat.le_add_right_of_le (by decide)
  · show t.val * 256 + (y 0).val = _
    blk_simp [idx_val t]
  · show 2432 + (y 1).val - 96 = _
    blk_simp [idx_val t]
    omega

/-- The kernel's run: its six results, and its arguments unchanged. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v5_0) = cols 768 0 (by decide) (m ((c.tc : Thread nD τ).loc main_arg0)) (m ((c.tc : Thread nD τ).loc main_arg1)) (m ((c.tc : Thread nD τ).loc main_arg2))
      ∧ r.2.mem ((c.tc : Thread nD τ).loc main_v5_1) = cols 256 768 (by decide) (m ((c.tc : Thread nD τ).loc main_arg0)) (m ((c.tc : Thread nD τ).loc main_arg1)) (m ((c.tc : Thread nD τ).loc main_arg2))
      ∧ r.2.mem ((c.tc : Thread nD τ).loc main_v5_2) = gates (m ((c.tc : Thread nD τ).loc main_arg0)) (m ((c.tc : Thread nD τ).loc main_arg1)) (m ((c.tc : Thread nD τ).loc main_arg2))
      ∧ r.2.mem ((c.tc : Thread nD τ).loc main_v5_3) = cols 512 1056 (by decide) (m ((c.tc : Thread nD τ).loc main_arg0)) (m ((c.tc : Thread nD τ).loc main_arg1)) (m ((c.tc : Thread nD τ).loc main_arg2))
      ∧ r.2.mem ((c.tc : Thread nD τ).loc main_v5_4) = cols 768 1568 (by decide) (m ((c.tc : Thread nD τ).loc main_arg0)) (m ((c.tc : Thread nD τ).loc main_arg1)) (m ((c.tc : Thread nD τ).loc main_arg2))
      ∧ r.2.mem ((c.tc : Thread nD τ).loc main_v5_5) = cols 256 2336 (by decide) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 3).trans (final3 m c), ((h.1 c).1 4).trans (final4 m c), ((h.1 c).1 5).trans (final5 m c),
    ((h.1 c).1 6).trans (final6 m c), ((h.1 c).1 7).trans (final7 m c), ((h.1 c).1 8).trans (final8 m c), h.2 c⟩) (θ_run_and (run_main m ρ) (unchanged m ρ))

end Cert.Kernel2Ideal.Inproj

end
-- ==== Proof.InprojRef.lean ====
/- The input projection's reference: its terms element by element. -/
module

public import proofs.«01_k».proof.Proof.Gen.Reference2Ideal.Run
public import proofs.«01_k».proof.Proof.InprojValue

@[expose] public section

set_option maxRecDepth 16384

noncomputable section

namespace Cert.Reference2Ideal.Inproj

open Cert.Reference2Ideal Cert.Reference2Ideal.Gen
open Idealize.ShloMosaic Idealize.ShloMosaic.TcCoe Idealize.SL.Sem
open Cert.LayerNorm
open Cert.Kernel2Ideal.Inproj (proj cols gates)

/-- Every row's mean, repeated along the row. -/
def means (X : FVec Ideal S20480x1024 .f32) : FVec Ideal S20480x1024 .f32 :=
  broadcastInDim S20480x1024 ![0, 1] bcast_S20480x1_S20480x1024_0_1 (Host.divf (broadcastInDim S20480x1 ![0] bcast_S20480_S20480x1_0
    (Host.reduceAdd X (constant S_ .f32 0x00000000#32) reducesTo_S20480x1024_S20480_d1 h_S_)) (broadcastInDim S20480x1 ![] bcast_S_S20480x1 (constant S_ .f32 0x44800000#32)))

theorem means_apply (X : FVec Ideal S20480x1024 .f32) (a : Fin 20480) (d : Fin 1024) : (means X (ix2 a d) : EReal) = mean fun k => X (ix2 a k) := by
  unfold mean
  pointwise [means]

/-- Every row's deviation, inverted and repeated along the row. -/
def scales (Y : FVec Ideal S20480x1024 .f32) : FVec Ideal S20480x1024 .f32 :=
  broadcastInDim S20480x1024 ![0, 1] bcast_S20480x1_S20480x1024_0_1 (Host.rsqrt (addf (Host.divf (broadcastInDim S20480x1 ![0] bcast_S20480_S20480x1_0
    (Host.reduceAdd (mulf Y Y) (constant S_ .f32 0x00000000#32) reducesTo_S20480x1024_S20480_d1 h_S_)) (broadcastInDim S20480x1 ![] bcast_S_S20480x1 (constant S_ .f32 0x44800000#32)))
    (broadcastInDim S20480x1 ![] bcast_S_S20480x1 (constant S_ .f32 0x3727C5AC#32))))

theorem scales_apply (Y : FVec Ideal S20480x1024 .f32) (a : Fin 20480) (d : Fin 1024) :
    (scales Y (ix2 a d) : EReal) = Ideal.rsqrt (mean (fun e => Y (ix2 a e) * Y (ix2 a e)) + Ideal.ofBits FTy.f32 925353388#32) := by
  unfold mean
  pointwise [scales]

/-- The rows normalized. -/
def rows (X : FVec Ideal S20480x1024 .f32) : FVec Ideal S20480x1024 .f32 := mulf (subf X (means X)) (scales (subf X (means X)))

theorem rows_apply (X : FVec Ideal S20480x1024 .f32) (a : Fin 20480) (d : Fin 1024) : (rows X (ix2 a d) : EReal) = normed (fun k => X (ix2 a k)) d := by
  show ((X (ix2 a d) : EReal) - means X (ix2 a d)) * scales (subf X (means X)) (ix2 a d) = _
  rw [scales_apply, means_apply]
  unfold normed
  have h : ∀ e, (subf X (means X) (ix2 a e) : EReal) = X (ix2 a e) - mean fun k => X (ix2 a k) := fun e => by
    show (X (ix2 a e) : EReal) - means X (ix2 a e) = _
    rw [means_apply]
  simp only [h]

/-- A vector for every token of the context, then one for every request's tokens. -/
def spread (u : FVec Ideal S1x1x1024 .f32) (v : FVec Ideal S4x1x1024 .f32) : FVec Ideal S20480x1024 .f32 :=
  concatenate S20480x1024 0 [⟨S4096x1024, (broadcastInDim S4096x1024 ![1] bcast_S1024_S4096x1024_1 (shapeCast _ u shapeCasts_S1x1x1024_S1024))⟩,
    ⟨S16384x1024, (shapeCast _ (broadcastInDim S4x4096x1024 ![0, 1, 2] bcast_S4x1x1024_S4x4096x1024_0_1_2 (broadcastInDim S4x1x1024 ![0, 2] bcast_S4x1024_S4x1x1024_0_2
      (shapeCast _ v shapeCasts_S4x1x1024_S4x1024))) shapeCasts_S4x4096x1024_S16384x1024)⟩] concatenates_S4096x1024_S16384x1024_S20480x1024_d0

/-- A token's vector is that of its row, when the vectors are one row each of the modulation array. -/
theorem spread_apply (u : FVec Ideal S1x1x1024 .f32) (v : FVec Ideal S4x1x1024 .f32) (M : FVec Ideal S8x6x1024 .f32) (n : Fin 6)
    (hu : ∀ d : Fin 1024, (u (ix3 0 0 d) : EReal) = M (ix3 0 n d)) (hv : ∀ (b : Fin 4) (d : Fin 1024), (v (ix3 b 0 d) : EReal) = M (ix3 ⟨1 + b.val, by omega⟩ n d))
    (a : Fin 20480) (d : Fin 1024) : (spread u v (ix2 a d) : EReal) = M (ix3 (tokRow a) n d) := by
  have e : (spread u v (ix2 a d) : EReal) = if h : a.val < 4096 then u (ix3 0 0 d) else v (ix3 ⟨(a.val - 4096) / 4096, by omega⟩ 0 d) := by pointwise [spread]
  rw [e]
  split_ifs with h
  · rw [hu, show tokRow a = 0 from if_pos h]
  · rw [hv, show tokRow a = ⟨1 + (a.val - 4096) / 4096, by omega⟩ from if_neg h]

/-- The shifts, one row for every token, -/
def shifts (M : FVec Ideal S8x6x1024 .f32) : FVec Ideal S20480x1024 .f32 :=
  spread (extractStridedSlice S1x1x1024 ![0, 0, 0] M slices_S8x6x1024_S1x1x1024_0_0_0) (extractStridedSlice S4x1x1024 ![1, 0, 0] M slices_S8x6x1024_S4x1x1024_1_0_0)

/-- and the scales. -/
def gains (M : FVec Ideal S8x6x1024 .f32) : FVec Ideal S20480x1024 .f32 :=
  spread (extractStridedSlice S1x1x1024 ![0, 1, 0] M slices_S8x6x1024_S1x1x1024_0_1_0) (extractStridedSlice S4x1x1024 ![1, 1, 0] M slices_S8x6x1024_S4x1x1024_1_1_0)

theorem shifts_apply (M : FVec Ideal S8x6x1024 .f32) (a : Fin 20480) (d : Fin 1024) : (shifts M (ix2 a d) : EReal) = M (ix3 (tokRow a) 0 d) :=
  spread_apply _ _ M 0 (fun d => by pointwise []) (fun b d => by pointwise []) a d
theorem gains_apply (M : FVec Ideal S8x6x1024 .f32) (a : Fin 20480) (d : Fin 1024) : (gains M (ix2 a d) : EReal) = M (ix3 (tokRow a) 1 d) :=
  spread_apply _ _ M 1 (fun d => by pointwise []) (fun b d => by pointwise []) a d

/-- One plus an array, times another, plus a third. -/
def modulate (Y G S : FVec Ideal S20480x1024 .f32) : FVec Ideal S20480x1024 .f32 :=
  addf (mulf Y (addf (broadcastInDim S20480x1024 ![] bcast_S_S20480x1024 (constant S_ .f32 0x3F800000#32)) G)) S

theorem modulate_apply (Y G S : FVec Ideal S20480x1024 .f32) (a : Fin 20480) (d : Fin 1024) :
    (modulate Y G S (ix2 a d) : EReal) = Y (ix2 a d) * (1 + G (ix2 a d)) + S (ix2 a d) := by
  pointwise [modulate]

/-- The projection. -/
def projection (X : FVec Ideal S20480x1024 .f32) (M : FVec Ideal S8x6x1024 .f32) (W : FVec Ideal S1024x2592 .f32) : FVec Ideal S20480x2592 .f32 :=
  Host.dotGeneral dot_S20480x1024_S1024x2592_S20480x2592_1_0_0_1_n_n none (modulate (rows X) (gains M) (shifts M)) W

theorem dot_apply (H : FVec Ideal S20480x1024 .f32) (W : FVec Ideal S1024x2592 .f32) (r : Fin 20480) (j : Fin 2592) :
    (Host.dotGeneral dot_S20480x1024_S1024x2592_S20480x2592_1_0_0_1_n_n none H W : FVec Ideal S20480x2592 .f32) (ix2 r j) = (∑ k : Fin 1024, H (ix2 r k) * W (ix2 k j) : EReal) := by
  pointwise []

theorem projection_apply (X : FVec Ideal S20480x1024 .f32) (M : FVec Ideal S8x6x1024 .f32) (W : FVec Ideal S1024x2592 .f32) (r : Fin 20480) (j : Fin 2592) :
    (projection X M W (ix2 r j) : EReal) = proj X M W r j := by
  refine (dot_apply _ W r j).trans (Finset.sum_congr rfl fun k _ => ?_)
  rw [modulate_apply, rows_apply, gains_apply, shifts_apply]
  rfl

variable (X : FVec Ideal S20480x1024 .f32) (M : FVec Ideal S8x6x1024 .f32) (W : FVec Ideal S1024x2592 .f32)

/-- The six results: columns of the projection, the gates' filled up with zeros. -/
theorem cols_0 : extractStridedSlice S20480x768 ![0, 0] (projection X M W) slices_S20480x2592_S20480x768_0_0 = cols 768 0 (by decide) X M W :=
  funext fun y => (congrArg _ (eq_ix2 y)).trans (Eq.trans (by pointwise []) (projection_apply X M W (y 0) ⟨0 + (y 1).val, _⟩))
theorem cols_768 : extractStridedSlice S20480x256 ![0, 768] (projection X M W) slices_S20480x2592_S20480x256_0_768 = cols 256 768 (by decide) X M W :=
  funext fun y => (congrArg _ (eq_ix2 y)).trans (Eq.trans (by pointwise []) (projection_apply X M W (y 0) ⟨768 + (y 1).val, _⟩))
theorem cols_1056 : extractStridedSlice S20480x512 ![0, 1056] (projection X M W) slices_S20480x2592_S20480x512_0_1056 = cols 512 1056 (by decide) X M W :=
  funext fun y => (congrArg _ (eq_ix2 y)).trans (Eq.trans (by pointwise []) (projection_apply X M W (y 0) ⟨1056 + (y 1).val, _⟩))
theorem cols_1568 : extractStridedSlice S20480x768 ![0, 1568] (projection X M W) slices_S20480x2592_S20480x768_0_1568 = cols 768 1568 (by decide) X M W :=
  funext fun y => (congrArg _ (eq_ix2 y)).trans (Eq.trans (by pointwise []) (projection_apply X M W (y 0) ⟨1568 + (y 1).val, _⟩))
theorem cols_2336 : extractStridedSlice S20480x256 ![0, 2336] (projection X M W) slices_S20480x2592_S20480x256_0_2336 = cols 256 2336 (by decide) X M W :=
  funext fun y => (congrArg _ (eq_ix2 y)).trans (Eq.trans (by pointwise []) (projection_apply X M W (y 0) ⟨2336 + (y 1).val, _⟩))

/-- The gates' result: the 32 columns, then 96 of zeros. -/
def gatesRef : FVec Ideal S20480x128 .f32 :=
  concatenate S20480x128 1 [⟨S20480x32, extractStridedSlice S20480x32 ![0, 1024] (projection X M W) slices_S20480x2592_S20480x32_0_1024⟩,
    ⟨S20480x96, broadcastInDim S20480x96 ![] bcast_S_S20480x96 (constant (F := Ideal) S_ .f32 0x00000000#32)⟩] concatenates_S20480x32_S20480x96_S20480x128_d1

theorem gates_eq : gatesRef X M W = gates X M W := by
  have key : ∀ (a : Fin 20480) (d : Fin 128), (gatesRef X M W (ix2 a d) : EReal) = if h : d.val < 32 then projection X M W (ix2 a ⟨1024 + d.val, by omega⟩) else 0 := by
    intro a d
    pointwise [gatesRef]
  funext y
  refine (congrArg _ (eq_ix2 y)).trans ((key (y 0) (y 1)).trans ?_)
  unfold gates
  split_ifs with h
  · exact projection_apply X M W (y 0) _
  · rfl

/-- The reference's run: its six results, and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v44) = cols 768 0 (by decide) (m ((c.tc : Thread nD τ).loc main_arg0)) (m ((c.tc : Thread nD τ).loc main_arg1)) (m ((c.tc : Thread nD τ).loc main_arg2))
      ∧ r.2.mem ((c.tc : Thread nD τ).loc main_v45) = cols 256 768 (by decide) (m ((c.tc : Thread nD τ).loc main_arg0)) (m ((c.tc : Thread nD τ).loc main_arg1)) (m ((c.tc : Thread nD τ).loc main_arg2))
      ∧ r.2.mem ((c.tc : Thread nD τ).loc main_v43) = gates (m ((c.tc : Thread nD τ).loc main_arg0)) (m ((c.tc : Thread nD τ).loc main_arg1)) (m ((c.tc : Thread nD τ).loc main_arg2))
      ∧ r.2.mem ((c.tc : Thread nD τ).loc main_v46) = cols 512 1056 (by decide) (m ((c.tc : Thread nD τ).loc main_arg0)) (m ((c.tc : Thread nD τ).loc main_arg1)) (m ((c.tc : Thread nD τ).loc main_arg2))
      ∧ r.2.mem ((c.tc : Thread nD τ).loc main_v47) = cols 768 1568 (by decide) (m ((c.tc : Thread nD τ).loc main_arg0)) (m ((c.tc : Thread nD τ).loc main_arg1)) (m ((c.tc : Thread nD τ).loc main_arg2))
      ∧ r.2.mem ((c.tc : Thread nD τ).loc main_v48) = cols 256 2336 (by decide) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (cols_0 _ _ _), (h c).2.1.trans (cols_768 _ _ _), (h c).2.2.1.trans (gates_eq _ _ _),
    (h c).2.2.2.1.trans (cols_1056 _ _ _), (h c).2.2.2.2.1.trans (cols_1568 _ _ _), (h c).2.2.2.2.2.1.trans (cols_2336 _ _ _), (h c).2.2.2.2.2.2⟩) (Cert.Reference2Ideal.Value.run (F := Ideal) m ρ)

end Cert.Reference2Ideal.Inproj

end
-- ==== Proof.GatingPay.lean ====
/- The spatial gating and the short convolution over the reals: what the kernel's body computes, element by element. -/
module

public import proofs.«01_k».proof.Proof.Gen.Kernel3Ideal.Frame
public import Idealize.ShloMosaic.Lib.Pointwise
public import Idealize.ShloMosaic.Lib.Pipeline.ValueKit

@[expose] public section

set_option maxRecDepth 16384

noncomputable section

namespace Cert.Kernel3Ideal.Gating

open Cert.Kernel3Ideal Cert.Kernel3Ideal.Gen
open Idealize.ShloMosaic Idealize.ShloMosaic.TcCoe Idealize.SL.Sem

/-- The mean of a row of 256 elements. -/
def mean (v : Fin 256 → EReal) : EReal := Ideal.div (∑ k, v k) (Ideal.ofBits FTy.f32 1132462080#32)

/-- The row less its mean, over its standard deviation, scaled by `g` and shifted by `b`. -/
def normed (v g b : Fin 256 → EReal) (k : Fin 256) : EReal :=
  (v k - mean v) * Ideal.rsqrt (mean (fun e => (v e - mean v) * (v e - mean v)) + Ideal.ofBits FTy.f32 925353388#32) * g k + b k

/-- The normalized rows of a block. -/
theorem pay2_apply (x : FVec Ideal S256x256 .f32) (g b : FVec Ideal S1x256 .f32) (a d : Fin 256) :
    k0_pay2 (F := Ideal) x g b (ix2 a d) = normed (fun k => x (ix2 a k)) (fun k => g (ix2 0 k)) (fun k => b (ix2 0 k)) d := by
  unfold normed mean
  pointwise [k0_pay2]

/-- The body's value of the normalized rows, from the blocks. -/
theorem pay13_eq (i : grid0.Coords) (x0 : FVec Ideal S256x512 .f32) (x1 : FVec Ideal S256x768 .f32) (x2 x3 : FVec Ideal S8x768 .f32)
    (x4 x5 : FVec Ideal S1x256 .f32) (x6 : FVec Ideal S4x128x128 .bf16) (x7 : FVec Ideal S4x128x64 .f32) (x8 : FVec Ideal S3x256 .f32) :
    k0_pay13 (F := Ideal) i x0 x1 x2 x3 x4 x5 x6 x7 x8 = k0_pay2 (F := Ideal) (View.ld x0 r0_0) (View.ld x4 r0_1) (View.ld x5 r0_1) := rfl

/-- One element of a chunk's mixed rows: the group's row of the matrix, times the chunk's column, plus the row's bias. -/
def mix (N : Fin 128 → EReal) (W : Fin 128 → EReal) (b : EReal) : EReal := (∑ t, W t * N t) + b

/-- A column of the four groups' columns laid side by side belongs to the group of its quotient by 64. -/
theorem group_eq (N : Fin 128 → Fin 256 → EReal) (W : Fin 4 → Fin 128 → EReal) (B : Fin 4 → Fin 64 → EReal) (d : Fin 256)
    (q : Fin 4) (c : Fin 256) (e : Fin 64) (hq : q.val = d.val / 64) (hc : c.val = d.val) (he : e.val = d.val % 64) :
    ∑ t, W q t * N t c + B q e = ∑ t, W ⟨d.val / 64, by omega⟩ t * N t d + B ⟨d.val / 64, by omega⟩ ⟨d.val % 64, by omega⟩ :=
  congrArg₂ (· + ·) (Finset.sum_congr rfl fun t _ => congrArg₂ (· * ·) (congrFun (congrArg W (Fin.ext hq)) t) (congrArg (N t) (Fin.ext hc)))
    (congr (congrArg B (Fin.ext hq)) (Fin.ext he))

/-- The four groups side by side, group by group. -/
theorem groups_eq (N : Fin 128 → Fin 256 → EReal) (W : Fin 4 → Fin 128 → EReal) (B : Fin 4 → Fin 64 → EReal) (d : Fin 256) :
    (if h : d.val < 64 then ∑ t, W 0 t * N t d + B 0 ⟨d.val, by omega⟩
      else if h' : d.val - 64 < 64 then ∑ t, W 1 t * N t ⟨64 + (d.val - 64), by omega⟩ + B 1 ⟨d.val - 64, by omega⟩
      else if h'' : d.val - 64 - 64 < 64 then ∑ t, W 2 t * N t ⟨128 + (d.val - 64 - 64), by omega⟩ + B 2 ⟨d.val - 64 - 64, by omega⟩
      else ∑ t, W 3 t * N t ⟨192 + (d.val - 64 - 64 - 64), by omega⟩ + B 3 ⟨d.val - 64 - 64 - 64, by omega⟩)
      = ∑ t, W ⟨d.val / 64, by omega⟩ t * N t d + B ⟨d.val / 64, by omega⟩ ⟨d.val % 64, by omega⟩ := by
  split_ifs
  · exact group_eq N W B d 0 _ _ (show 0 = _ by omega) rfl (show d.val = _ by omega)
  · exact group_eq N W B d 1 _ _ (show 1 = _ by omega) (show 64 + (d.val - 64) = _ by omega) (show d.val - 64 = _ by omega)
  · exact group_eq N W B d 2 _ _ (show 2 = _ by omega) (show 128 + (d.val - 64 - 64) = _ by omega) (show d.val - 64 - 64 = _ by omega)
  · exact group_eq N W B d 3 _ _ (show 3 = _ by omega) (show 192 + (d.val - 64 - 64 - 64) = _ by omega) (show d.val - 64 - 64 - 64 = _ by omega)

/-- The first chunk of a block, -/
theorem pay5_apply (n : FVec Ideal S256x256 .bf16) (x : FVec Ideal S256x256 .f32) (g b : FVec Ideal S1x256 .f32)
    (W : FVec Ideal S4x128x128 .bf16) (B : FVec Ideal S4x128x64 .f32) (u : FVec Ideal S128x256 .f32)
    (hn : n = k0_pay2 (F := Ideal) x g b) (a : Fin 128) (d : Fin 256) :
    k0_pay5 (F := Ideal) n (k0_pay3 (F := Ideal) x g b (View.ld W r0_2) (View.ld B r0_3)) (k0_pay4 (F := Ideal) x g b (View.ld W r0_4)) (View.ld B r0_5) (View.ld W r0_6) (View.ld B r0_7)
        (View.ld W r0_8) (View.ld B r0_9) u (ix2 a d)
      = (u (ix2 a d) * mix (fun t => n (ix2 ⟨t.val, by omega⟩ d)) (fun t => W (ix3 ⟨d.val / 64, by omega⟩ a t)) (B (ix3 ⟨d.val / 64, by omega⟩ a ⟨d.val % 64, by omega⟩)) : EReal) := by
  subst hn
  unfold mix
  pointwise [k0_pay5, k0_pay3, k0_pay4]
  refine congrArg (fun y : EReal => u (ix2 a d) * y) ?_
  exact groups_eq (fun t c => k0_pay2 (F := Ideal) x g b (ix2 ⟨t.val, by omega⟩ c)) (fun q t => W (ix3 q a t)) (fun q e => B (ix3 q a e)) d

/-- and the second. -/
theorem pay7_apply (n : FVec Ideal S256x256 .bf16) (W : FVec Ideal S4x128x128 .bf16) (B : FVec Ideal S4x128x64 .f32) (u : FVec Ideal S128x256 .f32) (a : Fin 128) (d : Fin 256) :
    k0_pay7 (F := Ideal) n (k0_pay6 (F := Ideal) n (View.ld W r0_2) (View.ld B r0_3)) (View.ld W r0_4) (View.ld B r0_5) (View.ld W r0_6) (View.ld B r0_7)
        (View.ld W r0_8) (View.ld B r0_9) u (ix2 a d)
      = (u (ix2 a d) * mix (fun t => n (ix2 ⟨128 + t.val, by omega⟩ d)) (fun t => W (ix3 ⟨d.val / 64, by omega⟩ a t)) (B (ix3 ⟨d.val / 64, by omega⟩ a ⟨d.val % 64, by omega⟩)) : EReal) := by
  unfold mix
  pointwise [k0_pay7, k0_pay6]
  refine congrArg (fun y : EReal => u (ix2 a d) * y) ?_
  exact groups_eq (fun t c => n (ix2 ⟨128 + t.val, by omega⟩ c)) (fun q t => W (ix3 q a t)) (fun q e => B (ix3 q a e)) d

/-- Whether the first row of a point's block is the first of its sequence: the word the body computes, -/
abbrev firstW (i : Fin 80) : BitVec 32 :=
  Scalar.select (Scalar.cmpi .slt (BitVec.ofNat 32 i.val) 16#32) (BitVec.ofNat 32 i.val) (Scalar.subi (BitVec.ofNat 32 i.val) 16#32)
/-- the number of blocks in the point's sequence, -/
abbrev lenW (i : Fin 80) : BitVec 32 := Scalar.select (Scalar.cmpi .slt (BitVec.ofNat 32 i.val) 16#32) 1#32 16#32
/-- and the test that a point's sequence is one block long at least. -/
abbrev emptyW (i : Fin 80) : BitVec 1 := Scalar.cmpi .eq (lenW i) 0#32

/-- A point whose block is the first of its sequence, -/
def isFirst (i : Fin 80) : Prop := i.val < 16 ∨ i.val % 16 = 0
/-- and one whose block is the last. -/
def isLast (i : Fin 80) : Prop := i.val < 16 ∨ i.val % 16 = 15
instance (i : Fin 80) : Decidable (isFirst i) := inferInstanceAs (Decidable (_ ∨ _))
instance (i : Fin 80) : Decidable (isLast i) := inferInstanceAs (Decidable (_ ∨ _))

/-- The block's place in its sequence. -/
abbrev posW (i : Fin 80) : BitVec 32 :=
  Scalar.select
    (Scalar.andi
      (Scalar.xori (Scalar.cmpi .slt (Scalar.remsi (firstW i) (Scalar.select (emptyW i) (1#32) (lenW i))) 0#32)
        (Scalar.cmpi .slt (Scalar.select (emptyW i) (1#32) (lenW i)) 0#32))
      (Scalar.cmpi .ne (Scalar.remsi (firstW i) (Scalar.select (emptyW i) (1#32) (lenW i))) 0#32))
    (Scalar.addi (Scalar.remsi (firstW i) (Scalar.select (emptyW i) (1#32) (lenW i))) (Scalar.select (emptyW i) (1#32) (lenW i)))
    (Scalar.remsi (firstW i) (Scalar.select (emptyW i) (1#32) (lenW i)))

theorem first_bit : ∀ i : Fin 80, Scalar.cmpi .eq (posW i) 0#32 = if isFirst i then 1#1 else 0#1 := by decide +kernel
theorem last_bit : ∀ i : Fin 80, Scalar.cmpi .eq (posW i) (Scalar.subi (lenW i) 1#32) = if isLast i then 1#1 else 0#1 := by decide +kernel
theorem top_bit : ∀ a : Fin 256, IntOp.cmpi .eq (BitVec.ofNat 32 a.val) 0#32 = if a.val = 0 then 1#1 else 0#1 := by decide +kernel
theorem bottom_bit : ∀ a : Fin 256, IntOp.cmpi .eq (BitVec.ofNat 32 a.val) 255#32 = if a.val = 255 then 1#1 else 0#1 := by decide +kernel

/-- A selection by a bit that a condition sets is the choice by the condition. -/
theorem select_bit (p : Prop) [Decidable p] (x y : EReal) : Scalar.select (if p then 1#1 else 0#1) x y = if p then x else y := by
  split_ifs <;> rfl

/-- The row before the block's, where the sequence has one, else zeros: shifted into the block's first row. -/
theorem pay9_apply (i : Fin 80) (x y : FVec Ideal S256x256 .f32) (p q : FVec Ideal S1x256 .f32) (a d : Fin 256) :
    k0_pay9 (F := Ideal) (lenW i) (firstW i) (emptyW i) x y p q (ix2 a d)
      = (if a.val = 0 then if isFirst i then 0 else p (ix2 0 d) * q (ix2 0 d) else x (ix2 ⟨a.val - 1, by omega⟩ d) * y (ix2 ⟨a.val - 1, by omega⟩ d) : EReal) := by
  pointwise [k0_pay9, k0_pay8]
  rw [top_bit a, first_bit i]
  refine (select_bit _ _ _).trans ?_
  split_ifs with h h'
  · rfl
  · rfl
  · have e : (⟨(a.val + 256 - 1) % 256, Nat.mod_lt _ (by decide)⟩ : Fin 256) = ⟨a.val - 1, by omega⟩ := Fin.ext (by show (a.val + 256 - 1) % 256 = a.val - 1; omega)
    rw [e]

/-- The row after the block's, where the sequence has one, else zeros, in the block's last row. -/
theorem pay12_apply (i : Fin 80) (p q : FVec Ideal S1x256 .f32) (d : Fin 256) :
    k0_pay12 (F := Ideal) (lenW i) (firstW i) (emptyW i) p q (ix2 0 d) = (if isLast i then 0 else p (ix2 0 d) * q (ix2 0 d) : EReal) := by
  pointwise [k0_pay12]
  rw [last_bit i]
  exact select_bit _ _ _

/-- The convolution of a block. -/
theorem pay1_apply (x y z m : FVec Ideal S256x256 .f32) (n w0 w1 w2 : FVec Ideal S1x256 .f32) (a d : Fin 256) :
    k0_pay1 (F := Ideal) (k0_pay8 (F := Ideal) x y) m (k0_pay10) (k0_pay11 (F := Ideal) x y) n w0 w1 w2 z (ix2 a d)
      = (z (ix2 a d) * (w0 (ix2 0 d) * m (ix2 a d) + w1 (ix2 0 d) * (x (ix2 a d) * y (ix2 a d))
        + w2 (ix2 0 d) * if h : a.val = 255 then n (ix2 0 d) else x (ix2 ⟨a.val + 1, by omega⟩ d) * y (ix2 ⟨a.val + 1, by omega⟩ d)) : EReal) := by
  pointwise [k0_pay1, k0_pay8, k0_pay10, k0_pay11]
  rw [bottom_bit a]
  refine congrArg (fun u : EReal => z (ix2 a d) * (w0 (ix2 0 d) * m (ix2 a d) + w1 (ix2 0 d) * (x (ix2 a d) * y (ix2 a d)) + w2 (ix2 0 d) * u)) ?_
  refine (select_bit _ _ _).trans ?_
  split_ifs with h
  · rfl
  · have e : (⟨(a.val + 256 - 255) % 256, Nat.mod_lt _ (by decide)⟩ : Fin 256) = ⟨a.val + 1, by omega⟩ := Fin.ext (by show (a.val + 256 - 255) % 256 = a.val + 1; omega)
    rw [e]

end Cert.Kernel3Ideal.Gating

end
-- ==== Proof.GatingValue.lean ====
/- The spatial gating and the short convolution over the reals: the arrays that the kernel leaves. -/
module

public import proofs.«01_k».proof.Proof.GatingPay

@[expose] public section

set_option maxRecDepth 16384

noncomputable section

namespace Cert.Kernel3Ideal.Gating

open Cert.Kernel3Ideal Cert.Kernel3Ideal.Gen
open Idealize.ShloMosaic Idealize.ShloMosaic.TcCoe Idealize.SL.Sem

/-! ## The results, as functions of the arguments -/

/-- One element of the normalized rows. -/
def nrow (S : FVec Ideal S20480x512 .f32) (G B : FVec Ideal S256 .f32) (r : Fin 20480) (d : Fin 256) : EReal :=
  normed (fun k => S (ix2 r ⟨256 + k.val, by omega⟩)) (fun k => G (ix1 k)) (fun k => B (ix1 k)) d

/-- A row's place in its chunk of 128 rows, and the chunk's row `t`. -/
abbrev inChunk (r : Fin 20480) : Fin 128 := ⟨r.val % 128, by omega⟩
abbrev chunkRow (r : Fin 20480) (t : Fin 128) : Fin 20480 := ⟨r.val / 128 * 128 + t.val, by omega⟩

/-- One element of the gating: the row times the chunk's mixed normalized rows. -/
def gatingAt (S : FVec Ideal S20480x512 .f32) (G B : FVec Ideal S256 .f32) (W : FVec Ideal S4x128x128 .f32) (b : FVec Ideal S4x128 .f32) (r : Fin 20480) (d : Fin 256) : EReal :=
  S (ix2 r ⟨d.val, by omega⟩) * mix (fun t => nrow S G B (chunkRow r t) d) (fun t => W (ix3 ⟨d.val / 64, by omega⟩ (inChunk r) t)) (b (ix2 ⟨d.val / 64, by omega⟩ (inChunk r)))

/-- The gating's array. -/
def gating (S : FVec Ideal S20480x512 .f32) (G B : FVec Ideal S256 .f32) (W : FVec Ideal S4x128x128 .f32) (b : FVec Ideal S4x128 .f32) : FVec Ideal S20480x256 .f32 :=
  fun i => gatingAt S G B W b (i 0) (i 1)

/-- The convolved product of the second and the third part of a row. -/
def zAt (C : FVec Ideal S20480x768 .f32) (r : Fin 20480) (d : Fin 256) : EReal := C (ix2 r ⟨256 + d.val, by omega⟩) * C (ix2 r ⟨512 + d.val, by omega⟩)

/-- The first row of a sequence: the context's sequences have 256 rows, the requests' have 4096. -/
abbrev seqFirst (r : Fin 20480) : Prop := if r.val < 4096 then r.val % 256 = 0 else r.val % 4096 = 0
/-- The last row of a sequence. -/
abbrev seqLast (r : Fin 20480) : Prop := if r.val < 4096 then r.val % 256 = 255 else r.val % 4096 = 4095

/-- The row before in the sequence, or zero, -/
def zBefore (C : FVec Ideal S20480x768 .f32) (r : Fin 20480) (d : Fin 256) : EReal := if seqFirst r then 0 else zAt C ⟨r.val - 1, by omega⟩ d
/-- and the row after, or zero. -/
def zAfter (C : FVec Ideal S20480x768 .f32) (r : Fin 20480) (d : Fin 256) : EReal := if h : r.val + 1 < 20480 then if seqLast r then 0 else zAt C ⟨r.val + 1, h⟩ d else 0

/-- One element of the convolution. -/
def convAt (C : FVec Ideal S20480x768 .f32) (K : FVec Ideal S3x256 .f32) (r : Fin 20480) (d : Fin 256) : EReal :=
  C (ix2 r ⟨d.val, by omega⟩) * (K (ix2 0 d) * zBefore C r d + K (ix2 1 d) * zAt C r d + K (ix2 2 d) * zAfter C r d)

/-- The convolution's array. -/
def conv (C : FVec Ideal S20480x768 .f32) (K : FVec Ideal S3x256 .f32) : FVec Ideal S20480x256 .f32 := fun i => convAt C K (i 0) (i 1)

/-! ## What the body leaves -/

section body
variable (i : grid0.Coords) (x0 : FVec Ideal S256x512 .f32) (x1 : FVec Ideal S256x768 .f32) (x2 x3 : FVec Ideal S8x768 .f32)
  (x4 x5 : FVec Ideal S1x256 .f32) (x6 : FVec Ideal S4x128x128 .bf16) (x7 : FVec Ideal S4x128x64 .f32) (x8 : FVec Ideal S3x256 .f32)

/-- The two chunks that the body stores, read back. -/
theorem canon_low (p q : FVec Ideal S128x256 .f32) (a : Fin 128) (d : Fin 256) :
    View.canon (Val := Elt Ideal) (s := S256x256) (e := .f32) [⟨r0_13, p⟩, ⟨r0_11, q⟩] (ix2 ⟨a.val, by omega⟩ d) = q (ix2 a d) := by
  have e : (ix2 (⟨a.val, by omega⟩ : Fin 256) d : S256x256.Idx) = r0_11.emb (ix2 a d) := by
    funext k
    refine Fin.ext ?_
    match k with
    | ⟨0, _⟩ => show a.val = 0 + 1 * a.val; omega
    | ⟨1, _⟩ => show d.val = 0 + 1 * d.val; omega
  have hm : (ix2 (⟨a.val, by omega⟩ : Fin 256) d : S256x256.Idx) ∉ r0_13.set := fun hy => by
    obtain ⟨j, _, hj⟩ := r0_13.mem_set.mp hy (0 : Fin 2)
    have h : a.val = 128 + 1 * j := hj
    omega
  refine (View.canon_cons_of_not_mem (⟨r0_13, p⟩ : View.Piece (Elt Ideal) S256x256 .f32) _ hm).trans ?_
  rw [e, View.canon_cons_emb]
theorem canon_high (p q : FVec Ideal S128x256 .f32) (a : Fin 128) (d : Fin 256) :
    View.canon (Val := Elt Ideal) (s := S256x256) (e := .f32) [⟨r0_13, p⟩, ⟨r0_11, q⟩] (ix2 ⟨128 + a.val, by omega⟩ d) = p (ix2 a d) := by
  have e : (ix2 (⟨128 + a.val, by omega⟩ : Fin 256) d : S256x256.Idx) = r0_13.emb (ix2 a d) := by
    funext k
    refine Fin.ext ?_
    match k with
    | ⟨0, _⟩ => show 128 + a.val = 128 + 1 * a.val; omega
    | ⟨1, _⟩ => show d.val = 0 + 1 * d.val; omega
  rw [e, View.canon_cons_emb]

/-- The parts of the blocks that the body loads. -/
theorem load_0 (a d : Fin 256) : (View.ld (Val := Elt Ideal) (e' := .f32) x0 r0_0 (ix2 a d) : EReal) = x0 (ix2 a ⟨256 + d.val, by omega⟩) := by pointwise []
theorem load_1 (x : FVec Ideal S1x256 .f32) (d : Fin 256) : (View.ld (Val := Elt Ideal) (e' := .f32) x r0_1 (ix2 0 d) : EReal) = x (ix2 0 d) := by pointwise []
theorem load_10 (a : Fin 128) (d : Fin 256) : (View.ld (Val := Elt Ideal) (e' := .f32) x0 r0_10 (ix2 a d) : EReal) = x0 (ix2 ⟨a.val, by omega⟩ ⟨d.val, by omega⟩) := by pointwise []
theorem load_12 (a : Fin 128) (d : Fin 256) : (View.ld (Val := Elt Ideal) (e' := .f32) x0 r0_12 (ix2 a d) : EReal) = x0 (ix2 ⟨128 + a.val, by omega⟩ ⟨d.val, by omega⟩) := by pointwise []
theorem load_14 (a d : Fin 256) : (View.ld (Val := Elt Ideal) (e' := .f32) x1 r0_14 (ix2 a d) : EReal) = x1 (ix2 a ⟨256 + d.val, by omega⟩) := by pointwise []
theorem load_15 (a d : Fin 256) : (View.ld (Val := Elt Ideal) (e' := .f32) x1 r0_15 (ix2 a d) : EReal) = x1 (ix2 a ⟨512 + d.val, by omega⟩) := by pointwise []
theorem load_16 (d : Fin 256) : (View.ld (Val := Elt Ideal) (e' := .f32) x2 r0_16 (ix2 0 d) : EReal) = x2 (ix2 7 ⟨256 + d.val, by omega⟩) := by pointwise []
theorem load_17 (d : Fin 256) : (View.ld (Val := Elt Ideal) (e' := .f32) x2 r0_17 (ix2 0 d) : EReal) = x2 (ix2 7 ⟨512 + d.val, by omega⟩) := by pointwise []
theorem load_18 (d : Fin 256) : (View.ld (Val := Elt Ideal) (e' := .f32) x3 r0_18 (ix2 0 d) : EReal) = x3 (ix2 0 ⟨256 + d.val, by omega⟩) := by pointwise []
theorem load_19 (d : Fin 256) : (View.ld (Val := Elt Ideal) (e' := .f32) x3 r0_19 (ix2 0 d) : EReal) = x3 (ix2 0 ⟨512 + d.val, by omega⟩) := by pointwise []
theorem load_20 (d : Fin 256) : (View.ld (Val := Elt Ideal) (e' := .f32) x8 r0_20 (ix2 0 d) : EReal) = x8 (ix2 0 d) := by pointwise []
theorem load_21 (d : Fin 256) : (View.ld (Val := Elt Ideal) (e' := .f32) x8 r0_21 (ix2 0 d) : EReal) = x8 (ix2 1 d) := by pointwise []
theorem load_22 (d : Fin 256) : (View.ld (Val := Elt Ideal) (e' := .f32) x8 r0_22 (ix2 0 d) : EReal) = x8 (ix2 2 d) := by pointwise []
theorem load_23 (a d : Fin 256) : (View.ld (Val := Elt Ideal) (e' := .f32) x1 r0_23 (ix2 a d) : EReal) = x1 (ix2 a ⟨d.val, by omega⟩) := by pointwise []

/-- The normalized block. -/
theorem norm_apply (a d : Fin 256) : (k0_pay2 (F := Ideal) (View.ld x0 r0_0) (View.ld x4 r0_1) (View.ld x5 r0_1) (ix2 a d) : EReal)
    = normed (fun k => x0 (ix2 a ⟨256 + k.val, by omega⟩)) (fun k => x4 (ix2 0 k)) (fun k => x5 (ix2 0 k)) d := by
  refine (pay2_apply _ _ _ a d).trans ?_
  exact congrFun (congr (congr (congrArg normed (funext fun k => load_0 x0 a k)) (funext fun k => load_1 x4 k)) (funext fun k => load_1 x5 k)) d

/-- The gating's block: its first chunk, -/
theorem out9_low (a : Fin 128) (d : Fin 256) : (out0_9 (F := Ideal) i x0 x1 x2 x3 x4 x5 x6 x7 x8 (ix2 ⟨a.val, by omega⟩ d) : EReal)
    = x0 (ix2 ⟨a.val, by omega⟩ ⟨d.val, by omega⟩) * mix (fun t => normed (fun k => x0 (ix2 ⟨t.val, by omega⟩ ⟨256 + k.val, by omega⟩)) (fun k => x4 (ix2 0 k)) (fun k => x5 (ix2 0 k)) d)
      (fun t => x6 (ix3 ⟨d.val / 64, by omega⟩ a t)) (x7 (ix3 ⟨d.val / 64, by omega⟩ a ⟨d.val % 64, by omega⟩)) := by
  unfold out0_9
  refine (canon_low _ _ a d).trans ?_
  rw [pay13_eq]
  refine (pay5_apply _ _ _ _ x6 x7 _ rfl a d).trans ?_
  refine congrArg₂ (fun x y : EReal => x * y) (load_10 x0 a d) ?_
  exact congrArg (fun f => mix f _ _) (funext fun t => norm_apply x0 x4 x5 _ d)

/-- and its second. -/
theorem out9_high (a : Fin 128) (d : Fin 256) : (out0_9 (F := Ideal) i x0 x1 x2 x3 x4 x5 x6 x7 x8 (ix2 ⟨128 + a.val, by omega⟩ d) : EReal)
    = x0 (ix2 ⟨128 + a.val, by omega⟩ ⟨d.val, by omega⟩) * mix (fun t => normed (fun k => x0 (ix2 ⟨128 + t.val, by omega⟩ ⟨256 + k.val, by omega⟩)) (fun k => x4 (ix2 0 k)) (fun k => x5 (ix2 0 k)) d)
      (fun t => x6 (ix3 ⟨d.val / 64, by omega⟩ a t)) (x7 (ix3 ⟨d.val / 64, by omega⟩ a ⟨d.val % 64, by omega⟩)) := by
  unfold out0_9
  refine (canon_high _ _ a d).trans ?_
  rw [pay13_eq]
  refine (pay7_apply _ x6 x7 _ a d).trans ?_
  refine congrArg₂ (fun x y : EReal => x * y) (load_12 x0 a d) ?_
  exact congrArg (fun f => mix f _ _) (funext fun t => norm_apply x0 x4 x5 _ d)

/-- The grid's point. -/
abbrev point (i : grid0.Coords) : Fin 80 := ⟨(i 0).val, (i 0).isLt⟩

/-- The convolution's block. -/
theorem out10_apply (a d : Fin 256) : (out0_10 (F := Ideal) i x0 x1 x2 x3 x4 x5 x6 x7 x8 (ix2 a d) : EReal)
    = x1 (ix2 a ⟨d.val, by omega⟩) * (x8 (ix2 0 d) * (if a.val = 0 then if isFirst (point i) then 0 else x2 (ix2 7 ⟨256 + d.val, by omega⟩) * x2 (ix2 7 ⟨512 + d.val, by omega⟩)
          else x1 (ix2 ⟨a.val - 1, by omega⟩ ⟨256 + d.val, by omega⟩) * x1 (ix2 ⟨a.val - 1, by omega⟩ ⟨512 + d.val, by omega⟩))
        + x8 (ix2 1 d) * (x1 (ix2 a ⟨256 + d.val, by omega⟩) * x1 (ix2 a ⟨512 + d.val, by omega⟩))
        + x8 (ix2 2 d) * if h : a.val = 255 then if isLast (point i) then 0 else x3 (ix2 0 ⟨256 + d.val, by omega⟩) * x3 (ix2 0 ⟨512 + d.val, by omega⟩)
          else x1 (ix2 ⟨a.val + 1, by omega⟩ ⟨256 + d.val, by omega⟩) * x1 (ix2 ⟨a.val + 1, by omega⟩ ⟨512 + d.val, by omega⟩)) := by
  have e : (ix2 a d : S256x256.Idx) = r0_24.emb (ix2 a d) := by
    funext k
    refine Fin.ext ?_
    match k with
    | ⟨0, _⟩ => show a.val = 0 + 1 * a.val; omega
    | ⟨1, _⟩ => show d.val = 0 + 1 * d.val; omega
  unfold out0_10
  refine (congrArg _ e).trans ((View.canon_cons_emb _ _ _ _).trans ?_)
  refine (pay1_apply _ _ _ _ _ _ _ _ a d).trans ?_
  refine congrArg₂ (fun x y : EReal => x * y) (load_23 x1 a d) (congrArg₂ (fun x y : EReal => x + y) (congrArg₂ (fun x y : EReal => x + y)
    (congrArg₂ (fun x y : EReal => x * y) (load_20 x8 d) ?_) (congrArg₂ (fun x y : EReal => x * y) (load_21 x8 d) (congrArg₂ (fun x y : EReal => x * y) (load_14 x1 a d) (load_15 x1 a d))))
    (congrArg₂ (fun x y : EReal => x * y) (load_22 x8 d) ?_))
  · refine (pay9_apply (point i) _ _ _ _ a d).trans ?_
    rw [load_16, load_17, load_14, load_15]
  · split_ifs with h h'
    · exact (pay12_apply (point i) _ _ d).trans (if_pos h')
    · exact (pay12_apply (point i) _ _ d).trans ((if_neg h').trans (congrArg₂ (fun x y : EReal => x * y) (load_18 x3 d) (load_19 x3 d)))
    · exact congrArg₂ (fun x y : EReal => x * y) (load_14 x1 _ d) (load_15 x1 _ d)

end body

/-! ## The blocks -/

variable (m : (ℓ : Loc nD τ sig) → Buf (Elt Ideal) ℓ)

/-- The arrays that the host prepares, as the region finds them. -/
theorem V_bias (c : Dev nD) : V m c main_v1 = (broadcastInDim S4x128x64 ![0, 1, 2] bcast_S4x128x1_S4x128x64_0_1_2 (broadcastInDim S4x128x1 ![0, 1] bcast_S4x128_S4x128x1_0_1 (m ((c : Thread nD τ).loc main_arg5) : FVec Ideal S4x128 .f32) : FVec Ideal S4x128x1 .f32) : FVec Ideal S4x128x64 .f32) := by
  show StableHlo.after hostOps0 _ _ = _
  after_results_simp <;> rfl
theorem V_scale (c : Dev nD) : V m c main_v2 = shapeCast S1x256 (m ((c : Thread nD τ).loc main_arg2) : FVec Ideal S256 .f32) shapeCasts_S256_S1x256 := by
  show StableHlo.after hostOps0 _ _ = _
  after_results_simp <;> rfl
theorem V_shift (c : Dev nD) : V m c main_v3 = shapeCast S1x256 (m ((c : Thread nD τ).loc main_arg3) : FVec Ideal S256 .f32) shapeCasts_S256_S1x256 := by
  show StableHlo.after hostOps0 _ _ = _
  after_results_simp <;> rfl
theorem V_matrices (c : Dev nD) : V m c main_v4 = (truncf .bf16 (m ((c : Thread nD τ).loc main_arg4) : FVec Ideal S4x128x128 .f32) bitsLt_bf16_f32 : FVec Ideal S4x128x128 .bf16) := by
  show StableHlo.after hostOps0 _ _ = _
  after_results_simp <;> rfl

/-- Every window's block at every point. -/
theorem idx_val : ∀ t : Fin cfg0.N, win0_0.index t = ![t.val, 0] ∧ win0_1.index t = ![t.val, 0] ∧ win0_2.index t = ![if t.val = 0 then 0 else 32 * t.val - 1, 0]
    ∧ win0_3.index t = ![if t.val = 79 then 2559 else 32 * (t.val + 1), 0] ∧ win0_4.index t = ![0, 0] ∧ win0_5.index t = ![0, 0] ∧ win0_6.index t = ![0, 0, 0] ∧ win0_7.index t = ![0, 0, 0]
    ∧ win0_8.index t = ![0, 0] ∧ win0_9.index t = ![t.val, 0] ∧ win0_10.index t = ![t.val, 0] :=
  (by decide +kernel : ∀ t : Fin grid0.N, _)

theorem coords_val : ∀ t : Fin cfg0.N, (grid0.coords t 0).val = t.val := (by decide +kernel : ∀ t : Fin grid0.N, _)

/-- The token of a row of a point's block. -/
def tok (t : Fin cfg0.N) (a : Fin 256) : Fin 20480 := ⟨t.val * 256 + a.val, by have ht : t.val < 80 := t.isLt; omega⟩

theorem s_at (c : Dev nD) (t : Fin cfg0.N) (a : Fin 256) (k : Fin 512) : (iblk m c 0 t (ix2 a k) : EReal) = m ((c : Thread nD τ).loc main_arg0) (ix2 (tok t a) k) := by
  unfold tok
  blk_ext [iblk, V, idx_val t]
theorem c_at (c : Dev nD) (t : Fin cfg0.N) (a : Fin 256) (k : Fin 768) : (iblk m c 1 t (ix2 a k) : EReal) = m ((c : Thread nD τ).loc main_arg1) (ix2 (tok t a) k) := by
  unfold tok
  blk_ext [iblk, V, idx_val t]
theorem prev_at (c : Dev nD) (t : Fin cfg0.N) (k : Fin 768) (ht : t.val ≠ 0) (r : Fin 20480) (hr : r.val + 1 = t.val * 256) :
    (iblk m c 2 t (ix2 7 k) : EReal) = m ((c : Thread nD τ).loc main_arg1) (ix2 r k) := by
  blk_ext [iblk, V, idx_val t]
  rw [if_neg ht]
  omega
theorem next_at (c : Dev nD) (t : Fin cfg0.N) (k : Fin 768) (ht : t.val ≠ 79) (r : Fin 20480) (hr : r.val = (t.val + 1) * 256) :
    (iblk m c 3 t (ix2 0 k) : EReal) = m ((c : Thread nD τ).loc main_arg1) (ix2 r k) := by
  blk_ext [iblk, V, idx_val t]
  rw [if_neg ht]
  omega
theorem g_at (c : Dev nD) (t : Fin cfg0.N) (d : Fin 256) : (iblk m c 4 t (ix2 0 d) : EReal) = m ((c : Thread nD τ).loc main_arg2) (ix1 d) := by
  have e : (V m c main_v2 (ix2 0 d) : EReal) = m ((c : Thread nD τ).loc main_arg2) (ix1 d) := by rw [V_scale m c]; pointwise []
  rw [← e]
  blk_ext [iblk, idx_val t]
theorem b_at (c : Dev nD) (t : Fin cfg0.N) (d : Fin 256) : (iblk m c 5 t (ix2 0 d) : EReal) = m ((c : Thread nD τ).loc main_arg3) (ix1 d) := by
  have e : (V m c main_v3 (ix2 0 d) : EReal) = m ((c : Thread nD τ).loc main_arg3) (ix1 d) := by rw [V_shift m c]; pointwise []
  rw [← e]
  blk_ext [iblk, idx_val t]
theorem w_at (c : Dev nD) (t : Fin cfg0.N) (q : Fin 4) (a k : Fin 128) : (iblk m c 6 t (ix3 q a k) : EReal) = m ((c : Thread nD τ).loc main_arg4) (ix3 q a k) := by
  have e : (V m c main_v4 (ix3 q a k) : EReal) = m ((c : Thread nD τ).loc main_arg4) (ix3 q a k) := by rw [V_matrices m c]; rfl
  rw [← e]
  blk_ext [iblk, idx_val t]
theorem bias_at (c : Dev nD) (t : Fin cfg0.N) (q : Fin 4) (a : Fin 128) (k : Fin 64) : (iblk m c 7 t (ix3 q a k) : EReal) = m ((c : Thread nD τ).loc main_arg5) (ix2 q a) := by
  have e : (V m c main_v1 (ix3 q a k) : EReal) = m ((c : Thread nD τ).loc main_arg5) (ix2 q a) := by rw [V_bias m c]; pointwise []
  rw [← e]
  blk_ext [iblk, idx_val t]
theorem wc_at (c : Dev nD) (t : Fin cfg0.N) (q : Fin 3) (d : Fin 256) : (iblk m c 8 t (ix2 q d) : EReal) = m ((c : Thread nD τ).loc main_arg6) (ix2 q d) := by
  blk_ext [iblk, V, idx_val t]

/-! ## The arrays -/

theorem gating_at (S : FVec Ideal S20480x512 .f32) (G B : FVec Ideal S256 .f32) (W : FVec Ideal S4x128x128 .f32) (b : FVec Ideal S4x128 .f32) (i : S20480x256.Idx) (r : Fin 20480) (j : Fin 256)
    (hr : r.val = (i 0).val) (hj : j.val = (i 1).val) : gatingAt S G B W b r j = gating S G B W b i := by
  unfold gating
  rw [show r = i 0 from Fin.ext hr, show j = i 1 from Fin.ext hj]
theorem conv_at (C : FVec Ideal S20480x768 .f32) (K : FVec Ideal S3x256 .f32) (i : S20480x256.Idx) (r : Fin 20480) (j : Fin 256)
    (hr : r.val = (i 0).val) (hj : j.val = (i 1).val) : convAt C K r j = conv C K i := by
  unfold conv
  rw [show r = i 0 from Fin.ext hr, show j = i 1 from Fin.ext hj]

/-- The normalized row of a block's row. -/
theorem nrow_at (c : Dev nD) (t : Fin cfg0.N) (a d : Fin 256) (r : Fin 20480) (hr : r = tok t a) :
    normed (fun k => (iblk m c 0 t (ix2 a ⟨256 + k.val, by omega⟩) : EReal)) (fun k => iblk m c 4 t (ix2 0 k)) (fun k => iblk m c 5 t (ix2 0 k)) d
      = nrow (m ((c : Thread nD τ).loc main_arg0)) (m ((c : Thread nD τ).loc main_arg2)) (m ((c : Thread nD τ).loc main_arg3)) r d := by
  subst hr
  exact congrFun (congr (congr (congrArg normed (funext fun k => s_at m c t a _)) (funext fun k => g_at m c t k)) (funext fun k => b_at m c t k)) d

/-- The gating's block. -/
theorem gated_at (c : Dev nD) (t : Fin cfg0.N) (a d : Fin 256) : (out0_9 (F := Ideal) (grid0.coords t) (iblk m c 0 t) (iblk m c 1 t) (iblk m c 2 t) (iblk m c 3 t) (iblk m c 4 t) (iblk m c 5 t) (iblk m c 6 t) (iblk m c 7 t) (iblk m c 8 t) (ix2 a d) : EReal)
    = gatingAt (m ((c : Thread nD τ).loc main_arg0)) (m ((c : Thread nD τ).loc main_arg2)) (m ((c : Thread nD τ).loc main_arg3)) (m ((c : Thread nD τ).loc main_arg4)) (m ((c : Thread nD τ).loc main_arg5)) (tok t a) d := by
  unfold gatingAt
  by_cases ha : a.val < 128
  · have hin : (⟨a.val, ha⟩ : Fin 128) = inChunk (tok t a) := Fin.ext (by show a.val = (t.val * 256 + a.val) % 128; omega)
    refine (out9_low _ _ _ _ _ _ _ _ _ _ ⟨a.val, ha⟩ d).trans ?_
    refine congrArg₂ (fun x y : EReal => x * y) (s_at m c t a _) ?_
    refine congr (congr (congrArg mix (funext fun e => nrow_at m c t _ d _ (Fin.ext ?_))) (funext fun e => ?_)) ?_
    · show (t.val * 256 + a.val) / 128 * 128 + e.val = t.val * 256 + e.val
      omega
    · rw [← hin]
      exact w_at m c t _ _ e
    · rw [← hin]
      exact bias_at m c t _ _ _
  · have ha' : a.val - 128 < 128 := by omega
    have hin : (⟨a.val - 128, ha'⟩ : Fin 128) = inChunk (tok t a) := Fin.ext (by show a.val - 128 = (t.val * 256 + a.val) % 128; omega)
    have hs : a = (⟨128 + (a.val - 128), by omega⟩ : Fin 256) := Fin.ext (by show a.val = 128 + (a.val - 128); omega)
    refine (congrArg (fun e => (out0_9 (F := Ideal) (grid0.coords t) (iblk m c 0 t) (iblk m c 1 t) (iblk m c 2 t) (iblk m c 3 t) (iblk m c 4 t) (iblk m c 5 t) (iblk m c 6 t) (iblk m c 7 t) (iblk m c 8 t) (ix2 e d) : EReal)) hs).trans ((out9_high _ _ _ _ _ _ _ _ _ _ ⟨a.val - 128, ha'⟩ d).trans ?_)
    refine congrArg₂ (fun x y : EReal => x * y) ?_ ?_
    · refine (congrArg (fun e => (iblk m c 0 t (ix2 e ⟨d.val, by omega⟩) : EReal)) hs.symm).trans (s_at m c t a _)
    refine congr (congr (congrArg mix (funext fun e => nrow_at m c t _ d _ (Fin.ext ?_))) (funext fun e => ?_)) ?_
    · show (t.val * 256 + a.val) / 128 * 128 + e.val = t.val * 256 + (128 + e.val)
      omega
    · rw [← hin]
      exact w_at m c t _ _ e
    · rw [← hin]
      exact bias_at m c t _ _ _

/-- A product of a block's row. -/
theorem z_at (c : Dev nD) (t : Fin cfg0.N) (a d : Fin 256) (r : Fin 20480) (hr : r = tok t a) :
    @HMul.hMul EReal EReal EReal _ (iblk m c 1 t (ix2 a ⟨256 + d.val, by omega⟩)) (iblk m c 1 t (ix2 a ⟨512 + d.val, by omega⟩)) = zAt (m ((c : Thread nD τ).loc main_arg1)) r d := by
  subst hr
  exact congrArg₂ (fun x y : EReal => x * y) (c_at m c t a _) (c_at m c t a _)

/-- The convolution's block. -/
theorem convolved_at (c : Dev nD) (t : Fin cfg0.N) (a d : Fin 256) : (out0_10 (F := Ideal) (grid0.coords t) (iblk m c 0 t) (iblk m c 1 t) (iblk m c 2 t) (iblk m c 3 t) (iblk m c 4 t) (iblk m c 5 t) (iblk m c 6 t) (iblk m c 7 t) (iblk m c 8 t) (ix2 a d) : EReal)
    = convAt (m ((c : Thread nD τ).loc main_arg1)) (m ((c : Thread nD τ).loc main_arg6)) (tok t a) d := by
  have hp : (point (grid0.coords t)).val = t.val := coords_val t
  have ht : t.val < 80 := t.isLt
  have htok : (tok t a).val = t.val * 256 + a.val := rfl
  refine (out10_apply _ _ _ _ _ _ _ _ _ _ a d).trans ?_
  unfold convAt
  refine congrArg₂ (fun x y : EReal => x * y) (c_at m c t a _) (congrArg₂ (fun x y : EReal => x + y) (congrArg₂ (fun x y : EReal => x + y)
    (congrArg₂ (fun x y : EReal => x * y) (wc_at m c t 0 d) ?_) (congrArg₂ (fun x y : EReal => x * y) (wc_at m c t 1 d) (z_at m c t a d _ rfl)))
    (congrArg₂ (fun x y : EReal => x * y) (wc_at m c t 2 d) ?_))
  · unfold zBefore
    by_cases ha : a.val = 0
    · rw [if_pos ha]
      by_cases hf : isFirst (point (grid0.coords t))
      · rw [if_pos hf, if_pos]
        unfold isFirst at hf
        unfold seqFirst
        split_ifs <;> omega
      · rw [if_neg hf, if_neg]
        all_goals unfold isFirst at hf
        · exact congrArg₂ (fun x y : EReal => x * y) (prev_at m c t _ (by omega) _ (by show (tok t a).val - 1 + 1 = _; omega)) (prev_at m c t _ (by omega) _ (by show (tok t a).val - 1 + 1 = _; omega))
        · unfold seqFirst
          split_ifs <;> omega
    · rw [if_neg ha, if_neg]
      · exact z_at m c t ⟨a.val - 1, by omega⟩ d ⟨(tok t a).val - 1, by omega⟩ (Fin.ext (by show (tok t a).val - 1 = t.val * 256 + (a.val - 1); omega))
      · unfold seqFirst
        split_ifs <;> omega
  · unfold zAfter
    by_cases ha : a.val = 255
    · rw [dif_pos ha]
      by_cases hf : isLast (point (grid0.coords t))
      · rw [if_pos hf]
        unfold isLast at hf
        split_ifs with h h' <;> first | rfl | exact absurd h' (by unfold seqLast; split_ifs <;> omega)
      · have hn : (tok t a).val + 1 < 20480 := by
          unfold isLast at hf
          omega
        rw [if_neg hf, dif_pos hn, if_neg]
        all_goals unfold isLast at hf
        · exact congrArg₂ (fun x y : EReal => x * y) (next_at m c t _ (by omega) _ (by show (tok t a).val + 1 = _; omega)) (next_at m c t _ (by omega) _ (by show (tok t a).val + 1 = _; omega))
        · unfold seqLast
          split_ifs <;> omega
    · have hn : (tok t a).val + 1 < 20480 := by omega
      rw [dif_neg ha, dif_pos hn, if_neg]
      · exact z_at m c t ⟨a.val + 1, by omega⟩ d ⟨(tok t a).val + 1, hn⟩ (Fin.ext (by show (tok t a).val + 1 = t.val * 256 + (a.val + 1); omega))
      · unfold seqLast
        split_ifs <;> omega

/-- The first result. -/
theorem final9 (c : Dev nD) : (dats m 0 c).arrAt 9 (cfgs 0).N = gating (m ((c : Thread nD τ).loc main_arg0)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t _ y => ?_
  blk_simp
  rw [after0_9]
  refine (congrArg _ (eq_ix2 y)).trans ((gated_at m c t (y 0) (y 1)).trans (gating_at _ _ _ _ _ _ _ _ ?_ ?_))
  · show t.val * 256 + (y 0).val = _
    blk_simp [idx_val t]
  · show (y 1).val = _
    blk_simp [idx_val t]

/-- The second result. -/
theorem final10 (c : Dev nD) : (dats m 0 c).arrAt 10 (cfgs 0).N = conv (m ((c : Thread nD τ).loc main_arg1)) (m ((c : Thread nD τ).loc main_arg6)) := by
  refine (dats m 0 c).arrAt_eq_of_covers 10 _ (by decide +kernel) fun t _ y => ?_
  blk_simp
  rw [after0_10]
  refine (congrArg _ (eq_ix2 y)).trans ((convolved_at m c t (y 0) (y 1)).trans (conv_at _ _ _ _ _ ?_ ?_))
  · show t.val * 256 + (y 0).val = _
    blk_simp [idx_val t]
  · show (y 1).val = _
    blk_simp [idx_val t]

/-- The kernel's run: its two results, and its arguments unchanged. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v5_0) = gating (m ((c : Thread nD τ).loc main_arg0)) (m ((c : Thread nD τ).loc main_arg2)) (m ((c : Thread nD τ).loc main_arg3)) (m ((c : Thread nD τ).loc main_arg4)) (m ((c : Thread nD τ).loc main_arg5))
      ∧ r.2.mem ((c.tc : Thread nD τ).loc main_v5_1) = conv (m ((c : Thread nD τ).loc main_arg1)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).1 9).trans (final9 m c), ((h.1 c).1 10).trans (final10 m c), h.2 c⟩) (θ_run_and (run_main m ρ) (unchanged m ρ))

end Cert.Kernel3Ideal.Gating

end
-- ==== Proof.GatingRef.lean ====
/- The spatial gating's and the convolution's reference: its terms element by element. -/
module

public import proofs.«01_k».proof.Proof.Gen.Reference3Ideal.Run
public import proofs.«01_k».proof.Proof.GatingValue

@[expose] public section

set_option maxRecDepth 16384

noncomputable section

namespace Cert.Reference3Ideal.Gating

open Cert.Reference3Ideal Cert.Reference3Ideal.Gen
open Idealize.ShloMosaic Idealize.ShloMosaic.TcCoe Idealize.SL.Sem
open Cert.Kernel3Ideal.Gating (mean normed mix nrow inChunk chunkRow gatingAt gating zAt seqFirst seqLast zBefore zAfter convAt conv)

/-- The word of zero, as a number. -/
theorem zero_word : (FloatOps.sitofp (F := Ideal) FTy.f32 (0#32) : EReal) = 0 := by
  show (((0#32 : BitVec 32).toInt : ℝ) : EReal) = 0
  simp

/-! ## The context's rows -/

/-- Every row's mean, repeated along the row. -/
def meansP (X : FVec Ideal S16x256x256 .f32) : FVec Ideal S16x256x256 .f32 :=
  broadcastInDim S16x256x256 ![0, 1, 2] bcast_S16x256x1_S16x256x256_0_1_2 (Host.divf (broadcastInDim S16x256x1 ![0, 1] bcast_S16x256_S16x256x1_0_1
    (Host.reduceAdd X (constant S_ .f32 0x00000000#32) reducesTo_S16x256x256_S16x256_d2 h_S_)) (broadcastInDim S16x256x1 ![] bcast_S_S16x256x1 (constant S_ .f32 0x43800000#32)))

theorem meansP_apply (X : FVec Ideal S16x256x256 .f32) (b : Fin 16) (a : Fin 256) (d : Fin 256) : (meansP X (ix3 b a d) : EReal) = mean fun k => X (ix3 b a k) := by
  unfold mean
  pointwise [meansP]

/-- Every row's deviation, inverted and repeated along the row. -/
def scalesP (Y : FVec Ideal S16x256x256 .f32) : FVec Ideal S16x256x256 .f32 :=
  broadcastInDim S16x256x256 ![0, 1, 2] bcast_S16x256x1_S16x256x256_0_1_2 (Host.rsqrt (addf (Host.divf (broadcastInDim S16x256x1 ![0, 1] bcast_S16x256_S16x256x1_0_1
    (Host.reduceAdd (mulf Y Y) (constant S_ .f32 0x00000000#32) reducesTo_S16x256x256_S16x256_d2 h_S_)) (broadcastInDim S16x256x1 ![] bcast_S_S16x256x1 (constant S_ .f32 0x43800000#32)))
    (broadcastInDim S16x256x1 ![] bcast_S_S16x256x1 (constant S_ .f32 0x3727C5AC#32))))

theorem scalesP_apply (Y : FVec Ideal S16x256x256 .f32) (b : Fin 16) (a : Fin 256) (d : Fin 256) :
    (scalesP Y (ix3 b a d) : EReal) = Ideal.rsqrt (mean (fun e => Y (ix3 b a e) * Y (ix3 b a e)) + Ideal.ofBits FTy.f32 925353388#32) := by
  unfold mean
  pointwise [scalesP]

/-- A vector repeated for every row. -/
def repeatedP (v : FVec Ideal S256 .f32) : FVec Ideal S16x256x256 .f32 :=
  broadcastInDim S16x256x256 ![0, 1, 2] bcast_S1x1x256_S16x256x256_0_1_2 (broadcastInDim S1x1x256 ![2] bcast_S256_S1x1x256_2 v)

theorem repeatedP_apply (v : FVec Ideal S256 .f32) (b : Fin 16) (a : Fin 256) (d : Fin 256) : (repeatedP v (ix3 b a d) : EReal) = v (ix1 d) := by pointwise [repeatedP]

/-- The rows normalized, scaled and shifted. -/
def rowsP (X : FVec Ideal S16x256x256 .f32) (G B : FVec Ideal S256 .f32) : FVec Ideal S16x256x256 .f32 :=
  addf (mulf (mulf (subf X (meansP X)) (scalesP (subf X (meansP X)))) (repeatedP G)) (repeatedP B)

theorem rowsP_apply (X : FVec Ideal S16x256x256 .f32) (G B : FVec Ideal S256 .f32) (b : Fin 16) (a : Fin 256) (d : Fin 256) :
    (rowsP X G B (ix3 b a d) : EReal) = normed (fun k => X (ix3 b a k)) (fun k => G (ix1 k)) (fun k => B (ix1 k)) d := by
  show ((X (ix3 b a d) : EReal) - meansP X (ix3 b a d)) * scalesP (subf X (meansP X)) (ix3 b a d) * repeatedP G (ix3 b a d) + repeatedP B (ix3 b a d) = _
  rw [scalesP_apply, meansP_apply, repeatedP_apply, repeatedP_apply]
  unfold normed
  have h : ∀ e, (subf X (meansP X) (ix3 b a e) : EReal) = X (ix3 b a e) - mean fun k => X (ix3 b a k) := fun e => by
    show (X (ix3 b a e) : EReal) - meansP X (ix3 b a e) = _
    rw [meansP_apply]
  simp only [h]

/-- The gated columns by sequence, and the columns that gate them. -/
def leftP (S : FVec Ideal S20480x512 .f32) : FVec Ideal S16x256x256 .f32 :=
  extractStridedSlice S16x256x256 ![0, 0, 0] (shapeCast S16x256x512 (extractStridedSlice S4096x512 ![0, 0] S slices_S20480x512_S4096x512_0_0) shapeCasts_S4096x512_S16x256x512) slices_S16x256x512_S16x256x256_0_0_0
def rightP (S : FVec Ideal S20480x512 .f32) : FVec Ideal S16x256x256 .f32 :=
  extractStridedSlice S16x256x256 ![0, 0, 256] (shapeCast S16x256x512 (extractStridedSlice S4096x512 ![0, 0] S slices_S20480x512_S4096x512_0_0) shapeCasts_S4096x512_S16x256x512) slices_S16x256x512_S16x256x256_0_0_256

theorem leftP_apply (S : FVec Ideal S20480x512 .f32) (b : Fin 16) (a : Fin 256) (d : Fin 256) : (leftP S (ix3 b a d) : EReal) = S (ix2 ⟨0 + (b.val * 256 + a.val), by omega⟩ ⟨d.val, by omega⟩) := by
  pointwise [leftP]
theorem rightP_apply (S : FVec Ideal S20480x512 .f32) (b : Fin 16) (a : Fin 256) (d : Fin 256) : (rightP S (ix3 b a d) : EReal) = S (ix2 ⟨0 + (b.val * 256 + a.val), by omega⟩ ⟨256 + d.val, by omega⟩) := by
  pointwise [rightP]

/-- The rows' chunks, -/
def chunksP (N : FVec Ideal S16x256x256 .f32) : FVec Ideal S16x2x128x4x64 .f32 := shapeCast S16x2x128x4x64 N shapeCasts_S16x256x256_S16x2x128x4x64
theorem chunksP_apply (N : FVec Ideal S16x256x256 .f32) (b : Fin 16) (c : Fin 2) (t : Fin 128) (g : Fin 4) (e : Fin 64) :
    (chunksP N (ix5 b c t g e) : EReal) = N (ix3 b ⟨c.val * 128 + t.val, by omega⟩ ⟨g.val * 64 + e.val, by omega⟩) := by
  pointwise [chunksP]

/-- the bias of every chunk's rows, -/
def biasP (b : FVec Ideal S4x128 .f32) : FVec Ideal S16x2x128x4x64 .f32 :=
  broadcastInDim S16x2x128x4x64 ![0, 1, 2, 3, 4] bcast_S1x1x128x4x1_S16x2x128x4x64_0_1_2_3_4 (broadcastInDim S1x1x128x4x1 ![2, 3, 4] bcast_S128x4x1_S1x1x128x4x1_2_3_4
    (broadcastInDim S128x4x1 ![0, 1] bcast_S128x4_S128x4x1_0_1 (transpose S128x4 [1, 0] b transposes_S4x128_S128x4_1_0)))
theorem biasP_apply (w : FVec Ideal S4x128 .f32) (b : Fin 16) (c : Fin 2) (t : Fin 128) (g : Fin 4) (e : Fin 64) : (biasP w (ix5 b c t g e) : EReal) = w (ix2 g t) := by pointwise [biasP]

/-- the chunks mixed, -/
def mixedP (N : FVec Ideal S16x2x128x4x64 .f32) (W : FVec Ideal S4x128x128 .f32) : FVec Ideal S16x2x128x4x64 .f32 :=
  transpose S16x2x128x4x64 [1, 2, 4, 0, 3] (Host.dotGeneral dot_S16x2x128x4x64_S4x128x128_S4x16x2x64x128_2_2_014_1_3_0 none N W) transposes_S4x16x2x64x128_S16x2x128x4x64_1_2_4_0_3
theorem mixedP_apply (N : FVec Ideal S16x2x128x4x64 .f32) (W : FVec Ideal S4x128x128 .f32) (b : Fin 16) (c : Fin 2) (t : Fin 128) (g : Fin 4) (e : Fin 64) :
    (mixedP N W (ix5 b c t g e) : EReal) = ∑ u : Fin 128, N (ix5 b c u g e) * W (ix3 g t u) := by
  pointwise [mixedP]

/-- and laid out by row again. -/
def flatP (N : FVec Ideal S16x2x128x4x64 .f32) : FVec Ideal S16x256x256 .f32 := shapeCast S16x256x256 N shapeCasts_S16x2x128x4x64_S16x256x256
theorem flatP_apply (N : FVec Ideal S16x2x128x4x64 .f32) (b : Fin 16) (a : Fin 256) (d : Fin 256) :
    (flatP N (ix3 b a d) : EReal) = N (ix5 b ⟨a.val / 128, by omega⟩ ⟨a.val % 128, by omega⟩ ⟨d.val / 64, by omega⟩ ⟨d.val % 64, by omega⟩) := by
  pointwise [flatP]

/-- The batch's gating. -/
def gateP (S : FVec Ideal S20480x512 .f32) (G B : FVec Ideal S256 .f32) (W : FVec Ideal S4x128x128 .f32) (b : FVec Ideal S4x128 .f32) : FVec Ideal S4096x256 .f32 :=
  shapeCast S4096x256 (mulf (leftP S) (flatP (addf (mixedP (chunksP (rowsP (rightP S) G B)) W) (biasP b)))) shapeCasts_S16x256x256_S4096x256

theorem gateP_apply (S : FVec Ideal S20480x512 .f32) (G B : FVec Ideal S256 .f32) (W : FVec Ideal S4x128x128 .f32) (b : FVec Ideal S4x128 .f32) (r : Fin 4096) (d : Fin 256) :
    (gateP S G B W b (ix2 r d) : EReal) = gatingAt S G B W b ⟨0 + r.val, by omega⟩ d := by
  have e : (gateP S G B W b (ix2 r d) : EReal) = leftP S (ix3 ⟨r.val / 256, by omega⟩ ⟨r.val % 256, by omega⟩ d)
      * (mixedP (chunksP (rowsP (rightP S) G B)) W (ix5 ⟨r.val / 256, by omega⟩ ⟨r.val % 256 / 128, by omega⟩ ⟨r.val % 256 % 128, by omega⟩ ⟨d.val / 64, by omega⟩ ⟨d.val % 64, by omega⟩)
        + biasP b (ix5 ⟨r.val / 256, by omega⟩ ⟨r.val % 256 / 128, by omega⟩ ⟨r.val % 256 % 128, by omega⟩ ⟨d.val / 64, by omega⟩ ⟨d.val % 64, by omega⟩)) := by
    have h : ∀ x y : FVec Ideal S16x256x256 .f32, (shapeCast S4096x256 (mulf x y) shapeCasts_S16x256x256_S4096x256 (ix2 r d) : EReal)
        = x (ix3 ⟨r.val / 256, by omega⟩ ⟨r.val % 256, by omega⟩ d) * y (ix3 ⟨r.val / 256, by omega⟩ ⟨r.val % 256, by omega⟩ d) := by
      intro x y
      pointwise []
    refine (h _ _).trans ?_
    rw [flatP_apply]
    rfl
  rw [e, leftP_apply, mixedP_apply, biasP_apply]
  unfold gatingAt mix
  simp only [chunksP_apply, rowsP_apply, rightP_apply]
  have hr : (0 + (r.val / 256 * 256 + r.val % 256)) = 0 + r.val := by omega
  have hc : (⟨r.val % 256 % 128, by omega⟩ : Fin 128) = inChunk ⟨0 + r.val, by omega⟩ := Fin.ext (by show r.val % 256 % 128 = (0 + r.val) % 128; omega)
  refine congrArg₂ (fun x y : EReal => x * y) (congrArg S (congrArg₂ ix2 (Fin.ext hr) rfl)) (congrArg₂ (fun x y : EReal => x + y) (Finset.sum_congr rfl fun u _ => ?_) (congrArg b (congrArg₂ ix2 rfl hc)))
  rw [mul_comm]
  refine congrArg₂ (fun x y : EReal => x * y) (congrArg W (congrArg (fun q => ix3 _ q u) hc)) ?_
  unfold nrow
  have hu : (⟨0 + (r.val / 256 * 256 + (r.val % 256 / 128 * 128 + u.val)), by omega⟩ : Fin 20480) = chunkRow ⟨0 + r.val, by omega⟩ u :=
    Fin.ext (by show 0 + (r.val / 256 * 256 + (r.val % 256 / 128 * 128 + u.val)) = (0 + r.val) / 128 * 128 + u.val; omega)
  have hd : (⟨d.val / 64 * 64 + d.val % 64, by omega⟩ : Fin 256) = d := Fin.ext (by show d.val / 64 * 64 + d.val % 64 = d.val; omega)
  exact congr (congrArg (fun q : Fin 20480 => normed (fun k => S (ix2 q ⟨256 + k.val, by omega⟩)) (fun k => G (ix1 k)) (fun k => B (ix1 k))) hu) hd

/-- The convolution's factor and its product by sequence, -/
def factorP (C : FVec Ideal S20480x768 .f32) : FVec Ideal S16x256x256 .f32 :=
  extractStridedSlice S16x256x256 ![0, 0, 0] (shapeCast S16x256x768 (extractStridedSlice S4096x768 ![0, 0] C slices_S20480x768_S4096x768_0_0) shapeCasts_S4096x768_S16x256x768) slices_S16x256x768_S16x256x256_0_0_0
def prodP (C : FVec Ideal S20480x768 .f32) : FVec Ideal S16x256x256 .f32 :=
  mulf (extractStridedSlice S16x256x256 ![0, 0, 256] (shapeCast S16x256x768 (extractStridedSlice S4096x768 ![0, 0] C slices_S20480x768_S4096x768_0_0) shapeCasts_S4096x768_S16x256x768) slices_S16x256x768_S16x256x256_0_0_256)
    (extractStridedSlice S16x256x256 ![0, 0, 512] (shapeCast S16x256x768 (extractStridedSlice S4096x768 ![0, 0] C slices_S20480x768_S4096x768_0_0) shapeCasts_S4096x768_S16x256x768) slices_S16x256x768_S16x256x256_0_0_512)

theorem factorP_apply (C : FVec Ideal S20480x768 .f32) (b : Fin 16) (a : Fin 256) (d : Fin 256) : (factorP C (ix3 b a d) : EReal) = C (ix2 ⟨0 + (b.val * 256 + a.val), by omega⟩ ⟨d.val, by omega⟩) := by
  pointwise [factorP]
theorem prodP_apply (C : FVec Ideal S20480x768 .f32) (b : Fin 16) (a : Fin 256) (d : Fin 256) : (prodP C (ix3 b a d) : EReal) = zAt C ⟨0 + (b.val * 256 + a.val), by omega⟩ d := by
  unfold zAt
  pointwise [prodP]

/-- the product with a row of zeros before and after every sequence, -/
def paddedP (Z : FVec Ideal S16x256x256 .f32) : FVec Ideal S16x258x256 .f32 := pad S16x258x256 ![0, 1, 0] ![0, 1, 0] ![0, 0, 0] Z (sitofp .f32 (constantI S_ 32 0#32)) pads_S16x256x256_S16x258x256_000_110_000 h_S_
theorem paddedP_apply (Z : FVec Ideal S16x256x256 .f32) (b : Fin 16) (a : Fin 258) (d : Fin 256) :
    (paddedP Z (ix3 b a d) : EReal) = if h : 1 ≤ a.val ∧ a.val ≤ 256 then Z (ix3 b ⟨a.val - 1, by omega⟩ d) else 0 := by
  pointwise [paddedP]
  split_ifs with h h' h'
  · rfl
  · omega
  · omega
  · exact zero_word

/-- and the convolution. -/
def convP (C : FVec Ideal S20480x768 .f32) (K : FVec Ideal S3x256 .f32) : FVec Ideal S4096x256 .f32 :=
  shapeCast S4096x256 (mulf (factorP C) (addf (addf
    (mulf (repeatedP (shapeCast S256 (extractStridedSlice S1x256 ![0, 0] K slices_S3x256_S1x256_0_0) shapeCasts_S1x256_S256)) (extractStridedSlice S16x256x256 ![0, 0, 0] (paddedP (prodP C)) slices_S16x258x256_S16x256x256_0_0_0))
    (mulf (repeatedP (shapeCast S256 (extractStridedSlice S1x256 ![1, 0] K slices_S3x256_S1x256_1_0) shapeCasts_S1x256_S256)) (extractStridedSlice S16x256x256 ![0, 1, 0] (paddedP (prodP C)) slices_S16x258x256_S16x256x256_0_1_0)))
    (mulf (repeatedP (shapeCast S256 (extractStridedSlice S1x256 ![2, 0] K slices_S3x256_S1x256_2_0) shapeCasts_S1x256_S256)) (extractStridedSlice S16x256x256 ![0, 2, 0] (paddedP (prodP C)) slices_S16x258x256_S16x256x256_0_2_0)))) shapeCasts_S16x256x256_S4096x256

theorem convP_apply (C : FVec Ideal S20480x768 .f32) (K : FVec Ideal S3x256 .f32) (r : Fin 4096) (d : Fin 256) :
    (convP C K (ix2 r d) : EReal) = convAt C K ⟨0 + r.val, by omega⟩ d := by
  have e : (convP C K (ix2 r d) : EReal) = factorP C (ix3 ⟨r.val / 256, by omega⟩ ⟨r.val % 256, by omega⟩ d)
      * (K (ix2 0 d) * paddedP (prodP C) (ix3 ⟨r.val / 256, by omega⟩ ⟨r.val % 256, by omega⟩ d)
        + K (ix2 1 d) * paddedP (prodP C) (ix3 ⟨r.val / 256, by omega⟩ ⟨1 + r.val % 256, by omega⟩ d)
        + K (ix2 2 d) * paddedP (prodP C) (ix3 ⟨r.val / 256, by omega⟩ ⟨2 + r.val % 256, by omega⟩ d)) := by
    unfold convP
    generalize paddedP (prodP C) = Z
    generalize factorP C = A
    pointwise [repeatedP]
  rw [e, factorP_apply, paddedP_apply, paddedP_apply, paddedP_apply]
  unfold convAt
  have hr : (⟨0 + (r.val / 256 * 256 + r.val % 256), by omega⟩ : Fin 20480) = ⟨0 + r.val, by omega⟩ := Fin.ext (by show 0 + (r.val / 256 * 256 + r.val % 256) = 0 + r.val; omega)
  refine congrArg₂ (fun x y : EReal => x * y) (congrArg C (congrArg₂ ix2 hr rfl)) (congrArg₂ (fun x y : EReal => x + y) (congrArg₂ (fun x y : EReal => x + y)
    (congrArg (fun y : EReal => K (ix2 0 d) * y) ?_) (congrArg (fun y : EReal => K (ix2 1 d) * y) ?_)) (congrArg (fun y : EReal => K (ix2 2 d) * y) ?_))
  · unfold zBefore
    by_cases h : r.val % 256 = 0
    · rw [dif_neg (by show ¬(1 ≤ r.val % 256 ∧ r.val % 256 ≤ 256); omega), if_pos]
      unfold seqFirst
      split_ifs with h' <;> simp only [] at h' ⊢ <;> omega
    · rw [dif_pos (by show 1 ≤ r.val % 256 ∧ r.val % 256 ≤ 256; omega), if_neg, prodP_apply]
      · refine congrArg (fun q => zAt C q d) (Fin.ext ?_)
        show 0 + (r.val / 256 * 256 + (r.val % 256 - 1)) = 0 + r.val - 1
        omega
      · unfold seqFirst
        split_ifs with h' <;> simp only [] at h' ⊢ <;> omega
  · rw [dif_pos (by show 1 ≤ 1 + r.val % 256 ∧ 1 + r.val % 256 ≤ 256; omega), prodP_apply]
    refine congrArg (fun q => zAt C q d) (Fin.ext ?_)
    show 0 + (r.val / 256 * 256 + (1 + r.val % 256 - 1)) = 0 + r.val
    omega
  · unfold zAfter
    by_cases h : r.val % 256 = 255
    · rw [dif_neg (by show ¬(1 ≤ 2 + r.val % 256 ∧ 2 + r.val % 256 ≤ 256); omega)]
      by_cases h2 : 0 + r.val + 1 < 20480
      · rw [dif_pos h2, if_pos]
        unfold seqLast
        split_ifs with h' <;> simp only [] at h' ⊢ <;> omega
      · rw [dif_neg h2]
    · rw [dif_pos (by show 1 ≤ 2 + r.val % 256 ∧ 2 + r.val % 256 ≤ 256; omega), dif_pos (by show 0 + r.val + 1 < 20480; omega), if_neg, prodP_apply]
      · refine congrArg (fun q => zAt C q d) (Fin.ext ?_)
        show 0 + (r.val / 256 * 256 + (2 + r.val % 256 - 1)) = 0 + r.val + 1
        omega
      · unfold seqLast
        split_ifs with h' <;> simp only [] at h' ⊢ <;> omega

/-! ## The requests's rows -/

/-- Every row's mean, repeated along the row. -/
def meansQ (X : FVec Ideal S4x4096x256 .f32) : FVec Ideal S4x4096x256 .f32 :=
  broadcastInDim S4x4096x256 ![0, 1, 2] bcast_S4x4096x1_S4x4096x256_0_1_2 (Host.divf (broadcastInDim S4x4096x1 ![0, 1] bcast_S4x4096_S4x4096x1_0_1
    (Host.reduceAdd X (constant S_ .f32 0x00000000#32) reducesTo_S4x4096x256_S4x4096_d2 h_S_)) (broadcastInDim S4x4096x1 ![] bcast_S_S4x4096x1 (constant S_ .f32 0x43800000#32)))

theorem meansQ_apply (X : FVec Ideal S4x4096x256 .f32) (b : Fin 4) (a : Fin 4096) (d : Fin 256) : (meansQ X (ix3 b a d) : EReal) = mean fun k => X (ix3 b a k) := by
  unfold mean
  pointwise [meansQ]

/-- Every row's deviation, inverted and repeated along the row. -/
def scalesQ (Y : FVec Ideal S4x4096x256 .f32) : FVec Ideal S4x4096x256 .f32 :=
  broadcastInDim S4x4096x256 ![0, 1, 2] bcast_S4x4096x1_S4x4096x256_0_1_2 (Host.rsqrt (addf (Host.divf (broadcastInDim S4x4096x1 ![0, 1] bcast_S4x4096_S4x4096x1_0_1
    (Host.reduceAdd (mulf Y Y) (constant S_ .f32 0x00000000#32) reducesTo_S4x4096x256_S4x4096_d2 h_S_)) (broadcastInDim S4x4096x1 ![] bcast_S_S4x4096x1 (constant S_ .f32 0x43800000#32)))
    (broadcastInDim S4x4096x1 ![] bcast_S_S4x4096x1 (constant S_ .f32 0x3727C5AC#32))))

theorem scalesQ_apply (Y : FVec Ideal S4x4096x256 .f32) (b : Fin 4) (a : Fin 4096) (d : Fin 256) :
    (scalesQ Y (ix3 b a d) : EReal) = Ideal.rsqrt (mean (fun e => Y (ix3 b a e) * Y (ix3 b a e)) + Ideal.ofBits FTy.f32 925353388#32) := by
  unfold mean
  pointwise [scalesQ]

/-- A vector repeated for every row. -/
def repeatedQ (v : FVec Ideal S256 .f32) : FVec Ideal S4x4096x256 .f32 :=
  broadcastInDim S4x4096x256 ![0, 1, 2] bcast_S1x1x256_S4x4096x256_0_1_2 (broadcastInDim S1x1x256 ![2] bcast_S256_S1x1x256_2 v)

theorem repeatedQ_apply (v : FVec Ideal S256 .f32) (b : Fin 4) (a : Fin 4096) (d : Fin 256) : (repeatedQ v (ix3 b a d) : EReal) = v (ix1 d) := by pointwise [repeatedQ]

/-- The rows normalized, scaled and shifted. -/
def rowsQ (X : FVec Ideal S4x4096x256 .f32) (G B : FVec Ideal S256 .f32) : FVec Ideal S4x4096x256 .f32 :=
  addf (mulf (mulf (subf X (meansQ X)) (scalesQ (subf X (meansQ X)))) (repeatedQ G)) (repeatedQ B)

theorem rowsQ_apply (X : FVec Ideal S4x4096x256 .f32) (G B : FVec Ideal S256 .f32) (b : Fin 4) (a : Fin 4096) (d : Fin 256) :
    (rowsQ X G B (ix3 b a d) : EReal) = normed (fun k => X (ix3 b a k)) (fun k => G (ix1 k)) (fun k => B (ix1 k)) d := by
  show ((X (ix3 b a d) : EReal) - meansQ X (ix3 b a d)) * scalesQ (subf X (meansQ X)) (ix3 b a d) * repeatedQ G (ix3 b a d) + repeatedQ B (ix3 b a d) = _
  rw [scalesQ_apply, meansQ_apply, repeatedQ_apply, repeatedQ_apply]
  unfold normed
  have h : ∀ e, (subf X (meansQ X) (ix3 b a e) : EReal) = X (ix3 b a e) - mean fun k => X (ix3 b a k) := fun e => by
    show (X (ix3 b a e) : EReal) - meansQ X (ix3 b a e) = _
    rw [meansQ_apply]
  simp only [h]

/-- The gated columns by sequence, and the columns that gate them. -/
def leftQ (S : FVec Ideal S20480x512 .f32) : FVec Ideal S4x4096x256 .f32 :=
  extractStridedSlice S4x4096x256 ![0, 0, 0] (shapeCast S4x4096x512 (extractStridedSlice S16384x512 ![4096, 0] S slices_S20480x512_S16384x512_4096_0) shapeCasts_S16384x512_S4x4096x512) slices_S4x4096x512_S4x4096x256_0_0_0
def rightQ (S : FVec Ideal S20480x512 .f32) : FVec Ideal S4x4096x256 .f32 :=
  extractStridedSlice S4x4096x256 ![0, 0, 256] (shapeCast S4x4096x512 (extractStridedSlice S16384x512 ![4096, 0] S slices_S20480x512_S16384x512_4096_0) shapeCasts_S16384x512_S4x4096x512) slices_S4x4096x512_S4x4096x256_0_0_256

theorem leftQ_apply (S : FVec Ideal S20480x512 .f32) (b : Fin 4) (a : Fin 4096) (d : Fin 256) : (leftQ S (ix3 b a d) : EReal) = S (ix2 ⟨4096 + (b.val * 4096 + a.val), by omega⟩ ⟨d.val, by omega⟩) := by
  pointwise [leftQ]
theorem rightQ_apply (S : FVec Ideal S20480x512 .f32) (b : Fin 4) (a : Fin 4096) (d : Fin 256) : (rightQ S (ix3 b a d) : EReal) = S (ix2 ⟨4096 + (b.val * 4096 + a.val), by omega⟩ ⟨256 + d.val, by omega⟩) := by
  pointwise [rightQ]

/-- The rows' chunks, -/
def chunksQ (N : FVec Ideal S4x4096x256 .f32) : FVec Ideal S4x32x128x4x64 .f32 := shapeCast S4x32x128x4x64 N shapeCasts_S4x4096x256_S4x32x128x4x64
theorem chunksQ_apply (N : FVec Ideal S4x4096x256 .f32) (b : Fin 4) (c : Fin 32) (t : Fin 128) (g : Fin 4) (e : Fin 64) :
    (chunksQ N (ix5 b c t g e) : EReal) = N (ix3 b ⟨c.val * 128 + t.val, by omega⟩ ⟨g.val * 64 + e.val, by omega⟩) := by
  pointwise [chunksQ]

/-- the bias of every chunk's rows, -/
def biasQ (b : FVec Ideal S4x128 .f32) : FVec Ideal S4x32x128x4x64 .f32 :=
  broadcastInDim S4x32x128x4x64 ![0, 1, 2, 3, 4] bcast_S1x1x128x4x1_S4x32x128x4x64_0_1_2_3_4 (broadcastInDim S1x1x128x4x1 ![2, 3, 4] bcast_S128x4x1_S1x1x128x4x1_2_3_4
    (broadcastInDim S128x4x1 ![0, 1] bcast_S128x4_S128x4x1_0_1 (transpose S128x4 [1, 0] b transposes_S4x128_S128x4_1_0)))
theorem biasQ_apply (w : FVec Ideal S4x128 .f32) (b : Fin 4) (c : Fin 32) (t : Fin 128) (g : Fin 4) (e : Fin 64) : (biasQ w (ix5 b c t g e) : EReal) = w (ix2 g t) := by pointwise [biasQ]

/-- the chunks mixed, -/
def mixedQ (N : FVec Ideal S4x32x128x4x64 .f32) (W : FVec Ideal S4x128x128 .f32) : FVec Ideal S4x32x128x4x64 .f32 :=
  transpose S4x32x128x4x64 [1, 2, 4, 0, 3] (Host.dotGeneral dot_S4x32x128x4x64_S4x128x128_S4x4x32x64x128_2_2_014_1_3_0 none N W) transposes_S4x4x32x64x128_S4x32x128x4x64_1_2_4_0_3
theorem mixedQ_apply (N : FVec Ideal S4x32x128x4x64 .f32) (W : FVec Ideal S4x128x128 .f32) (b : Fin 4) (c : Fin 32) (t : Fin 128) (g : Fin 4) (e : Fin 64) :
    (mixedQ N W (ix5 b c t g e) : EReal) = ∑ u : Fin 128, N (ix5 b c u g e) * W (ix3 g t u) := by
  pointwise [mixedQ]

/-- and laid out by row again. -/
def flatQ (N : FVec Ideal S4x32x128x4x64 .f32) : FVec Ideal S4x4096x256 .f32 := shapeCast S4x4096x256 N shapeCasts_S4x32x128x4x64_S4x4096x256
theorem flatQ_apply (N : FVec Ideal S4x32x128x4x64 .f32) (b : Fin 4) (a : Fin 4096) (d : Fin 256) :
    (flatQ N (ix3 b a d) : EReal) = N (ix5 b ⟨a.val / 128, by omega⟩ ⟨a.val % 128, by omega⟩ ⟨d.val / 64, by omega⟩ ⟨d.val % 64, by omega⟩) := by
  pointwise [flatQ]

/-- The batch's gating. -/
def gateQ (S : FVec Ideal S20480x512 .f32) (G B : FVec Ideal S256 .f32) (W : FVec Ideal S4x128x128 .f32) (b : FVec Ideal S4x128 .f32) : FVec Ideal S16384x256 .f32 :=
  shapeCast S16384x256 (mulf (leftQ S) (flatQ (addf (mixedQ (chunksQ (rowsQ (rightQ S) G B)) W) (biasQ b)))) shapeCasts_S4x4096x256_S16384x256

theorem gateQ_apply (S : FVec Ideal S20480x512 .f32) (G B : FVec Ideal S256 .f32) (W : FVec Ideal S4x128x128 .f32) (b : FVec Ideal S4x128 .f32) (r : Fin 16384) (d : Fin 256) :
    (gateQ S G B W b (ix2 r d) : EReal) = gatingAt S G B W b ⟨4096 + r.val, by omega⟩ d := by
  have e : (gateQ S G B W b (ix2 r d) : EReal) = leftQ S (ix3 ⟨r.val / 4096, by omega⟩ ⟨r.val % 4096, by omega⟩ d)
      * (mixedQ (chunksQ (rowsQ (rightQ S) G B)) W (ix5 ⟨r.val / 4096, by omega⟩ ⟨r.val % 4096 / 128, by omega⟩ ⟨r.val % 4096 % 128, by omega⟩ ⟨d.val / 64, by omega⟩ ⟨d.val % 64, by omega⟩)
        + biasQ b (ix5 ⟨r.val / 4096, by omega⟩ ⟨r.val % 4096 / 128, by omega⟩ ⟨r.val % 4096 % 128, by omega⟩ ⟨d.val / 64, by omega⟩ ⟨d.val % 64, by omega⟩)) := by
    have h : ∀ x y : FVec Ideal S4x4096x256 .f32, (shapeCast S16384x256 (mulf x y) shapeCasts_S4x4096x256_S16384x256 (ix2 r d) : EReal)
        = x (ix3 ⟨r.val / 4096, by omega⟩ ⟨r.val % 4096, by omega⟩ d) * y (ix3 ⟨r.val / 4096, by omega⟩ ⟨r.val % 4096, by omega⟩ d) := by
      intro x y
      pointwise []
    refine (h _ _).trans ?_
    rw [flatQ_apply]
    rfl
  rw [e, leftQ_apply, mixedQ_apply, biasQ_apply]
  unfold gatingAt mix
  simp only [chunksQ_apply, rowsQ_apply, rightQ_apply]
  have hr : (4096 + (r.val / 4096 * 4096 + r.val % 4096)) = 4096 + r.val := by omega
  have hc : (⟨r.val % 4096 % 128, by omega⟩ : Fin 128) = inChunk ⟨4096 + r.val, by omega⟩ := Fin.ext (by show r.val % 4096 % 128 = (4096 + r.val) % 128; omega)
  refine congrArg₂ (fun x y : EReal => x * y) (congrArg S (congrArg₂ ix2 (Fin.ext hr) rfl)) (congrArg₂ (fun x y : EReal => x + y) (Finset.sum_congr rfl fun u _ => ?_) (congrArg b (congrArg₂ ix2 rfl hc)))
  rw [mul_comm]
  refine congrArg₂ (fun x y : EReal => x * y) (congrArg W (congrArg (fun q => ix3 _ q u) hc)) ?_
  unfold nrow
  have hu : (⟨4096 + (r.val / 4096 * 4096 + (r.val % 4096 / 128 * 128 + u.val)), by omega⟩ : Fin 20480) = chunkRow ⟨4096 + r.val, by omega⟩ u :=
    Fin.ext (by show 4096 + (r.val / 4096 * 4096 + (r.val % 4096 / 128 * 128 + u.val)) = (4096 + r.val) / 128 * 128 + u.val; omega)
  have hd : (⟨d.val / 64 * 64 + d.val % 64, by omega⟩ : Fin 256) = d := Fin.ext (by show d.val / 64 * 64 + d.val % 64 = d.val; omega)
  exact congr (congrArg (fun q : Fin 20480 => normed (fun k => S (ix2 q ⟨256 + k.val, by omega⟩)) (fun k => G (ix1 k)) (fun k => B (ix1 k))) hu) hd

/-- The convolution's factor and its product by sequence, -/
def factorQ (C : FVec Ideal S20480x768 .f32) : FVec Ideal S4x4096x256 .f32 :=
  extractStridedSlice S4x4096x256 ![0, 0, 0] (shapeCast S4x4096x768 (extractStridedSlice S16384x768 ![4096, 0] C slices_S20480x768_S16384x768_4096_0) shapeCasts_S16384x768_S4x4096x768) slices_S4x4096x768_S4x4096x256_0_0_0
def prodQ (C : FVec Ideal S20480x768 .f32) : FVec Ideal S4x4096x256 .f32 :=
  mulf (extractStridedSlice S4x4096x256 ![0, 0, 256] (shapeCast S4x4096x768 (extractStridedSlice S16384x768 ![4096, 0] C slices_S20480x768_S16384x768_4096_0) shapeCasts_S16384x768_S4x4096x768) slices_S4x4096x768_S4x4096x256_0_0_256)
    (extractStridedSlice S4x4096x256 ![0, 0, 512] (shapeCast S4x4096x768 (extractStridedSlice S16384x768 ![4096, 0] C slices_S20480x768_S16384x768_4096_0) shapeCasts_S16384x768_S4x4096x768) slices_S4x4096x768_S4x4096x256_0_0_512)

theorem factorQ_apply (C : FVec Ideal S20480x768 .f32) (b : Fin 4) (a : Fin 4096) (d : Fin 256) : (factorQ C (ix3 b a d) : EReal) = C (ix2 ⟨4096 + (b.val * 4096 + a.val), by omega⟩ ⟨d.val, by omega⟩) := by
  pointwise [factorQ]
theorem prodQ_apply (C : FVec Ideal S20480x768 .f32) (b : Fin 4) (a : Fin 4096) (d : Fin 256) : (prodQ C (ix3 b a d) : EReal) = zAt C ⟨4096 + (b.val * 4096 + a.val), by omega⟩ d := by
  unfold zAt
  pointwise [prodQ]

/-- the product with a row of zeros before and after every sequence, -/
def paddedQ (Z : FVec Ideal S4x4096x256 .f32) : FVec Ideal S4x4098x256 .f32 := pad S4x4098x256 ![0, 1, 0] ![0, 1, 0] ![0, 0, 0] Z (sitofp .f32 (constantI S_ 32 0#32)) pads_S4x4096x256_S4x4098x256_000_110_000 h_S_
theorem paddedQ_apply (Z : FVec Ideal S4x4096x256 .f32) (b : Fin 4) (a : Fin 4098) (d : Fin 256) :
    (paddedQ Z (ix3 b a d) : EReal) = if h : 1 ≤ a.val ∧ a.val ≤ 4096 then Z (ix3 b ⟨a.val - 1, by omega⟩ d) else 0 := by
  pointwise [paddedQ]
  split_ifs with h h' h'
  · rfl
  · omega
  · omega
  · exact zero_word

/-- and the convolution. -/
def convQ (C : FVec Ideal S20480x768 .f32) (K : FVec Ideal S3x256 .f32) : FVec Ideal S16384x256 .f32 :=
  shapeCast S16384x256 (mulf (factorQ C) (addf (addf
    (mulf (repeatedQ (shapeCast S256 (extractStridedSlice S1x256 ![0, 0] K slices_S3x256_S1x256_0_0) shapeCasts_S1x256_S256)) (extractStridedSlice S4x4096x256 ![0, 0, 0] (paddedQ (prodQ C)) slices_S4x4098x256_S4x4096x256_0_0_0))
    (mulf (repeatedQ (shapeCast S256 (extractStridedSlice S1x256 ![1, 0] K slices_S3x256_S1x256_1_0) shapeCasts_S1x256_S256)) (extractStridedSlice S4x4096x256 ![0, 1, 0] (paddedQ (prodQ C)) slices_S4x4098x256_S4x4096x256_0_1_0)))
    (mulf (repeatedQ (shapeCast S256 (extractStridedSlice S1x256 ![2, 0] K slices_S3x256_S1x256_2_0) shapeCasts_S1x256_S256)) (extractStridedSlice S4x4096x256 ![0, 2, 0] (paddedQ (prodQ C)) slices_S4x4098x256_S4x4096x256_0_2_0)))) shapeCasts_S4x4096x256_S16384x256

theorem convQ_apply (C : FVec Ideal S20480x768 .f32) (K : FVec Ideal S3x256 .f32) (r : Fin 16384) (d : Fin 256) :
    (convQ C K (ix2 r d) : EReal) = convAt C K ⟨4096 + r.val, by omega⟩ d := by
  have e : (convQ C K (ix2 r d) : EReal) = factorQ C (ix3 ⟨r.val / 4096, by omega⟩ ⟨r.val % 4096, by omega⟩ d)
      * (K (ix2 0 d) * paddedQ (prodQ C) (ix3 ⟨r.val / 4096, by omega⟩ ⟨r.val % 4096, by omega⟩ d)
        + K (ix2 1 d) * paddedQ (prodQ C) (ix3 ⟨r.val / 4096, by omega⟩ ⟨1 + r.val % 4096, by omega⟩ d)
        + K (ix2 2 d) * paddedQ (prodQ C) (ix3 ⟨r.val / 4096, by omega⟩ ⟨2 + r.val % 4096, by omega⟩ d)) := by
    unfold convQ
    generalize paddedQ (prodQ C) = Z
    generalize factorQ C = A
    pointwise [repeatedQ]
  rw [e, factorQ_apply, paddedQ_apply, paddedQ_apply, paddedQ_apply]
  unfold convAt
  have hr : (⟨4096 + (r.val / 4096 * 4096 + r.val % 4096), by omega⟩ : Fin 20480) = ⟨4096 + r.val, by omega⟩ := Fin.ext (by show 4096 + (r.val / 4096 * 4096 + r.val % 4096) = 4096 + r.val; omega)
  refine congrArg₂ (fun x y : EReal => x * y) (congrArg C (congrArg₂ ix2 hr rfl)) (congrArg₂ (fun x y : EReal => x + y) (congrArg₂ (fun x y : EReal => x + y)
    (congrArg (fun y : EReal => K (ix2 0 d) * y) ?_) (congrArg (fun y : EReal => K (ix2 1 d) * y) ?_)) (congrArg (fun y : EReal => K (ix2 2 d) * y) ?_))
  · unfold zBefore
    by_cases h : r.val % 4096 = 0
    · rw [dif_neg (by show ¬(1 ≤ r.val % 4096 ∧ r.val % 4096 ≤ 4096); omega), if_pos]
      unfold seqFirst
      split_ifs with h' <;> simp only [] at h' ⊢ <;> omega
    · rw [dif_pos (by show 1 ≤ r.val % 4096 ∧ r.val % 4096 ≤ 4096; omega), if_neg, prodQ_apply]
      · refine congrArg (fun q => zAt C q d) (Fin.ext ?_)
        show 4096 + (r.val / 4096 * 4096 + (r.val % 4096 - 1)) = 4096 + r.val - 1
        omega
      · unfold seqFirst
        split_ifs with h' <;> simp only [] at h' ⊢ <;> omega
  · rw [dif_pos (by show 1 ≤ 1 + r.val % 4096 ∧ 1 + r.val % 4096 ≤ 4096; omega), prodQ_apply]
    refine congrArg (fun q => zAt C q d) (Fin.ext ?_)
    show 4096 + (r.val / 4096 * 4096 + (1 + r.val % 4096 - 1)) = 4096 + r.val
    omega
  · unfold zAfter
    by_cases h : r.val % 4096 = 4095
    · rw [dif_neg (by show ¬(1 ≤ 2 + r.val % 4096 ∧ 2 + r.val % 4096 ≤ 4096); omega)]
      by_cases h2 : 4096 + r.val + 1 < 20480
      · rw [dif_pos h2, if_pos]
        unfold seqLast
        split_ifs with h' <;> simp only [] at h' ⊢ <;> omega
      · rw [dif_neg h2]
    · rw [dif_pos (by show 1 ≤ 2 + r.val % 4096 ∧ 2 + r.val % 4096 ≤ 4096; omega), dif_pos (by show 4096 + r.val + 1 < 20480; omega), if_neg, prodQ_apply]
      · refine congrArg (fun q => zAt C q d) (Fin.ext ?_)
        show 4096 + (r.val / 4096 * 4096 + (2 + r.val % 4096 - 1)) = 4096 + r.val + 1
        omega
      · unfold seqLast
        split_ifs with h' <;> simp only [] at h' ⊢ <;> omega

/-! ## The two batches, one after the other -/

def joined (p : FVec Ideal S4096x256 .f32) (q : FVec Ideal S16384x256 .f32) : FVec Ideal S20480x256 .f32 :=
  concatenate S20480x256 0 [⟨S4096x256, p⟩, ⟨S16384x256, q⟩] concatenates_S4096x256_S16384x256_S20480x256_d0

theorem joined_apply (p : FVec Ideal S4096x256 .f32) (q : FVec Ideal S16384x256 .f32) (r : Fin 20480) (d : Fin 256) :
    (joined p q (ix2 r d) : EReal) = if h : r.val < 4096 then p (ix2 ⟨r.val, h⟩ d) else q (ix2 ⟨r.val - 4096, by omega⟩ d) := by
  pointwise [joined]

/-- An array whose two parts are a function's rows is the function's. -/
theorem joined_eq (p : FVec Ideal S4096x256 .f32) (q : FVec Ideal S16384x256 .f32) (f : Fin 20480 → Fin 256 → EReal)
    (hp : ∀ (r : Fin 4096) d, (p (ix2 r d) : EReal) = f ⟨0 + r.val, by omega⟩ d) (hq : ∀ (r : Fin 16384) d, (q (ix2 r d) : EReal) = f ⟨4096 + r.val, by omega⟩ d) :
    joined p q = fun i => f (i 0) (i 1) := by
  funext y
  refine (congrArg _ (eq_ix2 y)).trans ((joined_apply p q (y 0) (y 1)).trans ?_)
  have hy : (y 0).val < 20480 := (y 0).isLt
  split_ifs with h
  · exact (hp _ _).trans (congrArg (fun r => f r (y 1)) (Fin.ext (by show 0 + (y 0).val = (y 0).val; omega)))
  · exact (hq _ _).trans (congrArg (fun r => f r (y 1)) (Fin.ext (by show 4096 + ((y 0).val - 4096) = (y 0).val; omega)))

theorem gating_eq (S : FVec Ideal S20480x512 .f32) (G B : FVec Ideal S256 .f32) (W : FVec Ideal S4x128x128 .f32) (b : FVec Ideal S4x128 .f32) :
    joined (gateP S G B W b) (gateQ S G B W b) = gating S G B W b :=
  joined_eq _ _ (gatingAt S G B W b) (gateP_apply S G B W b) (gateQ_apply S G B W b)
theorem conv_eq (C : FVec Ideal S20480x768 .f32) (K : FVec Ideal S3x256 .f32) : joined (convP C K) (convQ C K) = conv C K :=
  joined_eq _ _ (convAt C K) (convP_apply C K) (convQ_apply C K)

/-- The reference's run: its two results, and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v134) = gating (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v137) = conv (m ((c.tc : Thread nD τ).loc main_arg1)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (gating_eq _ _ _ _ _), (h c).2.1.trans (conv_eq _ _), (h c).2.2⟩) (Cert.Reference3Ideal.Value.run (F := Ideal) m ρ)
end Cert.Reference3Ideal.Gating

end
-- ==== Proof.OutprojValue.lean ====
/- The output projection over the reals: its terms element by element, and the arrays that the kernel leaves. -/
module

public import proofs.«01_k».proof.Proof.Gen.Kernel4Ideal.Frame
public import proofs.«01_k».proof.Proof.LayerNorm
public import Idealize.ShloMosaic.Lib.Pointwise
public import Idealize.ShloMosaic.Lib.Pipeline.ValueKit

@[expose] public section

set_option maxRecDepth 16384

noncomputable section

namespace Cert.Kernel4Ideal.Outproj

open Cert.Kernel4Ideal Cert.Kernel4Ideal.Gen
open Idealize.ShloMosaic Idealize.ShloMosaic.TcCoe Idealize.SL.Sem
open Cert.LayerNorm

/-- The residual's factor. -/
def alpha : EReal := Ideal.ofBits FTy.f32 1068827891#32

/-- The joined mixers' row times a column: one sum for each mixer. -/
def mixed (yg ys yc yf : Fin 256 → EReal) (w : Fin 1024 → EReal) : EReal :=
  (∑ k : Fin 256, yg k * w ⟨k.val, by omega⟩) + (∑ k : Fin 256, ys k * w ⟨256 + k.val, by omega⟩)
    + (∑ k : Fin 256, yc k * w ⟨512 + k.val, by omega⟩) + ∑ k : Fin 256, yf k * w ⟨768 + k.val, by omega⟩

/-- A row of the residual, normalized, scaled and shifted. -/
def residual (x g1 y g b : Fin 1024 → EReal) (k : Fin 1024) : EReal := normed (fun e => alpha * x e + g1 e * y e) k * g k + b k

theorem pay3_apply (y0 y1 y2 y3 : FVec Ideal S256x256 .f32) (w0 w1 w2 w3 : FVec Ideal S256x1024 .bf16) (a : Fin 256) (d : Fin 1024) :
    k0_pay3 (F := Ideal) y0 w0 y1 w1 y2 w2 y3 w3 (ix2 a d)
      = ((∑ k, y0 (ix2 a k) * w0 (ix2 k d)) + (∑ k, y1 (ix2 a k) * w1 (ix2 k d)) + (∑ k, y2 (ix2 a k) * w2 (ix2 k d)) + ∑ k, y3 (ix2 a k) * w3 (ix2 k d) : EReal) := by
  pointwise [k0_pay3]

theorem pay4_apply (v : FVec Ideal S1x1x1024 .f32) (d : Fin 1024) : k0_pay4 (F := Ideal) v (ix2 0 d) = v (ix3 0 0 d) := by pointwise [k0_pay4]
theorem pay5_apply (v : FVec Ideal S1x1x1024 .f32) (d : Fin 1024) : k0_pay5 (F := Ideal) v (ix2 0 d) = v (ix3 0 0 d) := by pointwise [k0_pay5]
theorem pay6_apply (v : FVec Ideal S1x1x1024 .f32) (d : Fin 1024) : k0_pay6 (F := Ideal) v (ix2 0 d) = v (ix3 0 0 d) := by pointwise [k0_pay6]

theorem pay7_apply (y : FVec Ideal S256x1024 .f32) (g1 : FVec Ideal S1x1024 .f32) (x : FVec Ideal S256x1024 .f32) (g b : FVec Ideal S1x1024 .f32) (a : Fin 256) (d : Fin 1024) :
    k0_pay7 (F := Ideal) y g1 x g b (ix2 a d)
      = (residual (fun k => x (ix2 a k)) (fun k => g1 (ix2 0 k)) (fun k => y (ix2 a k)) (fun k => g (ix2 0 k)) (fun k => b (ix2 0 k)) d : EReal) := by
  unfold residual normed mean alpha
  pointwise [k0_pay7]

theorem pay8_apply (y : FVec Ideal S256x1024 .f32) (g1 : FVec Ideal S1x1024 .f32) (x : FVec Ideal S256x1024 .f32) (g b : FVec Ideal S1x1024 .f32) (a : Fin 256) (d : Fin 1024) :
    (k0_pay8 (F := Ideal) y g1 x g b (ix2 a d) : EReal) = k0_pay7 (F := Ideal) y g1 x g b (ix2 a d) - mean fun k => k0_pay7 (F := Ideal) y g1 x g b (ix2 a k) := by
  unfold mean
  pointwise [k0_pay8]

theorem pay9_apply (y : FVec Ideal S256x1024 .f32) (g1 : FVec Ideal S1x1024 .f32) (x : FVec Ideal S256x1024 .f32) (g b : FVec Ideal S1x1024 .f32) (a : Fin 256) :
    (k0_pay9 (F := Ideal) y g1 x g b (ix2 a 0) : EReal) = mean fun k => k0_pay8 (F := Ideal) y g1 x g b (ix2 a k) * k0_pay8 (F := Ideal) y g1 x g b (ix2 a k) := by
  unfold mean
  pointwise [k0_pay9]

theorem pay1_apply (sh sc : FVec Ideal S1x1024 .f32) (v : FVec Ideal S256x1024 .f32) (s : FVec Ideal S256x1 .f32) (a : Fin 256) (d : Fin 1024) :
    (k0_pay1 (F := Ideal) sh sc v s (ix2 a d) : EReal)
      = v (ix2 a d) * Ideal.rsqrt (s (ix2 a 0) + Ideal.ofBits FTy.f32 925353388#32) * (1 + sc (ix2 0 d)) + sh (ix2 0 d) := by
  pointwise [k0_pay1]

/-- The second result's element, from the first result's row. -/
theorem pay1_modulated (sh sc : FVec Ideal S1x1024 .f32) (y : FVec Ideal S256x1024 .f32) (g1 : FVec Ideal S1x1024 .f32) (x : FVec Ideal S256x1024 .f32) (g b : FVec Ideal S1x1024 .f32)
    (a : Fin 256) (d : Fin 1024) :
    (k0_pay1 (F := Ideal) sh sc (k0_pay8 (F := Ideal) y g1 x g b) (k0_pay9 (F := Ideal) y g1 x g b) (ix2 a d) : EReal)
      = modulated (fun k => k0_pay7 (F := Ideal) y g1 x g b (ix2 a k)) (fun k => sh (ix2 0 k)) (fun k => sc (ix2 0 k)) d := by
  rw [pay1_apply, pay9_apply]
  simp only [pay8_apply]
  rfl

variable (m : (ℓ : Loc nD τ sig) → Buf (Elt Ideal) ℓ)

/-- The weights, the scale and the shift as the region finds them. -/
theorem V_weights (c : Dev nD) : V m c main_v0 = (truncf .bf16 (m ((c : Thread nD τ).loc main_arg6) : FVec Ideal S1024x1024 .f32) bitsLt_bf16_f32 : FVec Ideal S1024x1024 .bf16) := by
  show StableHlo.after hostOps0 _ _ = _
  after_results_simp <;> rfl
theorem V_scale (c : Dev nD) : V m c main_v1 = shapeCast S1x1024 (m ((c : Thread nD τ).loc main_arg7) : FVec Ideal S1024 .f32) shapeCasts_S1024_S1x1024 := by
  show StableHlo.after hostOps0 _ _ = _
  after_results_simp <;> rfl
theorem V_shift (c : Dev nD) : V m c main_v2 = shapeCast S1x1024 (m ((c : Thread nD τ).loc main_arg8) : FVec Ideal S1024 .f32) shapeCasts_S1024_S1x1024 := by
  show StableHlo.after hostOps0 _ _ = _
  after_results_simp <;> rfl

/-- Every window's block at every point. -/
theorem idx_val : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![if t.val < 16 then 0 else 1 + (t.val - 16) / 16, 0, 0] ∧ win0_6.index t = ![0, 0] ∧ win0_7.index t = ![0, 0]
    ∧ win0_8.index t = ![0, 0] ∧ win0_10.index t = ![t.val, 0] ∧ win0_11.index t = ![t.val, 0] :=
  (by decide +kernel : ∀ t : Fin grid0.N, _)

/-- The token of a row of a point's block. -/
def tok (t : Fin cfg0.N) (a : Fin 256) : Fin 20480 := ⟨t.val * 256 + a.val, by have ht : t.val < 80 := t.isLt; omega⟩

theorem yg_at (c : Dev nD) (t : Fin cfg0.N) (a k : Fin 256) : (iblk m c 0 t (ix2 a k) : EReal) = m ((c : Thread nD τ).loc main_arg0) (ix2 (tok t a) k) := by
  unfold tok
  blk_ext [iblk, V, idx_val t]
theorem ys_at (c : Dev nD) (t : Fin cfg0.N) (a k : Fin 256) : (iblk m c 1 t (ix2 a k) : EReal) = m ((c : Thread nD τ).loc main_arg1) (ix2 (tok t a) k) := by
  unfold tok
  blk_ext [iblk, V, idx_val t]
theorem yc_at (c : Dev nD) (t : Fin cfg0.N) (a k : Fin 256) : (iblk m c 2 t (ix2 a k) : EReal) = m ((c : Thread nD τ).loc main_arg2) (ix2 (tok t a) k) := by
  unfold tok
  blk_ext [iblk, V, idx_val t]
theorem yf_at (c : Dev nD) (t : Fin cfg0.N) (a k : Fin 256) : (iblk m c 3 t (ix2 a k) : EReal) = m ((c : Thread nD τ).loc main_arg3) (ix2 (tok t a) k) := by
  unfold tok
  blk_ext [iblk, V, idx_val t]
theorem x_at (c : Dev nD) (t : Fin cfg0.N) (a : Fin 256) (k : Fin 1024) : (iblk m c 4 t (ix2 a k) : EReal) = m ((c : Thread nD τ).loc main_arg4) (ix2 (tok t a) k) := by
  unfold tok
  blk_ext [iblk, V, idx_val t]

theorem mod_at (c : Dev nD) (t : Fin cfg0.N) (a : Fin 256) (e : Fin 6) (k : Fin 1024) :
    (iblk m c 5 t (ix3 0 e k) : EReal) = m ((c : Thread nD τ).loc main_arg5) (ix3 (tokRow (tok t a)) e k) := by
  have hr := tokRow_val (tok t a)
  have htok : (tok t a).val = t.val * 256 + a.val := rfl
  blk_ext [iblk, V, idx_val t]
  rw [hr, htok]
  split_ifs <;> omega

theorem w_at (c : Dev nD) (t : Fin cfg0.N) (k d : Fin 1024) : (iblk m c 6 t (ix2 k d) : EReal) = m ((c : Thread nD τ).loc main_arg6) (ix2 k d) := by
  have e : (V m c main_v0 (ix2 k d) : EReal) = m ((c : Thread nD τ).loc main_arg6) (ix2 k d) := by rw [V_weights m c]; rfl
  rw [← e]
  blk_ext [iblk, idx_val t]

theorem g_at (c : Dev nD) (t : Fin cfg0.N) (d : Fin 1024) : (iblk m c 7 t (ix2 0 d) : EReal) = m ((c : Thread nD τ).loc main_arg7) (ix1 d) := by
  have e : (V m c main_v1 (ix2 0 d) : EReal) = m ((c : Thread nD τ).loc main_arg7) (ix1 d) := by rw [V_scale m c]; pointwise []
  rw [← e]
  blk_ext [iblk, idx_val t]

theorem b_at (c : Dev nD) (t : Fin cfg0.N) (d : Fin 1024) : (iblk m c 8 t (ix2 0 d) : EReal) = m ((c : Thread nD τ).loc main_arg8) (ix1 d) := by
  have e : (V m c main_v2 (ix2 0 d) : EReal) = m ((c : Thread nD τ).loc main_arg8) (ix1 d) := by rw [V_shift m c]; pointwise []
  rw [← e]
  blk_ext [iblk, idx_val t]

/-- The blocks' parts that the body loads. -/
theorem row_2 (k : Fin 1024) : r0_5.idx (ix3 0 0 k) = ix3 0 2 k := by
  funext e
  refine Fin.ext ?_
  match e with
  | ⟨0, _⟩ => rfl
  | ⟨1, _⟩ => rfl
  | ⟨2, _⟩ => show 0 + 1 * k.val = k.val; omega
theorem row_3 (k : Fin 1024) : r0_6.idx (ix3 0 0 k) = ix3 0 3 k := by
  funext e
  refine Fin.ext ?_
  match e with
  | ⟨0, _⟩ => rfl
  | ⟨1, _⟩ => rfl
  | ⟨2, _⟩ => show 0 + 1 * k.val = k.val; omega
theorem row_4 (k : Fin 1024) : r0_7.idx (ix3 0 0 k) = ix3 0 4 k := by
  funext e
  refine Fin.ext ?_
  match e with
  | ⟨0, _⟩ => rfl
  | ⟨1, _⟩ => rfl
  | ⟨2, _⟩ => show 0 + 1 * k.val = k.val; omega
theorem part_0 (k : Fin 256) (d : Fin 1024) : r0_1.idx (ix2 k d) = ix2 ⟨k.val, by omega⟩ d := by
  funext e
  refine Fin.ext ?_
  match e with
  | ⟨0, _⟩ => show 0 + 1 * k.val = k.val; omega
  | ⟨1, _⟩ => show 0 + 1 * d.val = d.val; omega
theorem part_1 (k : Fin 256) (d : Fin 1024) : r0_2.idx (ix2 k d) = ix2 ⟨256 + k.val, by omega⟩ d := by
  funext e
  refine Fin.ext ?_
  match e with
  | ⟨0, _⟩ => show 256 + 1 * k.val = 256 + k.val; omega
  | ⟨1, _⟩ => show 0 + 1 * d.val = d.val; omega
theorem part_2 (k : Fin 256) (d : Fin 1024) : r0_3.idx (ix2 k d) = ix2 ⟨512 + k.val, by omega⟩ d := by
  funext e
  refine Fin.ext ?_
  match e with
  | ⟨0, _⟩ => show 512 + 1 * k.val = 512 + k.val; omega
  | ⟨1, _⟩ => show 0 + 1 * d.val = d.val; omega
theorem part_3 (k : Fin 256) (d : Fin 1024) : r0_4.idx (ix2 k d) = ix2 ⟨768 + k.val, by omega⟩ d := by
  funext e
  refine Fin.ext ?_
  match e with
  | ⟨0, _⟩ => show 768 + 1 * k.val = 768 + k.val; omega
  | ⟨1, _⟩ => show 0 + 1 * d.val = d.val; omega

variable (YG YS YC YF : FVec Ideal S20480x256 .f32) (X : FVec Ideal S20480x1024 .f32) (M : FVec Ideal S8x6x1024 .f32) (W : FVec Ideal S1024x1024 .f32) (G B : FVec Ideal S1024 .f32)

/-- The first result's row of a token, -/
def xrow (r : Fin 20480) : Fin 1024 → EReal :=
  residual (fun k => X (ix2 r k)) (fun k => M (ix3 (tokRow r) 2 k))
    (fun d => mixed (fun k => YG (ix2 r k)) (fun k => YS (ix2 r k)) (fun k => YC (ix2 r k)) (fun k => YF (ix2 r k)) fun k => W (ix2 k d))
    (fun k => G (ix1 k)) (fun k => B (ix1 k))

/-- the second result's, -/
def hrow (r : Fin 20480) : Fin 1024 → EReal :=
  modulated (xrow YG YS YC YF X M W G B r) (fun k => M (ix3 (tokRow r) 3 k)) (fun k => M (ix3 (tokRow r) 4 k))

/-- and the two arrays. -/
def xs : FVec Ideal S20480x1024 .f32 := fun i => xrow YG YS YC YF X M W G B (i 0) (i 1)
def hs : FVec Ideal S20480x1024 .f32 := fun i => hrow YG YS YC YF X M W G B (i 0) (i 1)

theorem xs_at (i : S20480x1024.Idx) (r : Fin 20480) (j : Fin 1024) (hr : r.val = (i 0).val) (hj : j.val = (i 1).val) :
    xrow YG YS YC YF X M W G B r j = xs YG YS YC YF X M W G B i := by
  unfold xs
  rw [show r = i 0 from Fin.ext hr, show j = i 1 from Fin.ext hj]
theorem hs_at (i : S20480x1024.Idx) (r : Fin 20480) (j : Fin 1024) (hr : r.val = (i 0).val) (hj : j.val = (i 1).val) :
    hrow YG YS YC YF X M W G B r j = hs YG YS YC YF X M W G B i := by
  unfold hs
  rw [show r = i 0 from Fin.ext hr, show j = i 1 from Fin.ext hj]

/-- The product of a block's mixers, -/
theorem mixed_at (c : Dev nD) (t : Fin cfg0.N) (a : Fin 256) (d : Fin 1024) :
    ((k0_pay3 (F := Ideal) (iblk m c 0 t) (View.ld (iblk m c 6 t) r0_1) (iblk m c 1 t) (View.ld (iblk m c 6 t) r0_2) (iblk m c 2 t) (View.ld (iblk m c 6 t) r0_3) (iblk m c 3 t) (View.ld (iblk m c 6 t) r0_4)) (ix2 a d) : EReal)
      = mixed (fun k => m ((c : Thread nD τ).loc main_arg0) (ix2 (tok t a) k)) (fun k => m ((c : Thread nD τ).loc main_arg1) (ix2 (tok t a) k)) (fun k => m ((c : Thread nD τ).loc main_arg2) (ix2 (tok t a) k)) (fun k => m ((c : Thread nD τ).loc main_arg3) (ix2 (tok t a) k))
          fun k => m ((c : Thread nD τ).loc main_arg6) (ix2 k d) := by
  refine (pay3_apply _ _ _ _ _ _ _ _ a d).trans ?_
  unfold mixed
  refine congrArg₂ (fun x y : EReal => x + y) (congrArg₂ (fun x y : EReal => x + y) (congrArg₂ (fun x y : EReal => x + y) ?_ ?_) ?_) ?_
  · exact Finset.sum_congr rfl fun k _ => congrArg₂ (fun x y : EReal => x * y) (yg_at m c t a k) ((congrArg (iblk m c 6 t) (part_0 k d)).trans (w_at m c t _ d))
  · exact Finset.sum_congr rfl fun k _ => congrArg₂ (fun x y : EReal => x * y) (ys_at m c t a k) ((congrArg (iblk m c 6 t) (part_1 k d)).trans (w_at m c t _ d))
  · exact Finset.sum_congr rfl fun k _ => congrArg₂ (fun x y : EReal => x * y) (yc_at m c t a k) ((congrArg (iblk m c 6 t) (part_2 k d)).trans (w_at m c t _ d))
  · exact Finset.sum_congr rfl fun k _ => congrArg₂ (fun x y : EReal => x * y) (yf_at m c t a k) ((congrArg (iblk m c 6 t) (part_3 k d)).trans (w_at m c t _ d))

/-- the block's row of the first result, -/
theorem xrow_at (c : Dev nD) (t : Fin cfg0.N) (a : Fin 256) (d : Fin 1024) :
    (k0_pay7 (F := Ideal) (k0_pay3 (F := Ideal) (iblk m c 0 t) (View.ld (iblk m c 6 t) r0_1) (iblk m c 1 t) (View.ld (iblk m c 6 t) r0_2) (iblk m c 2 t) (View.ld (iblk m c 6 t) r0_3) (iblk m c 3 t) (View.ld (iblk m c 6 t) r0_4)) (k0_pay4 (F := Ideal) (View.ld (iblk m c 5 t) r0_5)) (iblk m c 4 t) (iblk m c 7 t) (iblk m c 8 t) (ix2 a d) : EReal)
      = xrow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (tok t a) d := by
  refine (pay7_apply _ _ _ _ _ a d).trans ?_
  unfold xrow
  have e0 : (fun k => (iblk m c 4 t (ix2 a k) : EReal)) = fun k => m ((c : Thread nD τ).loc main_arg4) (ix2 (tok t a) k) := funext (x_at m c t a)
  have e1 : (fun k => ((k0_pay4 (F := Ideal) (View.ld (iblk m c 5 t) r0_5)) (ix2 0 k) : EReal)) = fun k => m ((c : Thread nD τ).loc main_arg5) (ix3 (tokRow (tok t a)) 2 k) :=
    funext fun k => (pay4_apply _ k).trans ((congrArg (iblk m c 5 t) (row_2 k)).trans (mod_at m c t a 2 k))
  have e2 := funext (mixed_at m c t a)
  have e3 : (fun k => (iblk m c 7 t (ix2 0 k) : EReal)) = fun k => m ((c : Thread nD τ).loc main_arg7) (ix1 k) := funext (g_at m c t)
  have e4 : (fun k => (iblk m c 8 t (ix2 0 k) : EReal)) = fun k => m ((c : Thread nD τ).loc main_arg8) (ix1 k) := funext (b_at m c t)
  exact congrFun (congr (congr (congr (congr (congrArg residual e0) e1) e2) e3) e4) d

/-- and of the second. -/
theorem hrow_at (c : Dev nD) (t : Fin cfg0.N) (a : Fin 256) (d : Fin 1024) :
    (k0_pay1 (F := Ideal) (k0_pay5 (F := Ideal) (View.ld (iblk m c 5 t) r0_6)) (k0_pay6 (F := Ideal) (View.ld (iblk m c 5 t) r0_7))
        (k0_pay8 (F := Ideal) (k0_pay3 (F := Ideal) (iblk m c 0 t) (View.ld (iblk m c 6 t) r0_1) (iblk m c 1 t) (View.ld (iblk m c 6 t) r0_2) (iblk m c 2 t) (View.ld (iblk m c 6 t) r0_3) (iblk m c 3 t) (View.ld (iblk m c 6 t) r0_4)) (k0_pay4 (F := Ideal) (View.ld (iblk m c 5 t) r0_5)) (iblk m c 4 t) (iblk m c 7 t) (iblk m c 8 t))
        (k0_pay9 (F := Ideal) (k0_pay3 (F := Ideal) (iblk m c 0 t) (View.ld (iblk m c 6 t) r0_1) (iblk m c 1 t) (View.ld (iblk m c 6 t) r0_2) (iblk m c 2 t) (View.ld (iblk m c 6 t) r0_3) (iblk m c 3 t) (View.ld (iblk m c 6 t) r0_4)) (k0_pay4 (F := Ideal) (View.ld (iblk m c 5 t) r0_5)) (iblk m c 4 t) (iblk m c 7 t) (iblk m c 8 t)) (ix2 a d) : EReal)
      = hrow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (tok t a) d := by
  refine (pay1_modulated _ _ _ _ _ _ _ a d).trans ?_
  unfold hrow
  have e0 := funext (xrow_at m c t a)
  have e1 : (fun k => (k0_pay5 (F := Ideal) (View.ld (iblk m c 5 t) r0_6) (ix2 0 k) : EReal)) = fun k => m ((c : Thread nD τ).loc main_arg5) (ix3 (tokRow (tok t a)) 3 k) :=
    funext fun k => (pay5_apply _ k).trans ((congrArg (iblk m c 5 t) (row_3 k)).trans (mod_at m c t a 3 k))
  have e2 : (fun k => (k0_pay6 (F := Ideal) (View.ld (iblk m c 5 t) r0_7) (ix2 0 k) : EReal)) = fun k => m ((c : Thread nD τ).loc main_arg5) (ix3 (tokRow (tok t a)) 4 k) :=
    funext fun k => (pay6_apply _ k).trans ((congrArg (iblk m c 5 t) (row_4 k)).trans (mod_at m c t a 4 k))
  exact congrFun (congr (congr (congrArg modulated e0) e1) e2) d

/-- The first result. -/
theorem final10 (c : Dev nD) : (dats m 0 c).arrAt 10 (cfgs 0).N
    = xs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 10 _ (by decide +kernel) fun t _ y => ?_
  blk_simp
  rw [after0_10]
  frame_out
  unfold k0_pay11 k0_pay10
  frame_out
  refine (congrArg _ (eq_ix2 y)).trans ((xrow_at m c t (y 0) (y 1)).trans (xs_at _ _ _ _ _ _ _ _ _ _ _ _ ?_ ?_))
  · show t.val * 256 + (y 0).val = _
    blk_simp [idx_val t]
  · show (y 1).val = _
    blk_simp [idx_val t]

/-- The second result. -/
theorem final11 (c : Dev nD) : (dats m 0 c).arrAt 11 (cfgs 0).N
    = hs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 11 _ (by decide +kernel) fun t _ y => ?_
  blk_simp
  rw [after0_11]
  frame_out
  unfold k0_pay15 k0_pay14 k0_pay13 k0_pay12 k0_pay11 k0_pay10
  frame_out
  refine (congrArg _ (eq_ix2 y)).trans ((hrow_at m c t (y 0) (y 1)).trans (hs_at _ _ _ _ _ _ _ _ _ _ _ _ ?_ ?_))
  · show t.val * 256 + (y 0).val = _
    blk_simp [idx_val t]
  · show (y 1).val = _
    blk_simp [idx_val t]

/-- The kernel's run: its two results, and its arguments unchanged. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v4_0) = xs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v4_1) = hs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨((h.1 c).1 10).trans (final10 m c), ((h.1 c).1 11).trans (final11 m c), h.2 c⟩) (θ_run_and (run_main m ρ) (unchanged m ρ))

end Cert.Kernel4Ideal.Outproj

end
-- ==== Proof.OutprojRef.lean ====
/- The output projection's reference: its terms element by element. -/
module

public import proofs.«01_k».proof.Proof.Gen.Reference4Ideal.Run
public import proofs.«01_k».proof.Proof.OutprojValue
public import proofs.«01_k».proof.Proof.InprojRef

@[expose] public section

set_option maxRecDepth 16384

noncomputable section

namespace Cert.Reference4Ideal.Outproj

open Cert.Reference4Ideal Cert.Reference4Ideal.Gen
open Idealize.ShloMosaic Idealize.ShloMosaic.TcCoe Idealize.SL.Sem
open Cert.LayerNorm
open Cert.Kernel4Ideal.Outproj (alpha mixed residual xrow hrow xs hs)
open Cert.Reference2Ideal.Inproj (rows rows_apply spread spread_apply modulate modulate_apply)

def gates (M : FVec Ideal S8x6x1024 .f32) : FVec Ideal S20480x1024 .f32 :=
  spread (extractStridedSlice S1x1x1024 ![0, 2, 0] M slices_S8x6x1024_S1x1x1024_0_2_0) (extractStridedSlice S4x1x1024 ![1, 2, 0] M slices_S8x6x1024_S4x1x1024_1_2_0)
theorem gates_apply (M : FVec Ideal S8x6x1024 .f32) (a : Fin 20480) (d : Fin 1024) : (gates M (ix2 a d) : EReal) = M (ix3 (tokRow a) 2 d) :=
  spread_apply _ _ M 2 (fun d => by pointwise []) (fun b d => by pointwise []) a d

def shifts (M : FVec Ideal S8x6x1024 .f32) : FVec Ideal S20480x1024 .f32 :=
  spread (extractStridedSlice S1x1x1024 ![0, 3, 0] M slices_S8x6x1024_S1x1x1024_0_3_0) (extractStridedSlice S4x1x1024 ![1, 3, 0] M slices_S8x6x1024_S4x1x1024_1_3_0)
theorem shifts_apply (M : FVec Ideal S8x6x1024 .f32) (a : Fin 20480) (d : Fin 1024) : (shifts M (ix2 a d) : EReal) = M (ix3 (tokRow a) 3 d) :=
  spread_apply _ _ M 3 (fun d => by pointwise []) (fun b d => by pointwise []) a d

def gains (M : FVec Ideal S8x6x1024 .f32) : FVec Ideal S20480x1024 .f32 :=
  spread (extractStridedSlice S1x1x1024 ![0, 4, 0] M slices_S8x6x1024_S1x1x1024_0_4_0) (extractStridedSlice S4x1x1024 ![1, 4, 0] M slices_S8x6x1024_S4x1x1024_1_4_0)
theorem gains_apply (M : FVec Ideal S8x6x1024 .f32) (a : Fin 20480) (d : Fin 1024) : (gains M (ix2 a d) : EReal) = M (ix3 (tokRow a) 4 d) :=
  spread_apply _ _ M 4 (fun d => by pointwise []) (fun b d => by pointwise []) a d

/-- A vector repeated for every token. -/
def repeated (G : FVec Ideal S1024 .f32) : FVec Ideal S20480x1024 .f32 :=
  broadcastInDim S20480x1024 ![0, 1] bcast_S1x1024_S20480x1024_0_1 (broadcastInDim S1x1024 ![1] bcast_S1024_S1x1024_1 G)
theorem repeated_apply (G : FVec Ideal S1024 .f32) (a : Fin 20480) (d : Fin 1024) : (repeated G (ix2 a d) : EReal) = G (ix1 d) := by pointwise [repeated]

variable (YG YS YC YF : FVec Ideal S20480x256 .f32) (X : FVec Ideal S20480x1024 .f32) (M : FVec Ideal S8x6x1024 .f32) (W : FVec Ideal S1024x1024 .f32) (G B : FVec Ideal S1024 .f32)

/-- The mixers' arrays side by side. -/
def joined : FVec Ideal S20480x1024 .f32 :=
  concatenate S20480x1024 1 [⟨S20480x256, YG⟩, ⟨S20480x256, YS⟩, ⟨S20480x256, YC⟩, ⟨S20480x256, YF⟩] concatenates_S20480x256_S20480x256_S20480x256_S20480x256_S20480x1024_d1

theorem joined_apply (a : Fin 20480) (k : Fin 1024) : (joined YG YS YC YF (ix2 a k) : EReal)
    = if h : k.val < 256 then YG (ix2 a ⟨k.val, h⟩) else if h1 : k.val - 256 < 256 then YS (ix2 a ⟨k.val - 256, h1⟩)
      else if h2 : k.val - 256 - 256 < 256 then YC (ix2 a ⟨k.val - 256 - 256, h2⟩) else YF (ix2 a ⟨k.val - 256 - 256 - 256, by omega⟩) := by
  pointwise [joined]

/-- A sum over the joined columns is the mixers' four sums. -/
theorem sum_four (f : Fin 1024 → EReal) : ∑ k, f k
    = (∑ k : Fin 256, f ⟨k.val, by omega⟩) + (∑ k : Fin 256, f ⟨256 + k.val, by omega⟩) + (∑ k : Fin 256, f ⟨512 + k.val, by omega⟩) + ∑ k : Fin 256, f ⟨768 + k.val, by omega⟩ := by
  have e1 : ∑ k, f k = (∑ k : Fin 768, f ⟨k.val, by omega⟩) + ∑ k : Fin 256, f ⟨768 + k.val, by omega⟩ := Fin.sum_univ_add (a := 768) (b := 256) f
  have e2 : (∑ k : Fin 768, f ⟨k.val, by omega⟩) = (∑ k : Fin 512, f ⟨k.val, by omega⟩) + ∑ k : Fin 256, f ⟨512 + k.val, by omega⟩ :=
    Fin.sum_univ_add (a := 512) (b := 256) fun k : Fin 768 => f ⟨k.val, by omega⟩
  have e3 : (∑ k : Fin 512, f ⟨k.val, by omega⟩) = (∑ k : Fin 256, f ⟨k.val, by omega⟩) + ∑ k : Fin 256, f ⟨256 + k.val, by omega⟩ :=
    Fin.sum_univ_add (a := 256) (b := 256) fun k : Fin 512 => f ⟨k.val, by omega⟩
  rw [e1, e2, e3]

theorem dot_apply (H : FVec Ideal S20480x1024 .f32) (r : Fin 20480) (j : Fin 1024) :
    (Host.dotGeneral dot_S20480x1024_S1024x1024_S20480x1024_1_0_0_1_n_n none H W : FVec Ideal S20480x1024 .f32) (ix2 r j) = (∑ k : Fin 1024, H (ix2 r k) * W (ix2 k j) : EReal) := by
  pointwise []

/-- The product of the joined mixers, -/
def product : FVec Ideal S20480x1024 .f32 := Host.dotGeneral dot_S20480x1024_S1024x1024_S20480x1024_1_0_0_1_n_n none (joined YG YS YC YF) W

theorem product_apply (r : Fin 20480) (d : Fin 1024) : (product YG YS YC YF W (ix2 r d) : EReal)
    = mixed (fun k => YG (ix2 r k)) (fun k => YS (ix2 r k)) (fun k => YC (ix2 r k)) (fun k => YF (ix2 r k)) fun k => W (ix2 k d) := by
  refine (dot_apply W _ r d).trans ((sum_four _).trans ?_)
  unfold mixed
  simp only [joined_apply]
  refine congrArg₂ (fun x y : EReal => x + y) (congrArg₂ (fun x y : EReal => x + y) (congrArg₂ (fun x y : EReal => x + y) ?_ ?_) ?_) ?_
  · refine Finset.sum_congr rfl fun k _ => ?_
    rw [dif_pos k.isLt]
  · refine Finset.sum_congr rfl fun k _ => ?_
    rw [dif_neg (by omega), dif_pos (by omega)]
    exact congrArg (fun e => YS (ix2 r e) * W (ix2 _ d)) (Fin.ext (by show 256 + k.val - 256 = k.val; omega))
  · refine Finset.sum_congr rfl fun k _ => ?_
    rw [dif_neg (by omega), dif_neg (by omega), dif_pos (by omega)]
    exact congrArg (fun e => YC (ix2 r e) * W (ix2 _ d)) (Fin.ext (by show 512 + k.val - 256 - 256 = k.val; omega))
  · refine Finset.sum_congr rfl fun k _ => ?_
    rw [dif_neg (by omega), dif_neg (by omega), dif_neg (by omega)]
    exact congrArg (fun e => YF (ix2 r e) * W (ix2 _ d)) (Fin.ext (by show 768 + k.val - 256 - 256 - 256 = k.val; omega))

/-- the residual before it is normalized, -/
def summed : FVec Ideal S20480x1024 .f32 :=
  addf (mulf (broadcastInDim S20480x1024 ![] bcast_S_S20480x1024 (constant S_ .f32 0x3FB504F3#32)) X) (mulf (gates M) (product YG YS YC YF W))

theorem summed_apply (r : Fin 20480) (d : Fin 1024) : (summed YG YS YC YF X M W (ix2 r d) : EReal) = alpha * X (ix2 r d) + gates M (ix2 r d) * product YG YS YC YF W (ix2 r d) := by
  unfold alpha
  pointwise [summed]

/-- and after it. -/
def xsRef : FVec Ideal S20480x1024 .f32 := addf (mulf (rows (summed YG YS YC YF X M W)) (repeated G)) (repeated B)
def hsRef : FVec Ideal S20480x1024 .f32 := modulate (rows (xsRef YG YS YC YF X M W G B)) (gains M) (shifts M)

theorem xsRef_apply (r : Fin 20480) (d : Fin 1024) : (xsRef YG YS YC YF X M W G B (ix2 r d) : EReal) = xrow YG YS YC YF X M W G B r d := by
  show (rows (summed YG YS YC YF X M W) (ix2 r d) : EReal) * repeated G (ix2 r d) + repeated B (ix2 r d) = _
  rw [rows_apply, repeated_apply, repeated_apply]
  simp only [summed_apply, gates_apply, product_apply]
  rfl

theorem hsRef_apply (r : Fin 20480) (d : Fin 1024) : (hsRef YG YS YC YF X M W G B (ix2 r d) : EReal) = hrow YG YS YC YF X M W G B r d := by
  refine (modulate_apply _ _ _ r d).trans ?_
  rw [rows_apply, gains_apply, shifts_apply]
  simp only [xsRef_apply]
  rfl

theorem xs_eq : xsRef YG YS YC YF X M W G B = xs YG YS YC YF X M W G B := funext fun y => (congrArg _ (eq_ix2 y)).trans (xsRef_apply YG YS YC YF X M W G B (y 0) (y 1))
theorem hs_eq : hsRef YG YS YC YF X M W G B = hs YG YS YC YF X M W G B := funext fun y => (congrArg _ (eq_ix2 y)).trans (hsRef_apply YG YS YC YF X M W G B (y 0) (y 1))

/-- The reference's run: its two results, and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v38) = xs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v78) = hs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (xs_eq _ _ _ _ _ _ _ _ _), (h c).2.1.trans (hs_eq _ _ _ _ _ _ _ _ _), (h c).2.2⟩) (Cert.Reference4Ideal.Value.run (F := Ideal) m ρ)

end Cert.Reference4Ideal.Outproj

end
-- ==== Proof.RouterFinite.lean ====
/- Finite extended reals: what the output projection's rows keep of them. -/
module

public import proofs.«01_k».proof.Proof.OutprojValue

@[expose] public section

noncomputable section

namespace Cert.Router

open Idealize.ShloMosaic
open Cert.LayerNorm
open Cert.Kernel4Ideal.Outproj (alpha mixed residual)

/-- A value that is a real number. -/
def Finite (x : EReal) : Prop := ∃ r : ℝ, x = (r : EReal)

theorem Finite.add {x y : EReal} : Finite x → Finite y → Finite (x + y) := fun ⟨a, ha⟩ ⟨b, hb⟩ => ⟨a + b, by rw [ha, hb, EReal.coe_add]⟩
theorem Finite.sub {x y : EReal} : Finite x → Finite y → Finite (x - y) := fun ⟨a, ha⟩ ⟨b, hb⟩ => ⟨a - b, by rw [ha, hb, EReal.coe_sub]⟩
theorem Finite.mul {x y : EReal} : Finite x → Finite y → Finite (x * y) := fun ⟨a, ha⟩ ⟨b, hb⟩ => ⟨a * b, by rw [ha, hb, EReal.coe_mul]⟩
theorem Finite.zero : Finite 0 := ⟨0, EReal.coe_zero.symm⟩
theorem Finite.one : Finite 1 := ⟨1, EReal.coe_one.symm⟩
theorem Finite.sum {n : Nat} {f : Fin n → EReal} (h : ∀ k, Finite (f k)) : Finite (∑ k, f k) :=
  Finset.sum_induction f Finite (fun _ _ => Finite.add) Finite.zero fun k _ => h k

/-- A finite value less itself is zero. -/
theorem Finite.sub_self {x : EReal} : Finite x → x - x = 0 := fun ⟨a, ha⟩ => by rw [ha, ← EReal.coe_sub, _root_.sub_self, EReal.coe_zero]

/-- A product with the two products of a factor's error: the errors of finite values are zero. -/
theorem dot_finite {n : Nat} {a b : Fin n → EReal} (ha : ∀ k, Finite (a k)) (hb : ∀ k, Finite (b k)) :
    (∑ k, a k * b k) + ((∑ k, (a k - a k) * b k) + ∑ k, a k * (b k - b k)) = ∑ k, a k * b k := by
  have e1 : ∑ k, (a k - a k) * b k = 0 := Finset.sum_eq_zero fun k _ => by rw [(ha k).sub_self, zero_mul]
  have e2 : ∑ k, a k * (b k - b k) = 0 := Finset.sum_eq_zero fun k _ => by rw [(hb k).sub_self, mul_zero]
  rw [e1, e2, add_zero, add_zero]

/-- The constants of the rows. -/
theorem alpha_finite : Finite alpha := by
  unfold alpha
  simp only [Ideal.ofBits, Ideal.ieee]
  norm_num
  exact ⟨_, rfl⟩

theorem length_eq : Ideal.ofBits FTy.f32 1149239296#32 = ((1024 : ℝ) : EReal) := by
  simp [Ideal.ofBits, Ideal.ieee, -EReal.coe_mul]
  norm_num

theorem eps_pos : ∃ e : ℝ, 0 < e ∧ Ideal.ofBits FTy.f32 925353388#32 = (e : EReal) := by
  simp [Ideal.ofBits, Ideal.ieee, -EReal.coe_mul]

theorem div_length (a : ℝ) : Ideal.div (a : EReal) ((1024 : ℝ) : EReal) = ((a / 1024 : ℝ) : EReal) := by
  have h : ((1024 : ℝ) : EReal) ≠ 0 := by
    rw [← EReal.coe_zero]
    exact fun e => by norm_num at e
  unfold Ideal.div
  rw [if_neg h, ← EReal.coe_inv, ← EReal.coe_mul, div_eq_mul_inv]

theorem mean_finite {v : Fin 1024 → EReal} (h : ∀ k, Finite (v k)) : Finite (mean v) := by
  obtain ⟨a, ha⟩ := Finite.sum h
  unfold mean
  rw [ha, length_eq, div_length]
  exact ⟨_, rfl⟩

/-- The mean of finite squares is a real number that is not negative. -/
theorem mean_squares {v : Fin 1024 → EReal} (h : ∀ k, Finite (v k)) : ∃ s : ℝ, 0 ≤ s ∧ mean (fun k => v k * v k) = (s : EReal) := by
  have hs : ∃ s : ℝ, 0 ≤ s ∧ ∑ k, v k * v k = (s : EReal) := by
    refine Finset.sum_induction (fun k => v k * v k) (fun x : EReal => ∃ s : ℝ, 0 ≤ s ∧ x = (s : EReal)) ?_ ⟨0, le_refl _, EReal.coe_zero.symm⟩ fun k _ => ?_
    · rintro x y ⟨a, ha, rfl⟩ ⟨b, hb, rfl⟩
      exact ⟨a + b, add_nonneg ha hb, (EReal.coe_add a b).symm⟩
    · obtain ⟨a, ha⟩ := h k
      exact ⟨a * a, mul_self_nonneg a, by rw [ha, EReal.coe_mul]⟩
  obtain ⟨s, hs, e⟩ := hs
  refine ⟨s / 1024, by positivity, ?_⟩
  unfold mean
  rw [e, length_eq, div_length]

theorem rsqrt_finite {r : ℝ} (h : 0 < r) : Finite (Ideal.rsqrt (r : EReal)) := by
  refine ⟨(Real.sqrt r)⁻¹, ?_⟩
  show (if r < 0 then (⊥ : EReal) else if r = 0 then ⊤ else ((Real.sqrt r)⁻¹ : ℝ)) = _
  rw [if_neg (not_lt.2 h.le), if_neg h.ne']

theorem normed_finite {v : Fin 1024 → EReal} (h : ∀ k, Finite (v k)) (k : Fin 1024) : Finite (normed v k) := by
  have hd : ∀ k, Finite (v k - mean v) := fun k => (h k).sub (mean_finite h)
  obtain ⟨s, hs, e⟩ := mean_squares hd
  obtain ⟨p, hp, ep⟩ := eps_pos
  unfold normed
  refine (hd k).mul ?_
  rw [e, ep, ← EReal.coe_add]
  exact rsqrt_finite (add_pos_of_nonneg_of_pos hs hp)

theorem modulated_finite {v sh sc : Fin 1024 → EReal} (hv : ∀ k, Finite (v k)) (hsh : ∀ k, Finite (sh k)) (hsc : ∀ k, Finite (sc k)) (k : Fin 1024) : Finite (modulated v sh sc k) :=
  ((normed_finite hv k).mul (Finite.one.add (hsc k))).add (hsh k)

theorem mixed_finite {yg ys yc yf : Fin 256 → EReal} {w : Fin 1024 → EReal} (hg : ∀ k, Finite (yg k)) (hs : ∀ k, Finite (ys k)) (hc : ∀ k, Finite (yc k)) (hf : ∀ k, Finite (yf k))
    (hw : ∀ k, Finite (w k)) : Finite (mixed yg ys yc yf w) :=
  (((Finite.sum fun k => (hg k).mul (hw _)).add (Finite.sum fun k => (hs k).mul (hw _))).add (Finite.sum fun k => (hc k).mul (hw _))).add (Finite.sum fun k => (hf k).mul (hw _))

theorem residual_finite {x g1 y g b : Fin 1024 → EReal} (hx : ∀ k, Finite (x k)) (h1 : ∀ k, Finite (g1 k)) (hy : ∀ k, Finite (y k)) (hg : ∀ k, Finite (g k)) (hb : ∀ k, Finite (b k))
    (k : Fin 1024) : Finite (residual x g1 y g b k) :=
  ((normed_finite (fun e => (alpha_finite.mul (hx e)).add ((h1 e).mul (hy e))) k).mul (hg k)).add (hb k)

/-- The second result's row is finite when every argument is. -/
theorem hrow_finite {YG YS YC YF : FVec Ideal Cert.Kernel4Ideal.S20480x256 .f32} {X : FVec Ideal Cert.Kernel4Ideal.S20480x1024 .f32} {M : FVec Ideal Cert.Kernel4Ideal.S8x6x1024 .f32}
    {W : FVec Ideal Cert.Kernel4Ideal.S1024x1024 .f32} {G B : FVec Ideal Cert.Kernel4Ideal.S1024 .f32}
    (hg : ∀ i, Finite (YG i)) (hs : ∀ i, Finite (YS i)) (hc : ∀ i, Finite (YC i)) (hf : ∀ i, Finite (YF i)) (hx : ∀ i, Finite (X i)) (hm : ∀ i, Finite (M i))
    (hw : ∀ i, Finite (W i)) (hG : ∀ i, Finite (G i)) (hB : ∀ i, Finite (B i)) (r : Fin 20480) (k : Fin 1024) :
    Finite (Cert.Kernel4Ideal.Outproj.hrow YG YS YC YF X M W G B r k) :=
  modulated_finite (residual_finite (fun _ => hx _) (fun _ => hm _) (fun _ => mixed_finite (fun _ => hg _) (fun _ => hs _) (fun _ => hc _) (fun _ => hf _) fun _ => hw _) (fun _ => hG _) fun _ => hB _)
    (fun _ => hm _) (fun _ => hm _) k

end Cert.Router

end
-- ==== Proof.RouterPre.lean ====
/- The precondition of the router's logits, read back: every element of every argument is a real number. -/
module

public import proofs.«01_k».proof.Proof.Gen.Pre_finite
public import proofs.«01_k».proof.Proof.RouterFinite
public import Idealize.ShloMosaic.Lib.ReduceAll

@[expose] public section

noncomputable section

namespace Cert.Router

open Idealize.ShloMosaic
open Cert.Pre_finite Cert.Pre_finite.Gen

instance : Subsingleton S_.Idx := ⟨fun a b => funext fun i => i.elim0⟩

/-- A magnitude below infinity is a real number's. -/
theorem finite_of_lt {x : Ideal .f32} (h : FloatOps.cmpf .olt (FloatOps.hostAbsf x) (FloatOps.ofBits (F := Ideal) .f32 0x7F800000#32) = 1#1) : Finite x := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  by_cases hx : max (x : EReal) (-(x : EReal)) < ⊤
  · obtain ⟨h1, h2⟩ := max_lt_iff.1 hx
    refine ⟨EReal.toReal x, (EReal.coe_toReal h1.ne fun e => ?_).symm⟩
    rw [e] at h2
    simp at h2
  · simp [hx] at h'

/-- One argument's part of the precondition. -/
theorem all_finite {s : Shape} {axes : List (Fin s.rank)} {x : FVec Ideal s .f32} {hb : S_.BroadcastsInDim s (![] : Fin 0 → Fin s.rank)} {init : IVec S_ 1} {hr : s.ReducesTo axes S_} {hu : 0 < S_.numel}
    (h : Host.reduce IntOp.andi (cmpf .olt (Host.absf x) (broadcastInDim s ![] hb (constant S_ .f32 0x7F800000#32))) init hr hu (fun i => i.elim0) = 1#1) (i : s.Idx) : Finite (x i) :=
  finite_of_lt (Host.reduce_andi_all _ _ _ _ _ h i)

theorem args_finite {x0 x1 x2 x3 : FVec Ideal S20480x256 .f32} {x4 : FVec Ideal S20480x1024 .f32} {x5 : FVec Ideal S8x6x1024 .f32} {x6 : FVec Ideal S1024x1024 .f32} {x7 x8 : FVec Ideal S1024 .f32} {x9 : FVec Ideal S1024x64 .f32}
    (h : Cert.Pre_finite.fn (F := Ideal) x0 x1 x2 x3 x4 x5 x6 x7 x8 x9 = fun _ => 1#1) :
    (∀ i, Finite (x0 i)) ∧ (∀ i, Finite (x1 i)) ∧ (∀ i, Finite (x2 i)) ∧ (∀ i, Finite (x3 i)) ∧ (∀ i, Finite (x4 i)) ∧ (∀ i, Finite (x5 i)) ∧ (∀ i, Finite (x6 i))
      ∧ (∀ i, Finite (x7 i)) ∧ (∀ i, Finite (x8 i)) ∧ ∀ i, Finite (x9 i) := by
  have e := congrFun h fun i => i.elim0
  obtain ⟨e, h9⟩ := IntOp.andi_eq_one.1 e
  obtain ⟨e, h8⟩ := IntOp.andi_eq_one.1 e
  obtain ⟨e, h7⟩ := IntOp.andi_eq_one.1 e
  obtain ⟨e, f⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  obtain ⟨f, h6⟩ := IntOp.andi_eq_one.1 f
  obtain ⟨h4, h5⟩ := IntOp.andi_eq_one.1 f
  exact ⟨all_finite h0, all_finite h1, all_finite h2, all_finite h3, all_finite h4, all_finite h5, all_finite h6, all_finite h7, all_finite h8, all_finite h9⟩

end Cert.Router

end
-- ==== Proof.RouterValue.lean ====
/- The router's logits over the reals: the array that the output projection leaves of them, its arguments finite. -/
module

public import proofs.«01_k».proof.Proof.Gen.Kernel5Ideal.Frame
public import proofs.«01_k».proof.Proof.RouterFinite

@[expose] public section

set_option maxRecDepth 16384

noncomputable section

namespace Cert.Kernel5Ideal.Router

open Cert.Kernel5Ideal Cert.Kernel5Ideal.Gen
open Idealize.ShloMosaic Idealize.ShloMosaic.TcCoe Idealize.SL.Sem
open Cert.Router
open Cert.Kernel4Ideal.Outproj (hrow hrow_at tok)

/-- A weight's rounding and its error, each times the row, and the weight times the row's error. -/
theorem pay2_apply (sh sc : FVec Ideal S1x1024 .f32) (v : FVec Ideal S256x1024 .f32) (s : FVec Ideal S256x1 .f32) (w : FVec Ideal S64x1024 .f32) (e : Fin 64) (a : Fin 256) :
    (k0_pay2 (F := Ideal) sh sc v s w (ix2 e a) : EReal)
      = (∑ k, w (ix2 e k) * k0_pay1 (F := Ideal) sh sc v s (ix2 a k))
        + ((∑ k, (w (ix2 e k) - w (ix2 e k)) * k0_pay1 (F := Ideal) sh sc v s (ix2 a k))
          + ∑ k, w (ix2 e k) * (k0_pay1 (F := Ideal) sh sc v s (ix2 a k) - k0_pay1 (F := Ideal) sh sc v s (ix2 a k))) := by
  pointwise [k0_pay2]

variable (m : (ℓ : Loc nD τ sig) → Buf (Elt Ideal) ℓ)

theorem V_router (c : Dev nD) : V m c main_v3 = transpose S64x1024 [1, 0] (m ((c : Thread nD τ).loc main_arg9) : FVec Ideal S1024x64 .f32) transposes_S1024x64_S64x1024_1_0 := by
  show StableHlo.after hostOps0 _ _ = _
  after_results_simp <;> rfl

theorem idx_val : ∀ t : Fin cfg0.N, win0_9.index t = ![0, 0] ∧ win0_12.index t = ![0, t.val] :=
  (by decide +kernel : ∀ t : Fin grid0.N, _)

theorem router_at (c : Dev nD) (t : Fin cfg0.N) (e : Fin 64) (k : Fin 1024) : (iblk m c 9 t (ix2 e k) : EReal) = m ((c : Thread nD τ).loc main_arg9) (ix2 k e) := by
  have h : (V m c main_v3 (ix2 e k) : EReal) = m ((c : Thread nD τ).loc main_arg9) (ix2 k e) := by rw [V_router m c]; pointwise []
  rw [← h]
  blk_ext [iblk, idx_val t]

variable (YG YS YC YF : FVec Ideal S20480x256 .f32) (X : FVec Ideal S20480x1024 .f32) (M : FVec Ideal S8x6x1024 .f32) (W : FVec Ideal S1024x1024 .f32) (G B : FVec Ideal S1024 .f32) (R : FVec Ideal S1024x64 .f32)

/-- The logits: for each expert, the row of each token times the expert's column. -/
def logit (e : Fin 64) (r : Fin 20480) : EReal := ∑ k, hrow YG YS YC YF X M W G B r k * R (ix2 k e)
def logits : FVec Ideal S64x20480 .f32 := fun i => logit YG YS YC YF X M W G B R (i 0) (i 1)

theorem logits_at (i : S64x20480.Idx) (e : Fin 64) (r : Fin 20480) (he : e.val = (i 0).val) (hr : r.val = (i 1).val) :
    logit YG YS YC YF X M W G B R e r = logits YG YS YC YF X M W G B R i := by
  unfold logits
  rw [show e = i 0 from Fin.ext he, show r = i 1 from Fin.ext hr]

/-- The row that a point multiplies is the second result's: the two calls' bodies are one text. -/
theorem row_at (c : Dev nD) (t : Fin cfg0.N) (a : Fin 256) (d : Fin 1024) :
    (k0_pay1 (F := Ideal) (k0_pay5 (F := Ideal) (View.ld (iblk m c 5 t) r0_6)) (k0_pay6 (F := Ideal) (View.ld (iblk m c 5 t) r0_7))
        (k0_pay8 (F := Ideal) (k0_pay3 (F := Ideal) (iblk m c 0 t) (View.ld (iblk m c 6 t) r0_1) (iblk m c 1 t) (View.ld (iblk m c 6 t) r0_2) (iblk m c 2 t) (View.ld (iblk m c 6 t) r0_3) (iblk m c 3 t) (View.ld (iblk m c 6 t) r0_4)) (k0_pay4 (F := Ideal) (View.ld (iblk m c 5 t) r0_5)) (iblk m c 4 t) (iblk m c 7 t) (iblk m c 8 t))
        (k0_pay9 (F := Ideal) (k0_pay3 (F := Ideal) (iblk m c 0 t) (View.ld (iblk m c 6 t) r0_1) (iblk m c 1 t) (View.ld (iblk m c 6 t) r0_2) (iblk m c 2 t) (View.ld (iblk m c 6 t) r0_3) (iblk m c 3 t) (View.ld (iblk m c 6 t) r0_4)) (k0_pay4 (F := Ideal) (View.ld (iblk m c 5 t) r0_5)) (iblk m c 4 t) (iblk m c 7 t) (iblk m c 8 t)) (ix2 a d) : EReal)
      = hrow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (tok t a) d :=
  hrow_at m c t a d

/-- Every element of every argument is a real number. -/
def ArgsFinite (c : Dev nD) : Prop :=
  (∀ i, Finite (m ((c : Thread nD τ).loc main_arg0) i)) ∧ (∀ i, Finite (m ((c : Thread nD τ).loc main_arg1) i)) ∧ (∀ i, Finite (m ((c : Thread nD τ).loc main_arg2) i)) ∧ (∀ i, Finite (m ((c : Thread nD τ).loc main_arg3) i)) ∧ (∀ i, Finite (m ((c : Thread nD τ).loc main_arg4) i)) ∧ (∀ i, Finite (m ((c : Thread nD τ).loc main_arg5) i)) ∧ (∀ i, Finite (m ((c : Thread nD τ).loc main_arg6) i)) ∧ (∀ i, Finite (m ((c : Thread nD τ).loc main_arg7) i)) ∧ (∀ i, Finite (m ((c : Thread nD τ).loc main_arg8) i)) ∧ (∀ i, Finite (m ((c : Thread nD τ).loc main_arg9) i))

theorem logit_at (c : Dev nD) (h : ArgsFinite m c) (t : Fin cfg0.N) (e : Fin 64) (a : Fin 256) :
    (k0_pay2 (F := Ideal) (k0_pay5 (F := Ideal) (View.ld (iblk m c 5 t) r0_6)) (k0_pay6 (F := Ideal) (View.ld (iblk m c 5 t) r0_7))
        (k0_pay8 (F := Ideal) (k0_pay3 (F := Ideal) (iblk m c 0 t) (View.ld (iblk m c 6 t) r0_1) (iblk m c 1 t) (View.ld (iblk m c 6 t) r0_2) (iblk m c 2 t) (View.ld (iblk m c 6 t) r0_3) (iblk m c 3 t) (View.ld (iblk m c 6 t) r0_4)) (k0_pay4 (F := Ideal) (View.ld (iblk m c 5 t) r0_5)) (iblk m c 4 t) (iblk m c 7 t) (iblk m c 8 t))
        (k0_pay9 (F := Ideal) (k0_pay3 (F := Ideal) (iblk m c 0 t) (View.ld (iblk m c 6 t) r0_1) (iblk m c 1 t) (View.ld (iblk m c 6 t) r0_2) (iblk m c 2 t) (View.ld (iblk m c 6 t) r0_3) (iblk m c 3 t) (View.ld (iblk m c 6 t) r0_4)) (k0_pay4 (F := Ideal) (View.ld (iblk m c 5 t) r0_5)) (iblk m c 4 t) (iblk m c 7 t) (iblk m c 8 t))
        (iblk m c 9 t) (ix2 e a) : EReal)
      = logit (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) e (tok t a) := by
  obtain ⟨h0, h1, h2, h3, h4, h5, h6, h7, h8, h9⟩ := h
  refine (pay2_apply _ _ _ _ _ e a).trans ?_
  simp only [row_at, router_at]
  exact (dot_finite (fun k => h9 _) fun k => hrow_finite h0 h1 h2 h3 h4 h5 h6 h7 h8 _ k).trans (Finset.sum_congr rfl fun k _ => mul_comm _ _)

/-- The logits' array. -/
theorem final12 (c : Dev nD) (h : ArgsFinite m c) : (dats m 0 c).arrAt 12 (cfgs 0).N = logits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 12 _ (by decide +kernel) fun t _ y => ?_
  blk_simp
  rw [after0_12]
  frame_out
  unfold k0_pay15 k0_pay14 k0_pay13 k0_pay12 k0_pay11 k0_pay10
  frame_out
  refine (congrArg _ (eq_ix2 y)).trans ((logit_at m c h t (y 0) (y 1)).trans (logits_at _ _ _ _ _ _ _ _ _ _ _ _ _ ?_ ?_))
  · show (y 0).val = _
    blk_simp [idx_val t]
  · show t.val * 256 + (y 1).val = _
    blk_simp [idx_val t]

/-- The kernel's run: the logits, and its arguments unchanged. -/
theorem run (h : ∀ c : Dev nD, ArgsFinite m c) (ρ : Dev nD → PrngReg) : θ_run (defs (F := Ideal)) (onTc (τ := τ) (main (F := Ideal))) ⟨m, fun _ => 0, ρ⟩ (fun r => ∀ c : Dev nD,
      r.2.mem ((c.tc : Thread nD τ).loc main_v4_2) = logits (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r hr c => ⟨((hr.1 c).1 12).trans (final12 m c (h c)), hr.2 c⟩) (θ_run_and (run_main m ρ) (unchanged m ρ))

end Cert.Kernel5Ideal.Router

end
-- ==== Proof.RouterRef.lean ====
/- The router's logits' reference: its term element by element. -/
module

public import proofs.«01_k».proof.Proof.Gen.Reference5Ideal.Run
public import proofs.«01_k».proof.Proof.OutprojRef
public import proofs.«01_k».proof.Proof.RouterValue

@[expose] public section

set_option maxRecDepth 16384

noncomputable section

namespace Cert.Reference5Ideal.Router

open Cert.Reference5Ideal Cert.Reference5Ideal.Gen
open Idealize.ShloMosaic Idealize.ShloMosaic.TcCoe Idealize.SL.Sem
open Cert.Kernel5Ideal.Router (logits logit)
open Cert.Reference4Ideal.Outproj (hsRef hsRef_apply)

variable (YG YS YC YF : FVec Ideal S20480x256 .f32) (X : FVec Ideal S20480x1024 .f32) (M : FVec Ideal S8x6x1024 .f32) (W : FVec Ideal S1024x1024 .f32) (G B : FVec Ideal S1024 .f32) (R : FVec Ideal S1024x64 .f32)

/-- The second result's rows times the router's weights, one row for each expert. -/
def logitsRef : FVec Ideal S64x20480 .f32 :=
  transpose S64x20480 [1, 0] (Host.dotGeneral dot_S20480x1024_S1024x64_S20480x64_1_0_0_1_n_n none (hsRef YG YS YC YF X M W G B) R : FVec Ideal S20480x64 .f32) transposes_S20480x64_S64x20480_1_0

theorem product_apply (H : FVec Ideal S20480x1024 .f32) (e : Fin 64) (r : Fin 20480) :
    (transpose S64x20480 [1, 0] (Host.dotGeneral dot_S20480x1024_S1024x64_S20480x64_1_0_0_1_n_n none H R : FVec Ideal S20480x64 .f32) transposes_S20480x64_S64x20480_1_0 (ix2 e r) : EReal)
      = ∑ k : Fin 1024, H (ix2 r k) * R (ix2 k e) := by
  pointwise []

theorem logitsRef_apply (e : Fin 64) (r : Fin 20480) : (logitsRef YG YS YC YF X M W G B R (ix2 e r) : EReal) = logit YG YS YC YF X M W G B R e r :=
  (product_apply R _ e r).trans (Finset.sum_congr rfl fun k _ => congrArg (fun x : EReal => x * R (ix2 k e)) (hsRef_apply YG YS YC YF X M W G B r k))

theorem logits_eq : logitsRef YG YS YC YF X M W G B R = logits YG YS YC YF X M W G B R :=
  funext fun y => (congrArg _ (eq_ix2 y)).trans (logitsRef_apply YG YS YC YF X M W G B R (y 0) (y 1))

/-- The reference's run: the logits, and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v80) = logits (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (logits_eq _ _ _ _ _ _ _ _ _ _), (h c).2⟩) (Cert.Reference5Ideal.Value.run (F := Ideal) m ρ)

end Cert.Reference5Ideal.Router

end
-- ==== Proof.AdaValue.lean ====
/- The modulation vectors over the reals: the array that the kernel leaves, its conditions and weights finite. -/
module

public import proofs.«01_k».proof.Proof.Gen.Kernel6Ideal.Frame
public import proofs.«01_k».proof.Proof.Gen.Pre_finite_cond
public import proofs.«01_k».proof.Proof.RouterPre

@[expose] public section

set_option maxRecDepth 16384

noncomputable section

namespace Cert.Kernel6Ideal.Ada

open Cert.Kernel6Ideal Cert.Kernel6Ideal.Gen
open Idealize.ShloMosaic Idealize.ShloMosaic.TcCoe Idealize.SL.Sem
open Cert.Router

/-- A condition's activation. -/
def act (x : EReal) : EReal := x * Ideal.logistic x

theorem act_finite {x : EReal} : Finite x → Finite (act x) := by
  rintro ⟨a, rfl⟩
  refine Finite.mul ⟨a, rfl⟩ ⟨(1 + Real.exp (-a))⁻¹, ?_⟩
  have hp : (0 : ℝ) < 1 + Real.exp (-a) := by positivity
  have he : (1 : EReal) + Ideal.exp (-(a : EReal)) = ((1 + Real.exp (-a) : ℝ) : EReal) := by
    rw [EReal.coe_add, EReal.coe_one, ← EReal.coe_neg]
    rfl
  unfold Ideal.logistic
  rw [he]
  unfold Ideal.div
  rw [if_neg (fun e => hp.ne' (by exact_mod_cast e)), one_mul, ← EReal.coe_inv]

/-- The product's rounded parts, the errors' products and the bias. -/
theorem pay1_apply (x : FVec Ideal S8x1024 .f32) (w : FVec Ideal S1x1024x1536 .f32) (b : FVec Ideal S1x1x1536 .f32) (r : Fin 8) (d : Fin 1536) :
    (k0_pay1 (F := Ideal) x w b (ix3 0 r d) : EReal)
      = (∑ k, act (x (ix2 r k)) * w (ix3 0 k d))
        + ((∑ k, (act (x (ix2 r k)) - act (x (ix2 r k))) * w (ix3 0 k d)) + ∑ k, act (x (ix2 r k)) * (w (ix3 0 k d) - w (ix3 0 k d)))
        + b (ix3 0 0 d) := by
  unfold act
  pointwise [k0_pay1]

variable (m : (ℓ : Loc nD τ sig) → Buf (Elt Ideal) ℓ)

variable (X : FVec Ideal S1024 .f32) (C : FVec Ideal S4x1024 .f32) (W : FVec Ideal S2x1024x6144 .f32) (B : FVec Ideal S2x6144 .f32)

/-- The eight rows of conditions: the context's, the requests', and three zero rows. -/
def conds : FVec Ideal S8x1024 .f32 :=
  concatenate S8x1024 0 [⟨S1x1024, broadcastInDim S1x1024 ![1] bcast_S1024_S1x1024_1 X⟩, ⟨S4x1024, C⟩, ⟨S3x1024, broadcastInDim S3x1024 ![] bcast_S_S3x1024 (constant (F := Ideal) S_ .f32 0x00000000#32)⟩]
    concatenates_S1x1024_S4x1024_S3x1024_S8x1024_d0

theorem conds_finite (hX : ∀ i, Finite (X i)) (hC : ∀ i, Finite (C i)) (r : Fin 8) (k : Fin 1024) : Finite (conds X C (ix2 r k)) := by
  have e : (conds X C (ix2 r k) : EReal) = if h : r.val < 1 then X (ix1 k) else if h1 : r.val - 1 < 4 then C (ix2 ⟨r.val - 1, h1⟩ k) else 0 := by
    pointwise [conds]
  rw [e]
  split_ifs
  exacts [hX _, hC _, Finite.zero]

theorem V_conds (c : Dev nD) : V m c main_v2 = conds (m ((c : Thread nD τ).loc main_arg0)) (m ((c : Thread nD τ).loc main_arg1)) := by
  show StableHlo.after hostOps0 _ _ = _
  after_results_simp <;> rfl
theorem V_bias (c : Dev nD) : V m c main_v3 = shapeCast S2x1x6144 ((m ((c : Thread nD τ).loc main_arg3)) : FVec Ideal S2x6144 .f32) shapeCasts_S2x6144_S2x1x6144 := by
  show StableHlo.after hostOps0 _ _ = _
  after_results_simp <;> rfl

theorem bias_row (l : Fin 2) (n : Fin 6144) : (shapeCast S2x1x6144 B shapeCasts_S2x6144_S2x1x6144 (ix3 l 0 n) : EReal) = B (ix2 l n) := by pointwise []

/-- Every window's block at every point. -/
theorem idx_val : ∀ t : Fin cfg0.N, win0_0.index t = ![0, 0] ∧ win0_1.index t = ![t.val / 4, 0, t.val % 4] ∧ win0_2.index t = ![t.val / 4, 0, t.val % 4]
    ∧ win0_3.index t = ![t.val / 4, 0, t.val % 4] :=
  (by decide +kernel : ∀ t : Fin grid0.N, _)

/-- The layer of a point, and the column of a column of its block. -/
def lay (t : Fin cfg0.N) : Fin 2 := ⟨t.val / 4, by have ht : t.val < 8 := t.isLt; omega⟩
def col (t : Fin cfg0.N) (d : Fin 1536) : Fin 6144 := ⟨t.val % 4 * 1536 + d.val, by omega⟩

theorem cond_at (c : Dev nD) (t : Fin cfg0.N) (r : Fin 8) (k : Fin 1024) : (iblk m c 0 t (ix2 r k) : EReal) = conds (m ((c : Thread nD τ).loc main_arg0)) (m ((c : Thread nD τ).loc main_arg1)) (ix2 r k) := by
  rw [← V_conds m c]
  blk_ext [iblk, idx_val t]
theorem w_at (c : Dev nD) (t : Fin cfg0.N) (k : Fin 1024) (d : Fin 1536) : (iblk m c 1 t (ix3 0 k d) : EReal) = m ((c : Thread nD τ).loc main_arg2) (ix3 (lay t) k (col t d)) := by
  unfold lay col
  blk_ext [iblk, V, idx_val t]
theorem b_at (c : Dev nD) (t : Fin cfg0.N) (d : Fin 1536) : (iblk m c 2 t (ix3 0 0 d) : EReal) = m ((c : Thread nD τ).loc main_arg3) (ix2 (lay t) (col t d)) := by
  have e : (V m c main_v3 (ix3 (lay t) 0 (col t d)) : EReal) = m ((c : Thread nD τ).loc main_arg3) (ix2 (lay t) (col t d)) := by rw [V_bias m c]; exact bias_row _ _ _
  rw [← e]
  unfold lay col
  blk_ext [iblk, idx_val t]

/-- The modulation vectors. -/
def vector (l : Fin 2) (r : Fin 8) (n : Fin 6144) : EReal := (∑ k, act (conds X C (ix2 r k)) * W (ix3 l k n)) + B (ix2 l n)
def vectors : FVec Ideal S2x8x6144 .f32 := fun i => vector X C W B (i 0) (i 1) (i 2)

theorem vectors_at (i : S2x8x6144.Idx) (l : Fin 2) (r : Fin 8) (n : Fin 6144) (hl : l.val = (i 0).val) (hr : r.val = (i 1).val) (hn : n.val = (i 2).val) :
    vector X C W B l r n = vectors X C W B i := by
  unfold vectors
  rw [show l = i 0 from Fin.ext hl, show r = i 1 from Fin.ext hr, show n = i 2 from Fin.ext hn]

/-- Every condition and every weight is a real number. -/
def ArgsFinite (c : Dev nD) : Prop :=
  (∀ i, Finite ((m ((c : Thread nD τ).loc main_arg0)) i)) ∧ (∀ i, Finite ((m ((c : Thread nD τ).loc main_arg1)) i)) ∧ ∀ i, Finite ((m ((c : Thread nD τ).loc main_arg2)) i)

theorem vector_at (c : Dev nD) (h : ArgsFinite m c) (t : Fin cfg0.N) (r : Fin 8) (d : Fin 1536) :
    (k0_pay1 (F := Ideal) (iblk m c 0 t) (iblk m c 1 t) (iblk m c 2 t) (ix3 0 r d) : EReal) = vector (m ((c : Thread nD τ).loc main_arg0)) (m ((c : Thread nD τ).loc main_arg1)) (m ((c : Thread nD τ).loc main_arg2)) (m ((c : Thread nD τ).loc main_arg3)) (lay t) r (col t d) := by
  obtain ⟨h0, h1, h2⟩ := h
  refine (pay1_apply _ _ _ r d).trans ?_
  simp only [cond_at, w_at, b_at]
  rw [dot_finite (fun k => act_finite (conds_finite _ _ h0 h1 r k)) fun k => h2 _]
  rfl

/-- The modulation vectors' array. -/
theorem final3 (c : Dev nD) (h : ArgsFinite m c) : (dats m 0 c).arrAt 3 (cfgs 0).N = vectors (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t _ y => ?_
  blk_simp
  rw [after0_3]
  frame_out
  have hy : y = ix3 0 (y 1) (y 2) := by
    refine (eq_ix3 y).trans (congrArg (fun e => ix3 e (y 1) (y 2)) (Fin.ext ?_))
    show (y 0).val = 0
    have h0 : (y 0).val < 1 := (y 0).isLt
    omega
  refine (congrArg _ hy).trans ((vector_at m c h t (y 1) (y 2)).trans (vectors_at _ _ _ _ _ _ _ _ ?_ ?_ ?_))
  · show t.val / 4 = _
    have h0 : (y 0).val < 1 := (y 0).isLt
    blk_simp [idx_val t]
  · show (y 1).val = _
    blk_simp [idx_val t]
  · show t.val % 4 * 1536 + (y 2).val = _
    blk_simp [idx_val t]

/-- The kernel's run: the modulation vectors, and its arguments unchanged. -/
theorem run (h : ∀ c : Dev nD, ArgsFinite m c) (ρ : Dev nD → PrngReg) : θ_run (defs (F := Ideal)) (onTc (τ := τ) (main (F := Ideal))) ⟨m, fun _ => 0, ρ⟩ (fun r => ∀ c : Dev nD,
      r.2.mem ((c.tc : Thread nD τ).loc main_v4) = vectors (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r hr c => ⟨((hr.1 c).1 3).trans (final3 m c (h c)), hr.2 c⟩) (θ_run_and (run_main m ρ) (unchanged m ρ))

/-- The precondition, read back. -/
theorem args_finite {x0 : FVec Ideal S1024 .f32} {x1 : FVec Ideal S4x1024 .f32} {x2 : FVec Ideal S2x1024x6144 .f32} {x3 : FVec Ideal S2x6144 .f32}
    (h : Cert.Pre_finite_cond.fn (F := Ideal) x0 x1 x2 x3 = fun _ => 1#1) : (∀ i, Finite (x0 i)) ∧ (∀ i, Finite (x1 i)) ∧ ∀ i, Finite (x2 i) := by
  have e := congrFun h fun i => i.elim0
  obtain ⟨e, h2⟩ := IntOp.andi_eq_one.1 e
  obtain ⟨h0, h1⟩ := IntOp.andi_eq_one.1 e
  exact ⟨all_finite h0, all_finite h1, all_finite h2⟩

end Cert.Kernel6Ideal.Ada

end
-- ==== Proof.AdaRef.lean ====
/- The modulation vectors' reference: its term element by element. -/
module

public import proofs.«01_k».proof.Proof.Gen.Reference6Ideal.Run
public import proofs.«01_k».proof.Proof.AdaValue

@[expose] public section

set_option maxRecDepth 16384

noncomputable section

namespace Cert.Reference6Ideal.Ada

open Cert.Reference6Ideal Cert.Reference6Ideal.Gen
open Idealize.ShloMosaic Idealize.ShloMosaic.TcCoe Idealize.SL.Sem
open Cert.Kernel6Ideal.Ada (act conds vector vectors)

variable (X : FVec Ideal S1024 .f32) (C : FVec Ideal S4x1024 .f32) (H : FVec Ideal S8x1024 .f32) (W : FVec Ideal S2x1024x6144 .f32) (B : FVec Ideal S2x6144 .f32)

/-- The activations of rows of conditions. -/
def acts : FVec Ideal S8x1024 .f32 :=
  mulf H (Host.divf (broadcastInDim S8x1024 ![] bcast_S_S8x1024 (constant S_ .f32 0x3F800000#32))
    (addf (broadcastInDim S8x1024 ![] bcast_S_S8x1024 (constant S_ .f32 0x3F800000#32)) (Host.exp (Host.negf H))))
theorem acts_apply (r : Fin 8) (k : Fin 1024) : (acts H (ix2 r k) : EReal) = act (H (ix2 r k)) := by
  unfold act Ideal.logistic
  pointwise [acts]

/-- Each layer's vectors. -/
def first : FVec Ideal S8x6144 .f32 :=
  addf (Host.dotGeneral dot_S8x1024_S1024x6144_S8x6144_1_0_0_1_n_n none (acts H) (shapeCast S1024x6144 (extractStridedSlice S1x1024x6144 ![0, 0, 0] W slices_S2x1024x6144_S1x1024x6144_0_0_0) shapeCasts_S1x1024x6144_S1024x6144))
    (broadcastInDim S8x6144 ![0, 1] bcast_S1x6144_S8x6144_0_1 (broadcastInDim S1x6144 ![1] bcast_S6144_S1x6144_1 (shapeCast S6144 (extractStridedSlice S1x6144 ![0, 0] B slices_S2x6144_S1x6144_0_0) shapeCasts_S1x6144_S6144)))
def second : FVec Ideal S8x6144 .f32 :=
  addf (Host.dotGeneral dot_S8x1024_S1024x6144_S8x6144_1_0_0_1_n_n none (acts H) (shapeCast S1024x6144 (extractStridedSlice S1x1024x6144 ![1, 0, 0] W slices_S2x1024x6144_S1x1024x6144_1_0_0) shapeCasts_S1x1024x6144_S1024x6144))
    (broadcastInDim S8x6144 ![0, 1] bcast_S1x6144_S8x6144_0_1 (broadcastInDim S1x6144 ![1] bcast_S6144_S1x6144_1 (shapeCast S6144 (extractStridedSlice S1x6144 ![1, 0] B slices_S2x6144_S1x6144_1_0) shapeCasts_S1x6144_S6144)))

theorem first_apply (r : Fin 8) (n : Fin 6144) : (first H W B (ix2 r n) : EReal) = (∑ k : Fin 1024, acts H (ix2 r k) * W (ix3 0 k n)) + B (ix2 0 n) := by
  pointwise [first]
theorem second_apply (r : Fin 8) (n : Fin 6144) : (second H W B (ix2 r n) : EReal) = (∑ k : Fin 1024, acts H (ix2 r k) * W (ix3 1 k n)) + B (ix2 1 n) := by
  pointwise [second]

/-- One array over the other. -/
def stacked (a b : FVec Ideal S8x6144 .f32) : FVec Ideal S2x8x6144 .f32 :=
  concatenate S2x8x6144 0 [⟨S1x8x6144, broadcastInDim S1x8x6144 ![1, 2] bcast_S8x6144_S1x8x6144_1_2 a⟩, ⟨S1x8x6144, broadcastInDim S1x8x6144 ![1, 2] bcast_S8x6144_S1x8x6144_1_2 b⟩]
    concatenates_S1x8x6144_S1x8x6144_S2x8x6144_d0
theorem stacked_apply (a b : FVec Ideal S8x6144 .f32) (l : Fin 2) (r : Fin 8) (n : Fin 6144) : (stacked a b (ix3 l r n) : EReal) = if l.val < 1 then a (ix2 r n) else b (ix2 r n) := by
  pointwise [stacked]
  split_ifs <;> rfl

def vectorsRef : FVec Ideal S2x8x6144 .f32 := stacked (first (conds X C) W B) (second (conds X C) W B)

theorem vectorsRef_apply (l : Fin 2) (r : Fin 8) (n : Fin 6144) : (vectorsRef X C W B (ix3 l r n) : EReal) = vector X C W B l r n := by
  refine (stacked_apply _ _ l r n).trans ?_
  rw [first_apply, second_apply]
  simp only [acts_apply]
  match l with
  | ⟨0, _⟩ => rfl
  | ⟨1, _⟩ => rfl

theorem vectors_eq : vectorsRef X C W B = vectors X C W B := funext fun y => (congrArg _ (eq_ix3 y)).trans (vectorsRef_apply X C W B (y 0) (y 1) (y 2))

/-- The reference's run: the modulation vectors, and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v23) = vectors (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (vectors_eq _ _ _ _), (h c).2⟩) (Cert.Reference6Ideal.Value.run (F := Ideal) m ρ)

end Cert.Reference6Ideal.Ada

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_experts_in_range
public import proofs.«01_k».proof.Proof.Gen.ReferenceIdeal.Run
public import proofs.«01_k».proof.Proof.Gen.Kernel2Ideal.Frame
public import proofs.«01_k».proof.Proof.Gen.Reference2Ideal.Run
public import proofs.«01_k».proof.Proof.Gen.Kernel2.Frame
public import proofs.«01_k».proof.Proof.Gen.Reference4Ideal.Run
public import proofs.«01_k».proof.Proof.Gen.Kernel4.Frame
public import proofs.«01_k».proof.Proof.Gen.Kernel4Ideal.Frame
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Pre_finite
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Pre_finite_cond
public import proofs.«01_k».proof.Proof.ExpertsBits
public import proofs.«01_k».proof.Proof.ExpertsValue
public import proofs.«01_k».proof.Proof.InprojValue
public import proofs.«01_k».proof.Proof.InprojRef
public import proofs.«01_k».proof.Proof.GatingValue
public import proofs.«01_k».proof.Proof.GatingRef
public import proofs.«01_k».proof.Proof.OutprojValue
public import proofs.«01_k».proof.Proof.OutprojRef
public import proofs.«01_k».proof.Proof.RouterPre
public import proofs.«01_k».proof.Proof.RouterValue
public import proofs.«01_k».proof.Proof.RouterRef
public import proofs.«01_k».proof.Proof.AdaValue
public import proofs.«01_k».proof.Proof.AdaRef
public import Idealize.ShloMosaic.Adequacy
public import Idealize.ShloMosaic.Init

@[expose] public section

set_option maxRecDepth 16384

noncomputable section

namespace Cert.Proof

open Idealize.ShloMosaic Idealize.SL.Sem

/-- The lowered expert kernel's frame. -/
theorem frame_K : Cert.quiescent_Kernel := fun m g h =>
  Cert.KernelIdeal.Experts.run_eq (F := Bits) ⟨m, fun _ => 0, g⟩ _ (Cert.KernelIdeal.Experts.frame_pre (F := Bits) m g h)

/-- The idealised expert kernel's frame. -/
theorem frame_KI : Cert.quiescent_KernelIdeal := fun m g h => Cert.KernelIdeal.Experts.frame_pre (F := Ideal) m g h

/-- The expert reference's frame. -/
theorem frame_RI : Cert.quiescent_ReferenceIdeal := fun m g _ =>
  (θ_run _ _ _).mono (fun r hr => ⟨fun c => (hr c).2, sem_eq_zero_of_no_sems rfl r.2⟩) (Cert.ReferenceIdeal.Value.run (F := Ideal) m g)

/-- The expert kernel computes the reference. -/
theorem value_KI : Cert.algebraic_KernelIdeal_ReferenceIdeal := by
  intro m g m' g' hpre hag
  refine ⟨_, Cert.KernelIdeal.Experts.value_pre m g hpre, ?_⟩
  refine (θ_run _ _ _).mono (fun r hr c => ⟨(hr c).1.trans ?_, (hr c).2⟩) (Cert.ReferenceIdeal.Value.run m' g')
  obtain ⟨h0, h1, h2, h3, h4, h5⟩ := hag c
  rw [h0, h1, h2, h3, h4, h5]
  rfl

/-- The lowered input projection's frame. -/
theorem frame_K2 : Cert.quiescent_Kernel2 := fun m g _ => Cert.Kernel2.Gen.frame m g

/-- The idealised input projection's frame. -/
theorem frame_KI2 : Cert.quiescent_Kernel2Ideal := fun m g _ => Cert.Kernel2Ideal.Gen.frame m g

/-- The input projection's reference's frame. -/
theorem frame_RI2 : Cert.quiescent_Reference2Ideal := fun m g _ =>
  (θ_run _ _ _).mono (fun r hr => ⟨fun c => (hr c).2.2.2.2.2.2, sem_eq_zero_of_no_sems rfl r.2⟩) (Cert.Reference2Ideal.Value.run (F := Ideal) m g)

/-- The input projection computes its reference. -/
theorem value_KI2 : Cert.algebraic_Kernel2Ideal_Reference2Ideal := by
  intro m g m' g' _ hag
  refine ⟨_, _, _, _, _, _, Cert.Kernel2Ideal.Inproj.run m g, ?_⟩
  refine (θ_run _ _ _).mono (fun r hr c => ?_) (Cert.Reference2Ideal.Inproj.run m' g')
  obtain ⟨h0, h1, h2⟩ := hag c
  obtain ⟨e0, e1, e2, e3, e4, e5, k⟩ := hr c
  rw [h0, h1, h2] at e0 e1 e2 e3 e4 e5
  exact ⟨e0, e1, e2, e3, e4, e5, k⟩

/-- The lowered gating's and convolution's frame. -/
theorem frame_K3 : Cert.quiescent_Kernel3 := fun m g _ => Cert.Kernel3.Gen.frame m g

/-- The idealised gating's and convolution's frame. -/
theorem frame_KI3 : Cert.quiescent_Kernel3Ideal := fun m g _ => Cert.Kernel3Ideal.Gen.frame m g

/-- The gating's and convolution's reference's frame. -/
theorem frame_RI3 : Cert.quiescent_Reference3Ideal := fun m g _ =>
  (θ_run _ _ _).mono (fun r hr => ⟨fun c => (hr c).2.2, sem_eq_zero_of_no_sems rfl r.2⟩) (Cert.Reference3Ideal.Value.run (F := Ideal) m g)

/-- The gating and the convolution compute their reference. -/
theorem value_KI3 : Cert.algebraic_Kernel3Ideal_Reference3Ideal := by
  intro m g m' g' _ hag
  refine ⟨_, _, Cert.Kernel3Ideal.Gating.run m g, ?_⟩
  refine (θ_run _ _ _).mono (fun r hr c => ?_) (Cert.Reference3Ideal.Gating.run m' g')
  obtain ⟨h0, h1, h2, h3, h4, h5, h6⟩ := hag c
  obtain ⟨e0, e1, k⟩ := hr c
  rw [h0, h2, h3, h4, h5] at e0
  rw [h1, h6] at e1
  exact ⟨e0, e1, k⟩

/-- The lowered output projection's frame. -/
theorem frame_K4 : Cert.quiescent_Kernel4 := fun m g _ => Cert.Kernel4.Gen.frame m g

/-- The idealised output projection's frame. -/
theorem frame_KI4 : Cert.quiescent_Kernel4Ideal := fun m g _ => Cert.Kernel4Ideal.Gen.frame m g

/-- The output projection's reference's frame. -/
theorem frame_RI4 : Cert.quiescent_Reference4Ideal := fun m g _ =>
  (θ_run _ _ _).mono (fun r hr => ⟨fun c => (hr c).2.2, sem_eq_zero_of_no_sems rfl r.2⟩) (Cert.Reference4Ideal.Value.run (F := Ideal) m g)

/-- The output projection computes its reference. -/
theorem value_KI4 : Cert.algebraic_Kernel4Ideal_Reference4Ideal := by
  intro m g m' g' _ hag
  refine ⟨_, _, Cert.Kernel4Ideal.Outproj.run m g, ?_⟩
  refine (θ_run _ _ _).mono (fun r hr c => ?_) (Cert.Reference4Ideal.Outproj.run m' g')
  obtain ⟨h0, h1, h2, h3, h4, h5, h6, h7, h8, h9⟩ := hag c
  obtain ⟨e0, e1, k⟩ := hr c
  rw [h0, h1, h2, h3, h4, h5, h6, h7, h8] at e0 e1
  exact ⟨e0, e1, k⟩

/-- The lowered router's logits' frame. -/
theorem frame_K5 : Cert.quiescent_Kernel5 := fun m g _ => Cert.Kernel5.Gen.frame m g

/-- The idealised router's logits' frame. -/
theorem frame_KI5 : Cert.quiescent_Kernel5Ideal := fun m g _ => Cert.Kernel5Ideal.Gen.frame m g

/-- The router's logits' reference's frame. -/
theorem frame_RI5 : Cert.quiescent_Reference5Ideal := fun m g _ =>
  (θ_run _ _ _).mono (fun r hr => ⟨fun c => (hr c).2, sem_eq_zero_of_no_sems rfl r.2⟩) (Cert.Reference5Ideal.Value.run (F := Ideal) m g)

/-- The output projection's router's logits are their reference's, its arguments finite. -/
theorem value_KI5 : Cert.algebraic_Kernel5Ideal_Reference5Ideal_pre_finite := by
  intro m g m' g' hpre hag
  refine ⟨_, Cert.Kernel5Ideal.Router.run m (fun c => Cert.Router.args_finite (hpre c)) g, ?_⟩
  refine (θ_run _ _ _).mono (fun r hr c => ?_) (Cert.Reference5Ideal.Router.run m' g')
  obtain ⟨h0, h1, h2, h3, h4, h5, h6, h7, h8, h9⟩ := hag c
  obtain ⟨e0, k⟩ := hr c
  rw [h0, h1, h2, h3, h4, h5, h6, h7, h8, h9] at e0
  exact ⟨e0, k⟩

/-- The lowered modulation vectors' frame. -/
theorem frame_K6 : Cert.quiescent_Kernel6 := fun m g _ => Cert.Kernel6.Gen.frame m g

/-- The idealised modulation vectors' frame. -/
theorem frame_KI6 : Cert.quiescent_Kernel6Ideal := fun m g _ => Cert.Kernel6Ideal.Gen.frame m g

/-- The modulation vectors' reference's frame. -/
theorem frame_RI6 : Cert.quiescent_Reference6Ideal := fun m g _ =>
  (θ_run _ _ _).mono (fun r hr => ⟨fun c => (hr c).2, sem_eq_zero_of_no_sems rfl r.2⟩) (Cert.Reference6Ideal.Value.run (F := Ideal) m g)

/-- The modulation vectors are their reference's, the conditions and the weights finite. -/
theorem value_KI6 : Cert.algebraic_Kernel6Ideal_Reference6Ideal_pre_finite_cond := by
  intro m g m' g' hpre hag
  refine ⟨_, Cert.Kernel6Ideal.Ada.run m (fun c => Cert.Kernel6Ideal.Ada.args_finite (hpre c)) g, ?_⟩
  refine (θ_run _ _ _).mono (fun r hr c => ?_) (Cert.Reference6Ideal.Ada.run m' g')
  obtain ⟨h0, h1, h2, h3⟩ := hag c
  obtain ⟨e0, k⟩ := hr c
  rw [h0, h1, h2, h3] at e0
  exact ⟨e0, k⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_experts_in_range.Gen.facts, Cert.Pre_finite.Gen.facts, Cert.Pre_finite_cond.Gen.facts,
  frame_K, frame_KI, frame_RI, fun m g _ => frame_RI m g trivial, frame_K2, frame_KI2, frame_RI2, frame_K3, frame_KI3, frame_RI3, frame_K4, frame_KI4, frame_RI4,
  frame_K5, frame_KI5, fun m g _ => frame_KI5 m g trivial, frame_RI5, fun m g _ => frame_RI5 m g trivial,
  frame_K6, frame_KI6, fun m g _ => frame_KI6 m g trivial, frame_RI6, fun m g _ => frame_RI6 m g trivial,
  trivial, value_KI, trivial, value_KI2, trivial, value_KI3, trivial, value_KI4, trivial, value_KI5,
  trivial, value_KI6⟩

end Cert.Proof

end
